-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ctx [hPre_finite_ctx : Cert.Pre_finite_ctx.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ctx.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ctx [hPre_finite_ctx : Cert.Pre_finite_ctx.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ctx.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_ctx [hKernel4Ideal : Cert.Kernel4Ideal.Facts] [hPre_finite_ctx : Cert.Pre_finite_ctx.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ctx m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_ctx [hReference4Ideal : Cert.Reference4Ideal.Facts] [hPre_finite_ctx : Cert.Pre_finite_ctx.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ctx m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v179) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal_pre_finite_ctx [hKernel4Ideal : Cert.Kernel4Ideal.Facts] [hReference4Ideal : Cert.Reference4Ideal.Facts] [hPre_finite_ctx : Cert.Pre_finite_ctx.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ctx m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_ctx (hKernel4Ideal := hKernel4Ideal) (hPre_finite_ctx := hPre_finite_ctx)
    ∧ quiescent_Reference4Ideal (hReference4Ideal := hReference4Ideal)
    ∧ quiescent_Reference4Ideal_pre_finite_ctx (hReference4Ideal := hReference4Ideal) (hPre_finite_ctx := hPre_finite_ctx)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_ctx (hKernel4Ideal := hKernel4Ideal) (hReference4Ideal := hReference4Ideal) (hPre_finite_ctx := hPre_finite_ctx)
    ∧ preserves_Kernel5_Kernel5Ideal
    ∧ algebraic_Kernel5Ideal_Reference5Ideal (hKernel5Ideal := hKernel5Ideal) (hReference5Ideal := hReference5Ideal)
-- ==== Pre_finite.lean ====
abbrev S16x2304x512 : Shape := ⟨3, ![16, 2304, 512]⟩
abbrev S16x2304x128 : Shape := ⟨3, ![16, 2304, 128]⟩
abbrev S16x2304x768 : Shape := ⟨3, ![16, 2304, 768]⟩
abbrev S_ : Shape := ⟨0, ![]⟩

class Facts : Prop where
  bcast_S_S16x2304x512 : S_.BroadcastsInDim S16x2304x512 (![] : Fin 0 → Fin S16x2304x512.rank)
  reducesTo_S16x2304x512_S_d0_1_2 : S16x2304x512.ReducesTo [0, 1, 2] S_
  h_S_ : 0 < S_.numel
  bcast_S_S16x2304x128 : S_.BroadcastsInDim S16x2304x128 (![] : Fin 0 → Fin S16x2304x128.rank)
  reducesTo_S16x2304x128_S_d0_1_2 : S16x2304x128.ReducesTo [0, 1, 2] S_
  bcast_S_S16x2304x768 : S_.BroadcastsInDim S16x2304x768 (![] : Fin 0 → Fin S16x2304x768.rank)
  reducesTo_S16x2304x768_S_d0_1_2 : S16x2304x768.ReducesTo [0, 1, 2] S_

variable [Facts]

def fn_part1 {F : FTy → Type} [FloatOps F] (main_v13 : IVec S_ 1) (main_v16 : IVec S16x2304x768 1) : IVec S_ 1 :=
  let main_c_5 : IVec S_ 1 := constantI S_ 1 1#1
  let main_v17 : IVec S_ 1 := (fun x v => Host.reduce IntOp.andi x v reducesTo_S16x2304x768_S_d0_1_2 h_S_) main_v16 main_c_5
  let main_v18 : IVec S_ 1 := andi main_v13 main_v17
  main_v18

def fn {F : FTy → Type} [FloatOps F] (main_arg0 : FVec F S16x2304x512 .f32) (main_arg1 : FVec F S16x2304x128 .f32) (main_arg2 : FVec F S16x2304x128 .f32) (main_arg3 : FVec F S16x2304x768 .f32) (main_arg4 : FVec F S16x2304x768 .f32) (main_arg5 : FVec F S16x2304x512 .f32) : IVec S_ 1 :=
  let main_v0 : FVec F S16x2304x512 .f32 := Host.absf main_arg0
  let main_cst : FVec F S_ .f32 := constant S_ .f32 0x7F800000#32
  let main_v1 : FVec F S16x2304x512 .f32 := broadcastInDim S16x2304x512 ![] bcast_S_S16x2304x512 main_cst
  let main_v2 : IVec S16x2304x512 1 := cmpf .olt main_v0 main_v1
  let main_c : IVec S_ 1 := constantI S_ 1 1#1
  let main_v3 : IVec S_ 1 := (fun x v => Host.reduce IntOp.andi x v reducesTo_S16x2304x512_S_d0_1_2 h_S_) main_v2 main_c
  let main_v4 : FVec F S16x2304x128 .f32 := Host.absf main_arg1
  let main_cst_0 : FVec F S_ .f32 := constant S_ .f32 0x7F800000#32
  let main_v5 : FVec F S16x2304x128 .f32 := broadcastInDim S16x2304x128 ![] bcast_S_S16x2304x128 main_cst_0
  let main_v6 : IVec S16x2304x128 1 := cmpf .olt main_v4 main_v5
  let main_c_1 : IVec S_ 1 := constantI S_ 1 1#1
  let main_v7 : IVec S_ 1 := (fun x v => Host.reduce IntOp.andi x v reducesTo_S16x2304x128_S_d0_1_2 h_S_) main_v6 main_c_1
  let main_v8 : IVec S_ 1 := andi main_v3 main_v7
  let main_v9 : FVec F S16x2304x768 .f32 := Host.absf main_arg3
  let main_cst_2 : FVec F S_ .f32 := constant S_ .f32 0x7F800000#32
  let main_v10 : FVec F S16x2304x768 .f32 := broadcastInDim S16x2304x768 ![] bcast_S_S16x2304x768 main_cst_2
  let main_v11 : IVec S16x2304x768 1 := cmpf .olt main_v9 main_v10
  let main_c_3 : IVec S_ 1 := constantI S_ 1 1#1
  let main_v12 : IVec S_ 1 := (fun x v => Host.reduce IntOp.andi x v reducesTo_S16x2304x768_S_d0_1_2 h_S_) main_v11 main_c_3
  let main_v13 : IVec S_ 1 := andi main_v8 main_v12
  let main_v14 : FVec F S16x2304x768 .f32 := Host.absf main_arg4
  let main_cst_4 : FVec F S_ .f32 := constant S_ .f32 0x7F800000#32
  let main_v15 : FVec F S16x2304x768 .f32 := broadcastInDim S16x2304x768 ![] bcast_S_S16x2304x768 main_cst_4
  let main_v16 : IVec S16x2304x768 1 := cmpf .olt main_v14 main_v15
  fn_part1 (F := F) main_v13 main_v16
-- ==== Pre_finite_ctx.lean ====
abbrev S16x2304x512 : Shape := ⟨3, ![16, 2304, 512]⟩
abbrev S16x2304x128 : Shape := ⟨3, ![16, 2304, 128]⟩
abbrev S16x2304x768 : Shape := ⟨3, ![16, 2304, 768]⟩
abbrev S16x256x512 : Shape := ⟨3, ![16, 256, 512]⟩
abbrev S_ : Shape := ⟨0, ![]⟩
abbrev S16x256x128 : Shape := ⟨3, ![16, 256, 128]⟩
abbrev S16x256x768 : Shape := ⟨3, ![16, 256, 768]⟩

class Facts : Prop where
  slices_S16x2304x512_S16x256x512_0_0_0 : S16x2304x512.Slices ![0, 0, 0] S16x256x512
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  slices_S16x2304x128_S16x256x128_0_0_0 : S16x2304x128.Slices ![0, 0, 0] S16x256x128
  bcast_S_S16x256x128 : S_.BroadcastsInDim S16x256x128 (![] : Fin 0 → Fin S16x256x128.rank)
  reducesTo_S16x256x128_S_d0_1_2 : S16x256x128.ReducesTo [0, 1, 2] S_
  slices_S16x2304x768_S16x256x768_0_0_0 : S16x2304x768.Slices ![0, 0, 0] S16x256x768
  bcast_S_S16x256x768 : S_.BroadcastsInDim S16x256x768 (![] : Fin 0 → Fin S16x256x768.rank)
  reducesTo_S16x256x768_S_d0_1_2 : S16x256x768.ReducesTo [0, 1, 2] S_

variable [Facts]

def fn_part1 {F : FTy → Type} [FloatOps F] (main_v16 : IVec S_ 1) (main_v17 : FVec F S16x256x768 .f32) : IVec S_ 1 :=
  let main_v18 : FVec F S16x256x768 .f32 := Host.absf main_v17
  let main_cst_4 : FVec F S_ .f32 := constant S_ .f32 0x7F800000#32
  let main_v19 : FVec F S16x256x768 .f32 := broadcastInDim S16x256x768 ![] bcast_S_S16x256x768 main_cst_4
  let main_v20 : IVec S16x256x768 1 := cmpf .olt main_v18 main_v19
  let main_c_5 : IVec S_ 1 := constantI S_ 1 1#1
  let main_v21 : IVec S_ 1 := (fun x v => Host.reduce IntOp.andi x v reducesTo_S16x256x768_S_d0_1_2 h_S_) main_v20 main_c_5
  let main_v22 : IVec S_ 1 := andi main_v16 main_v21
  main_v22

def fn {F : FTy → Type} [FloatOps F] (main_arg0 : FVec F S16x2304x512 .f32) (main_arg1 : FVec F S16x2304x128 .f32) (main_arg2 : FVec F S16x2304x128 .f32) (main_arg3 : FVec F S16x2304x768 .f32) (main_arg4 : FVec F S16x2304x768 .f32) (main_arg5 : FVec F S16x2304x512 .f32) : IVec S_ 1 :=
  let main_v0 : FVec F S16x256x512 .f32 := (extractStridedSlice S16x256x512 ![0, 0, 0] · slices_S16x2304x512_S16x256x512_0_0_0) main_arg0
  let main_v1 : FVec F S16x256x512 .f32 := Host.absf main_v0
  let main_cst : FVec F S_ .f32 := constant S_ .f32 0x7F800000#32
  let main_v2 : FVec F S16x256x512 .f32 := broadcastInDim S16x256x512 ![] bcast_S_S16x256x512 main_cst
  let main_v3 : IVec S16x256x512 1 := cmpf .olt main_v1 main_v2
  let main_c : IVec S_ 1 := constantI S_ 1 1#1
  let main_v4 : IVec S_ 1 := (fun x v => Host.reduce IntOp.andi x v reducesTo_S16x256x512_S_d0_1_2 h_S_) main_v3 main_c
  let main_v5 : FVec F S16x256x128 .f32 := (extractStridedSlice S16x256x128 ![0, 0, 0] · slices_S16x2304x128_S16x256x128_0_0_0) main_arg1
  let main_v6 : FVec F S16x256x128 .f32 := Host.absf main_v5
  let main_cst_0 : FVec F S_ .f32 := constant S_ .f32 0x7F800000#32
  let main_v7 : FVec F S16x256x128 .f32 := broadcastInDim S16x256x128 ![] bcast_S_S16x256x128 main_cst_0
  let main_v8 : IVec S16x256x128 1 := cmpf .olt main_v6 main_v7
  let main_c_1 : IVec S_ 1 := constantI S_ 1 1#1
  let main_v9 : IVec S_ 1 := (fun x v => Host.reduce IntOp.andi x v reducesTo_S16x256x128_S_d0_1_2 h_S_) main_v8 main_c_1
  let main_v10 : IVec S_ 1 := andi main_v4 main_v9
  let main_v11 : FVec F S16x256x768 .f32 := (extractStridedSlice S16x256x768 ![0, 0, 0] · slices_S16x2304x768_S16x256x768_0_0_0) main_arg3
  let main_v12 : FVec F S16x256x768 .f32 := Host.absf main_v11
  let main_cst_2 : FVec F S_ .f32 := constant S_ .f32 0x7F800000#32
  let main_v13 : FVec F S16x256x768 .f32 := broadcastInDim S16x256x768 ![] bcast_S_S16x256x768 main_cst_2
  let main_v14 : IVec S16x256x768 1 := cmpf .olt main_v12 main_v13
  let main_c_3 : IVec S_ 1 := constantI S_ 1 1#1
  let main_v15 : IVec S_ 1 := (fun x v => Host.reduce IntOp.andi x v reducesTo_S16x256x768_S_d0_1_2 h_S_) main_v14 main_c_3
  let main_v16 : IVec S_ 1 := andi main_v10 main_v15
  let main_v17 : FVec F S16x256x768 .f32 := (extractStridedSlice S16x256x768 ![0, 0, 0] · slices_S16x2304x768_S16x256x768_0_0_0) main_arg4
  fn_part1 (F := F) main_v16 main_v17
-- ==== Kernel.lean ====
abbrev S16x2304x512 : Shape := ⟨3, ![16, 2304, 512]⟩
abbrev S16x2304x128 : Shape := ⟨3, ![16, 2304, 128]⟩
abbrev S16x2304x768 : Shape := ⟨3, ![16, 2304, 768]⟩
abbrev S_ : Shape := ⟨0, ![]⟩
abbrev S16x2304x8x96 : Shape := ⟨4, ![16, 2304, 8, 96]⟩
abbrev S16x2304x8x32 : Shape := ⟨4, ![16, 2304, 8, 32]⟩
abbrev S16x2304x8x128 : Shape := ⟨4, ![16, 2304, 8, 128]⟩
abbrev S16x2304x1024 : Shape := ⟨3, ![16, 2304, 1024]⟩
abbrev S16x2048x512 : Shape := ⟨3, ![16, 2048, 512]⟩
abbrev S1x512x512 : Shape := ⟨3, ![1, 512, 512]⟩
abbrev S1x2304x128 : Shape := ⟨3, ![1, 2304, 128]⟩
abbrev S1x512x1024 : Shape := ⟨3, ![1, 512, 1024]⟩
abbrev S1x2304x1024 : Shape := ⟨3, ![1, 2304, 1024]⟩
abbrev S1x2304x512 : Shape := ⟨3, ![1, 2304, 512]⟩
abbrev S2304x64 : Shape := ⟨2, ![2304, 64]⟩
abbrev S1x2304x64 : Shape := ⟨3, ![1, 2304, 64]⟩
abbrev S2304x128 : Shape := ⟨2, ![2304, 128]⟩
abbrev S1x512x64 : Shape := ⟨3, ![1, 512, 64]⟩
abbrev S512x64 : Shape := ⟨2, ![512, 64]⟩
abbrev S512x2304 : Shape := ⟨2, ![512, 2304]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 39
  | .vmem => 16
  | .smem => 0
  | _ => 0

abbrev bufTy : (tb : Table) → Fin (tcTables nBuf tb) → BufTy
  | .hbm, ⟨0, _⟩ => ⟨S16x2304x512, .f32⟩
  | .hbm, ⟨1, _⟩ => ⟨S16x2304x128, .f32⟩
  | .hbm, ⟨2, _⟩ => ⟨S16x2304x128, .f32⟩
  | .hbm, ⟨3, _⟩ => ⟨S16x2304x768, .f32⟩
  | .hbm, ⟨4, _⟩ => ⟨S16x2304x768, .f32⟩
  | .hbm, ⟨5, _⟩ => ⟨S16x2304x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x2304x512, .f32⟩
  | .hbm, ⟨18, _⟩ => ⟨S16x2304x512, .f32⟩
  | .hbm, ⟨19, _⟩ => ⟨S16x2304x512, .bf16⟩
  | .hbm, ⟨20, _⟩ => ⟨S16x2304x8x96, .f32⟩
  | .hbm, ⟨21, _⟩ => ⟨S_, .f32⟩
  | .hbm, ⟨22, _⟩ => ⟨S16x2304x8x32, .f32⟩
  | .hbm, ⟨23, _⟩ => ⟨S16x2304x8x128, .f32⟩
  | .hbm, ⟨24, _⟩ => ⟨S16x2304x1024, .f32⟩
  | .hbm, ⟨25, _⟩ => ⟨S16x2304x1024, .f32⟩
  | .hbm, ⟨26, _⟩ => ⟨S16x2304x1024, .f32⟩
  | .hbm, ⟨27, _⟩ => ⟨S16x2304x1024, .bf16⟩
  | .hbm, ⟨28, _⟩ => ⟨S16x2304x128, .bf16⟩
  | .hbm, ⟨29, _⟩ => ⟨S16x2304x8x96, .f32⟩
  | .hbm, ⟨30, _⟩ => ⟨S_, .f32⟩
  | .hbm, ⟨31, _⟩ => ⟨S16x2304x8x32, .f32⟩
  | .hbm, ⟨32, _⟩ => ⟨S16x2304x8x128, .f32⟩
  | .hbm, ⟨33, _⟩ => ⟨S16x2304x1024, .f32⟩
  | .hbm, ⟨34, _⟩ => ⟨S16x2304x1024, .bf16⟩
  | .hbm, ⟨35, _⟩ => ⟨S16x2304x128, .bf16⟩
  | .hbm, ⟨36, _⟩ => ⟨S16x2304x512, .bf16⟩
  | .hbm, ⟨37, _⟩ => ⟨S16x2048x512, .bf16⟩
  | .hbm, ⟨38, _⟩ => ⟨S16x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2304x1024, .bf16⟩
  | .local _ .vmem, ⟨9, _⟩ => ⟨S1x2304x1024, .bf16⟩
  | .local _ .vmem, ⟨10, _⟩ => ⟨S1x2304x512, .bf16⟩
  | .local _ .vmem, ⟨11, _⟩ => ⟨S1x2304x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | _, _ => ⟨S16x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def k0_mult2 (i : grid0.Coords) : BitVec 32 :=
  let c256_i32 : BitVec 32 := 256#32
  let arg1 : BitVec 32 := BitVec.ofNat 32 (i 1).val
  let c512_i32 : BitVec 32 := 512#32
  let v0 : BitVec 32 := Scalar.muli arg1 c512_i32
  let v1 : BitVec 32 := Scalar.addi c256_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2304x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x2304x512 : Shape := ⟨3, ![16, 2304, 512]⟩
abbrev S16x2304x128 : Shape := ⟨3, ![16, 2304, 128]⟩
abbrev S16x2304x768 : Shape := ⟨3, ![16, 2304, 768]⟩
abbrev S16x2048x512 : Shape := ⟨3, ![16, 2048, 512]⟩
abbrev S16x2048x2x4x64 : Shape := ⟨5, ![16, 2048, 2, 4, 64]⟩
abbrev S16x2x4x2048x64 : Shape := ⟨5, ![16, 2, 4, 2048, 64]⟩
abbrev S16x2304x2x64 : Shape := ⟨4, ![16, 2304, 2, 64]⟩
abbrev S16x2x2304x64 : Shape := ⟨4, ![16, 2, 2304, 64]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2048x768 : Shape := ⟨3, ![16, 2048, 768]⟩
abbrev S16x2048x8x96 : Shape := ⟨4, ![16, 2048, 8, 96]⟩
abbrev S16x8x2048x96 : Shape := ⟨4, ![16, 8, 2048, 96]⟩
abbrev S16x2304x8x96 : Shape := ⟨4, ![16, 2304, 8, 96]⟩
abbrev S16x8x2304x96 : Shape := ⟨4, ![16, 8, 2304, 96]⟩
abbrev S16x2304x8x64 : Shape := ⟨4, ![16, 2304, 8, 64]⟩
abbrev S16x8x2304x64 : Shape := ⟨4, ![16, 8, 2304, 64]⟩
abbrev S16x8x1x2048x96 : Shape := ⟨5, ![16, 8, 1, 2048, 96]⟩
abbrev S16x8x1x2048x2304 : Shape := ⟨5, ![16, 8, 1, 2048, 2304]⟩
abbrev S16x8x1x2048 : Shape := ⟨4, ![16, 8, 1, 2048]⟩
abbrev S16x8x1x2048x1 : Shape := ⟨5, ![16, 8, 1, 2048, 1]⟩
abbrev S16x8x1x2048x64 : Shape := ⟨5, ![16, 8, 1, 2048, 64]⟩
abbrev S16x2048x8x1x64 : Shape := ⟨5, ![16, 2048, 8, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S16x2304x512, .f32⟩
  | .hbm, ⟨1, _⟩ => ⟨S16x2304x128, .f32⟩
  | .hbm, ⟨2, _⟩ => ⟨S16x2304x128, .f32⟩
  | .hbm, ⟨3, _⟩ => ⟨S16x2304x768, .f32⟩
  | .hbm, ⟨4, _⟩ => ⟨S16x2304x768, .f32⟩
  | .hbm, ⟨5, _⟩ => ⟨S16x2304x512, .f32⟩
  | .hbm, ⟨6, _⟩ => ⟨S16x2048x512, .f32⟩
  | .hbm, ⟨7, _⟩ => ⟨S16x2048x2x4x64, .f32⟩
  | .hbm, ⟨8, _⟩ => ⟨S16x2x4x2048x64, .f32⟩
  | .hbm, ⟨9, _⟩ => ⟨S16x2304x2x64, .f32⟩
  | .hbm, ⟨10, _⟩ => ⟨S16x2x2304x64, .f32⟩
  | .hbm, ⟨11, _⟩ => ⟨S16x2304x2x64, .f32⟩
  | .hbm, ⟨12, _⟩ => ⟨S16x2x2304x64, .f32⟩
  | .hbm, ⟨13, _⟩ => ⟨S16x2x4x2048x2304, .f32⟩
  | .hbm, ⟨14, _⟩ => ⟨S_, .f32⟩
  | .hbm, ⟨15, _⟩ => ⟨S16x2x4x2048x2304, .f32⟩
  | .hbm, ⟨16, _⟩ => ⟨S16x2x4x2048x2304, .f32⟩
  | .hbm, ⟨17, _⟩ => ⟨S_, .f32⟩
  | .hbm, ⟨18, _⟩ => ⟨S16x2x4x2048, .f32⟩
  | .hbm, ⟨19, _⟩ => ⟨S_, .f32⟩
  | .hbm, ⟨20, _⟩ => ⟨S16x2x4x2048, .f32⟩
  | .hbm, ⟨21, _⟩ => ⟨S16x2x4x2048, .f32⟩
  | .hbm, ⟨22, _⟩ => ⟨S16x2x4x2048x1, .f32⟩
  | .hbm, ⟨23, _⟩ => ⟨S16x2x4x2048x2304, .f32⟩
  | .hbm, ⟨24, _⟩ => ⟨S16x2x4x2048x2304, .f32⟩
  | .hbm, ⟨25, _⟩ => ⟨S16x2x4x2048x2304, .f32⟩
  | .hbm, ⟨26, _⟩ => ⟨S_, .f32⟩
  | .hbm, ⟨27, _⟩ => ⟨S16x2x4x2048, .f32⟩
  | .hbm, ⟨28, _⟩ => ⟨S16x2x4x2048x1, .f32⟩
  | .hbm, ⟨29, _⟩ => ⟨S16x2x4x2048x2304, .f32⟩
  | .hbm, ⟨30, _⟩ => ⟨S16x2x4x2048x2304, .f32⟩
  | .hbm, ⟨31, _⟩ => ⟨S16x2x4x2048x64, .f32⟩
  | .hbm, ⟨32, _⟩ => ⟨S16x2048x2x4x64, .f32⟩
  | .hbm, ⟨33, _⟩ => ⟨S16x2048x512, .f32⟩
  | .hbm, ⟨34, _⟩ => ⟨S16x2048x768, .f32⟩
  | .hbm, ⟨35, _⟩ => ⟨S16x2048x8x96, .f32⟩
  | .hbm, ⟨36, _⟩ => ⟨S16x8x2048x96, .f32⟩
  | .hbm, ⟨37, _⟩ => ⟨S16x2304x8x96, .f32⟩
  | .hbm, ⟨38, _⟩ => ⟨S16x8x2304x96, .f32⟩
  | .hbm, ⟨39, _⟩ => ⟨S16x2304x8x64, .f32⟩
  | .hbm, ⟨40, _⟩ => ⟨S16x8x2304x64, .f32⟩
  | .hbm, ⟨41, _⟩ => ⟨S16x8x1x2048x96, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16x8x1x2048x2304, .f32⟩
  | .hbm, ⟨47, _⟩ => ⟨S16x8x1x2048x2304, .f32⟩
  | .hbm, ⟨48, _⟩ => ⟨S16x8x1x2048x2304, .f32⟩
  | .hbm, ⟨49, _⟩ => ⟨S_, .f32⟩
  | .hbm, ⟨50, _⟩ => ⟨S16x8x1x2048, .f32⟩
  | .hbm, ⟨51, _⟩ => ⟨S_, .f32⟩
  | .hbm, ⟨52, _⟩ => ⟨S16x8x1x2048, .f32⟩
  | .hbm, ⟨53, _⟩ => ⟨S16x8x1x2048, .f32⟩
  | .hbm, ⟨54, _⟩ => ⟨S16x8x1x2048x1, .f32⟩
  | .hbm, ⟨55, _⟩ => ⟨S16x8x1x2048x2304, .f32⟩
  | .hbm, ⟨56, _⟩ => ⟨S16x8x1x2048x2304, .f32⟩
  | .hbm, ⟨57, _⟩ => ⟨S16x8x1x2048x2304, .f32⟩
  | .hbm, ⟨58, _⟩ => ⟨S_, .f32⟩
  | .hbm, ⟨59, _⟩ => ⟨S16x8x1x2048, .f32⟩
  | .hbm, ⟨60, _⟩ => ⟨S16x8x1x2048x1, .f32⟩
  | .hbm, ⟨61, _⟩ => ⟨S16x8x1x2048x2304, .f32⟩
  | .hbm, ⟨62, _⟩ => ⟨S16x8x1x2048x2304, .f32⟩
  | .hbm, ⟨63, _⟩ => ⟨S16x8x1x2048x64, .f32⟩
  | .hbm, ⟨64, _⟩ => ⟨S16x2048x8x1x64, .f32⟩
  | .hbm, ⟨65, _⟩ => ⟨S16x2048x512, .f32⟩
  | .hbm, ⟨66, _⟩ => ⟨S16x2048x512, .bf16⟩
  | .hbm, ⟨67, _⟩ => ⟨S16x2048x512, .bf16⟩
  | _, _ => ⟨S16x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel2.lean ====
abbrev S16x2304x1024 : Shape := ⟨3, ![16, 2304, 1024]⟩
abbrev S6144 : Shape := ⟨1, ![6144]⟩
abbrev S16x6144 : Shape := ⟨2, ![16, 6144]⟩
abbrev S16x2048x512 : Shape := ⟨3, ![16, 2048, 512]⟩
abbrev S16x2304x512 : Shape := ⟨3, ![16, 2304, 512]⟩
abbrev S16x2304x3072 : Shape := ⟨3, ![16, 2304, 3072]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1x6x1024 : Shape := ⟨4, ![1, 1, 6, 1024]⟩
abbrev S16x1x6x1024 : Shape := ⟨4, ![16, 1, 6, 1024]⟩
abbrev S16x2x6x1024 : Shape := ⟨4, ![16, 2, 6, 1024]⟩
abbrev S1x1024 : Shape := ⟨2, ![1, 1024]⟩
abbrev S1024 : Shape := ⟨1, ![1024]⟩
abbrev S16x2048x1024 : Shape := ⟨3, ![16, 2048, 1024]⟩
abbrev S1x256x1024 : Shape := ⟨3, ![1, 256, 1024]⟩
abbrev S1x256x512 : Shape := ⟨3, ![1, 256, 512]⟩
abbrev S1x256x3072 : Shape := ⟨3, ![1, 256, 3072]⟩
abbrev S1x3x512x1024 : Shape := ⟨4, ![1, 3, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S6x1024 : Shape := ⟨2, ![6, 1024]⟩
abbrev S256x512 : Shape := ⟨2, ![256, 512]⟩
abbrev S256x1024 : Shape := ⟨2, ![256, 1024]⟩
abbrev S128x512 : Shape := ⟨2, ![128, 512]⟩
abbrev S1x1x512x1024 : Shape := ⟨4, ![1, 1, 512, 1024]⟩
abbrev S512x1024 : Shape := ⟨2, ![512, 1024]⟩
abbrev S128x1024 : Shape := ⟨2, ![128, 1024]⟩
abbrev S1x128x1024 : Shape := ⟨3, ![1, 128, 1024]⟩
abbrev S1024x1024 : Shape := ⟨2, ![1024, 1024]⟩
abbrev S128 : Shape := ⟨1, ![128]⟩
abbrev S128x1 : Shape := ⟨2, ![128, 1]⟩
abbrev S1024x4096 : Shape := ⟨2, ![1024, 4096]⟩
abbrev S128x4096 : Shape := ⟨2, ![128, 4096]⟩
abbrev S4096x1024 : Shape := ⟨2, ![4096, 1024]⟩

abbrev nBuf : Space → Nat
  | .hbm => 36
  | .vmem => 21
  | .smem => 0
  | _ => 0

abbrev bufTy : (tb : Table) → Fin (tcTables nBuf tb) → BufTy
  | .hbm, ⟨0, _⟩ => ⟨S16x2304x1024, .f32⟩
  | .hbm, ⟨1, _⟩ => ⟨S6144, .f32⟩
  | .hbm, ⟨2, _⟩ => ⟨S16x6144, .f32⟩
  | .hbm, ⟨3, _⟩ => ⟨S16x2048x512, .f32⟩
  | .hbm, ⟨4, _⟩ => ⟨S16x2304x512, .f32⟩
  | .hbm, ⟨5, _⟩ => ⟨S16x2048x512, .f32⟩
  | .hbm, ⟨6, _⟩ => ⟨S16x2304x3072, .f32⟩
  | .hbm, ⟨7, _⟩ => ⟨S2x3x512x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S2x1024, .f32⟩
  | .hbm, ⟨14, _⟩ => ⟨S1x1x6x1024, .f32⟩
  | .hbm, ⟨15, _⟩ => ⟨S16x1x6x1024, .f32⟩
  | .hbm, ⟨16, _⟩ => ⟨S16x1x6x1024, .f32⟩
  | .hbm, ⟨17, _⟩ => ⟨S16x2x6x1024, .f32⟩
  | .hbm, ⟨18, _⟩ => ⟨S2x3x512x1024, .bf16⟩
  | .hbm, ⟨19, _⟩ => ⟨S2x1024x1024, .bf16⟩
  | .hbm, ⟨20, _⟩ => ⟨S2x1024x4096, .bf16⟩
  | .hbm, ⟨21, _⟩ => ⟨S2x4096x1024, .bf16⟩
  | .hbm, ⟨22, _⟩ => ⟨S16x2048x512, .bf16⟩
  | .hbm, ⟨23, _⟩ => ⟨S16x2304x512, .bf16⟩
  | .hbm, ⟨24, _⟩ => ⟨S16x2048x512, .bf16⟩
  | .hbm, ⟨25, _⟩ => ⟨S16x2304x3072, .bf16⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x3072, .bf16⟩
  | .local _ .vmem, ⟨11, _⟩ => ⟨S1x256x3072, .bf16⟩
  | .local _ .vmem, ⟨12, _⟩ => ⟨S1x3x512x1024, .bf16⟩
  | .local _ .vmem, ⟨13, _⟩ => ⟨S1x1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024x4096, .bf16⟩
  | .local _ .vmem, ⟨17, _⟩ => ⟨S1x4096x1024, .bf16⟩
  | .local _ .vmem, ⟨18, _⟩ => ⟨S1x1024, .f32⟩
  | .local _ .vmem, ⟨19, _⟩ => ⟨S1x256x1024, .f32⟩
  | .local _ .vmem, ⟨20, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .slt v0 c1_i32_0
  let c0_i32 : BitVec 32 := 0#32
  let c1_i32_1 : BitVec 32 := 1#32
  let v2 : BitVec 32 := Scalar.select v1 c0_i32 c1_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S16x2304x1024 : Shape := ⟨3, ![16, 2304, 1024]⟩
abbrev S6144 : Shape := ⟨1, ![6144]⟩
abbrev S16x6144 : Shape := ⟨2, ![16, 6144]⟩
abbrev S16x2048x512 : Shape := ⟨3, ![16, 2048, 512]⟩
abbrev S16x2304x512 : Shape := ⟨3, ![16, 2304, 512]⟩
abbrev S16x2304x3072 : Shape := ⟨3, ![16, 2304, 3072]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16x2048x1024 : Shape := ⟨3, ![16, 2048, 1024]⟩
abbrev S16x1x6144 : Shape := ⟨3, ![16, 1, 6144]⟩
abbrev S16x1x1024 : Shape := ⟨3, ![16, 1, 1024]⟩
abbrev S16x2048x3072 : Shape := ⟨3, ![16, 2048, 3072]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S16x2048x3x1024 : Shape := ⟨4, ![16, 2048, 3, 1024]⟩
abbrev S16x2048x1x512 : Shape := ⟨4, ![16, 2048, 1, 512]⟩
abbrev S16x2048x3x512 : Shape := ⟨4, ![16, 2048, 3, 512]⟩
abbrev S3x1024x16x2048 : Shape := ⟨4, ![3, 1024, 16, 2048]⟩
abbrev S_ : Shape := ⟨0, ![]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x2048x4096 : Shape := ⟨3, ![16, 2048, 4096]⟩

abbrev nBuf : Space → Nat
  | .hbm => 116
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S6144, .f32⟩
  | .hbm, ⟨2, _⟩ => ⟨S16x6144, .f32⟩
  | .hbm, ⟨3, _⟩ => ⟨S16x2048x512, .f32⟩
  | .hbm, ⟨4, _⟩ => ⟨S16x2304x512, .f32⟩
  | .hbm, ⟨5, _⟩ => ⟨S16x2048x512, .f32⟩
  | .hbm, ⟨6, _⟩ => ⟨S16x2304x3072, .f32⟩
  | .hbm, ⟨7, _⟩ => ⟨S2x3x512x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S2x1024, .f32⟩
  | .hbm, ⟨14, _⟩ => ⟨S16x2048x1024, .f32⟩
  | .hbm, ⟨15, _⟩ => ⟨S16x1x6144, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x2048x512, .f32⟩
  | .hbm, ⟨23, _⟩ => ⟨S16x2048x3072, .f32⟩
  | .hbm, ⟨24, _⟩ => ⟨S1x3x512x1024, .f32⟩
  | .hbm, ⟨25, _⟩ => ⟨S3x512x1024, .f32⟩
  | .hbm, ⟨26, _⟩ => ⟨S1x1024x1024, .f32⟩
  | .hbm, ⟨27, _⟩ => ⟨S1024x1024, .f32⟩
  | .hbm, ⟨28, _⟩ => ⟨S16x2048x3x1024, .f32⟩
  | .hbm, ⟨29, _⟩ => ⟨S16x2048x1x512, .f32⟩
  | .hbm, ⟨30, _⟩ => ⟨S16x2048x1x512, .f32⟩
  | .hbm, ⟨31, _⟩ => ⟨S16x2048x1x512, .f32⟩
  | .hbm, ⟨32, _⟩ => ⟨S16x2048x3x512, .f32⟩
  | .hbm, ⟨33, _⟩ => ⟨S3x1024x16x2048, .f32⟩
  | .hbm, ⟨34, _⟩ => ⟨S16x2048x3x1024, .f32⟩
  | .hbm, ⟨35, _⟩ => ⟨S16x2048x3x1024, .f32⟩
  | .hbm, ⟨36, _⟩ => ⟨S_, .f32⟩
  | .hbm, ⟨37, _⟩ => ⟨S16x2048x1024, .f32⟩
  | .hbm, ⟨38, _⟩ => ⟨S16x2048x1024, .f32⟩
  | .hbm, ⟨39, _⟩ => ⟨S1x1024, .f32⟩
  | .hbm, ⟨40, _⟩ => ⟨S1024, .f32⟩
  | .hbm, ⟨41, _⟩ => ⟨S16x2048x1024, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S1x1024, .f32⟩
  | .hbm, ⟨61, _⟩ => ⟨S1024, .f32⟩
  | .hbm, ⟨62, _⟩ => ⟨S16x2048x1024, .f32⟩
  | .hbm, ⟨63, _⟩ => ⟨S_, .f32⟩
  | .hbm, ⟨64, _⟩ => ⟨S16x2048, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S16x2048x1, .f32⟩
  | .hbm, ⟨73, _⟩ => ⟨S16x2048x1024, .f32⟩
  | .hbm, ⟨74, _⟩ => ⟨S16x2048x1024, .f32⟩
  | .hbm, ⟨75, _⟩ => ⟨S1x1x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x1x1024, .f32⟩
  | .hbm, ⟨80, _⟩ => ⟨S16x1x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S1x1024x4096, .f32⟩
  | .hbm, ⟨86, _⟩ => ⟨S1024x4096, .f32⟩
  | .hbm, ⟨87, _⟩ => ⟨S1x4096x1024, .f32⟩
  | .hbm, ⟨88, _⟩ => ⟨S4096x1024, .f32⟩
  | .hbm, ⟨89, _⟩ => ⟨S16x2048x4096, .f32⟩
  | .hbm, ⟨90, _⟩ => ⟨S_, .f32⟩
  | .hbm, ⟨91, _⟩ => ⟨S16x2048x4096, .f32⟩
  | .hbm, ⟨92, _⟩ => ⟨S16x2048x4096, .f32⟩
  | .hbm, ⟨93, _⟩ => ⟨S16x2048x4096, .f32⟩
  | .hbm, ⟨94, _⟩ => ⟨S16x2048x1024, .f32⟩
  | .hbm, ⟨95, _⟩ => ⟨S1x1024, .f32⟩
  | .hbm, ⟨96, _⟩ => ⟨S1024, .f32⟩
  | .hbm, ⟨97, _⟩ => ⟨S16x2048x1024, .f32⟩
  | .hbm, ⟨98, _⟩ => ⟨S_, .f32⟩
  | .hbm, ⟨99, _⟩ => ⟨S16x2048, .f32⟩
  | .hbm, ⟨100, _⟩ => ⟨S16x2048x1, .f32⟩
  | .hbm, ⟨101, _⟩ => ⟨S_, .f32⟩
  | .hbm, ⟨102, _⟩ => ⟨S16x2048x1, .f32⟩
  | .hbm, ⟨103, _⟩ => ⟨S16x2048x1, .f32⟩
  | .hbm, ⟨104, _⟩ => ⟨S_, .f32⟩
  | .hbm, ⟨105, _⟩ => ⟨S16x2048x1, .f32⟩
  | .hbm, ⟨106, _⟩ => ⟨S16x2048x1, .f32⟩
  | .hbm, ⟨107, _⟩ => ⟨S16x2048x1, .f32⟩
  | .hbm, ⟨108, _⟩ => ⟨S16x2048x1024, .f32⟩
  | .hbm, ⟨109, _⟩ => ⟨S16x2048x1024, .f32⟩
  | .hbm, ⟨110, _⟩ => ⟨S1x1x1024, .f32⟩
  | .hbm, ⟨111, _⟩ => ⟨S16x2048x1024, .f32⟩
  | .hbm, ⟨112, _⟩ => ⟨S16x2048x1024, .f32⟩
  | .hbm, ⟨113, _⟩ => ⟨S16x2048x1024, .f32⟩
  | .hbm, ⟨114, _⟩ => ⟨S16x2048x1024, .f32⟩
  | .hbm, ⟨115, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_cst : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_7 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== Kernel3.lean ====
abbrev S16x256x1024 : Shape := ⟨3, ![16, 256, 1024]⟩
abbrev S16x2048x1024 : Shape := ⟨3, ![16, 2048, 1024]⟩
abbrev S6144 : Shape := ⟨1, ![6144]⟩
abbrev S16x6144 : Shape := ⟨2, ![16, 6144]⟩
abbrev S16x256x512 : Shape := ⟨3, ![16, 256, 512]⟩
abbrev S16x2048x512 : Shape := ⟨3, ![16, 2048, 512]⟩
abbrev S16x2304x512 : Shape := ⟨3, ![16, 2304, 512]⟩
abbrev S16x2304x3072 : Shape := ⟨3, ![16, 2304, 3072]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1x6x1024 : Shape := ⟨4, ![1, 1, 6, 1024]⟩
abbrev S16x1x6x1024 : Shape := ⟨4, ![16, 1, 6, 1024]⟩
abbrev S16x2x6x1024 : Shape := ⟨4, ![16, 2, 6, 1024]⟩
abbrev S1x1024 : Shape := ⟨2, ![1, 1024]⟩
abbrev S1024 : Shape := ⟨1, ![1024]⟩
abbrev S16x2304x1024 : Shape := ⟨3, ![16, 2304, 1024]⟩
abbrev S1x256x1024 : Shape := ⟨3, ![1, 256, 1024]⟩
abbrev S1x256x512 : Shape := ⟨3, ![1, 256, 512]⟩
abbrev S1x256x3072 : Shape := ⟨3, ![1, 256, 3072]⟩
abbrev S1x3x512x1024 : Shape := ⟨4, ![1, 3, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S6x1024 : Shape := ⟨2, ![6, 1024]⟩
abbrev S256x512 : Shape := ⟨2, ![256, 512]⟩
abbrev S256x1024 : Shape := ⟨2, ![256, 1024]⟩
abbrev S128x512 : Shape := ⟨2, ![128, 512]⟩
abbrev S1x1x512x1024 : Shape := ⟨4, ![1, 1, 512, 1024]⟩
abbrev S512x1024 : Shape := ⟨2, ![512, 1024]⟩
abbrev S128x1024 : Shape := ⟨2, ![128, 1024]⟩
abbrev S1x128x1024 : Shape := ⟨3, ![1, 128, 1024]⟩
abbrev S1024x1024 : Shape := ⟨2, ![1024, 1024]⟩
abbrev S128 : Shape := ⟨1, ![128]⟩
abbrev S128x1 : Shape := ⟨2, ![128, 1]⟩
abbrev S1024x4096 : Shape := ⟨2, ![1024, 4096]⟩
abbrev S128x4096 : Shape := ⟨2, ![128, 4096]⟩
abbrev S4096x1024 : Shape := ⟨2, ![4096, 1024]⟩

abbrev nBuf : Space → Nat
  | .hbm => 41
  | .vmem => 27
  | .smem => 0
  | _ => 0

abbrev bufTy : (tb : Table) → Fin (tcTables nBuf tb) → BufTy
  | .hbm, ⟨0, _⟩ => ⟨S16x256x1024, .f32⟩
  | .hbm, ⟨1, _⟩ => ⟨S16x2048x1024, .f32⟩
  | .hbm, ⟨2, _⟩ => ⟨S6144, .f32⟩
  | .hbm, ⟨3, _⟩ => ⟨S16x6144, .f32⟩
  | .hbm, ⟨4, _⟩ => ⟨S16x256x512, .f32⟩
  | .hbm, ⟨5, _⟩ => ⟨S16x2048x512, .f32⟩
  | .hbm, ⟨6, _⟩ => ⟨S16x2304x512, .f32⟩
  | .hbm, ⟨7, _⟩ => ⟨S16x256x512, .f32⟩
  | .hbm, ⟨8, _⟩ => ⟨S16x2048x512, .f32⟩
  | .hbm, ⟨9, _⟩ => ⟨S16x2304x3072, .f32⟩
  | .hbm, ⟨10, _⟩ => ⟨S2x3x512x1024, .f32⟩
  | .hbm, ⟨11, _⟩ => ⟨S2x1024x1024, .f32⟩
  | .hbm, ⟨12, _⟩ => ⟨S2x1024, .f32⟩
  | .hbm, ⟨13, _⟩ => ⟨S2x1024, .f32⟩
  | .hbm, ⟨14, _⟩ => ⟨S2x1024x4096, .f32⟩
  | .hbm, ⟨15, _⟩ => ⟨S2x4096x1024, .f32⟩
  | .hbm, ⟨16, _⟩ => ⟨S2x1024, .f32⟩
  | .hbm, ⟨17, _⟩ => ⟨S1x1x6x1024, .f32⟩
  | .hbm, ⟨18, _⟩ => ⟨S16x1x6x1024, .f32⟩
  | .hbm, ⟨19, _⟩ => ⟨S16x1x6x1024, .f32⟩
  | .hbm, ⟨20, _⟩ => ⟨S16x2x6x1024, .f32⟩
  | .hbm, ⟨21, _⟩ => ⟨S2x3x512x1024, .bf16⟩
  | .hbm, ⟨22, _⟩ => ⟨S2x1024x1024, .bf16⟩
  | .hbm, ⟨23, _⟩ => ⟨S2x1024x4096, .bf16⟩
  | .hbm, ⟨24, _⟩ => ⟨S2x4096x1024, .bf16⟩
  | .hbm, ⟨25, _⟩ => ⟨S16x256x512, .bf16⟩
  | .hbm, ⟨26, _⟩ => ⟨S16x2048x512, .bf16⟩
  | .hbm, ⟨27, _⟩ => ⟨S16x2304x512, .bf16⟩
  | .hbm, ⟨28, _⟩ => ⟨S16x256x512, .bf16⟩
  | .hbm, ⟨29, _⟩ => ⟨S16x2048x512, .bf16⟩
  | .hbm, ⟨30, _⟩ => ⟨S16x2304x3072, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x3072, .bf16⟩
  | .local _ .vmem, ⟨17, _⟩ => ⟨S1x256x3072, .bf16⟩
  | .local _ .vmem, ⟨18, _⟩ => ⟨S1x3x512x1024, .bf16⟩
  | .local _ .vmem, ⟨19, _⟩ => ⟨S1x1024x1024, .bf16⟩
  | .local _ .vmem, ⟨20, _⟩ => ⟨S1x1024, .f32⟩
  | .local _ .vmem, ⟨21, _⟩ => ⟨S1x1024, .f32⟩
  | .local _ .vmem, ⟨22, _⟩ => ⟨S1x1024x4096, .bf16⟩
  | .local _ .vmem, ⟨23, _⟩ => ⟨S1x4096x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.minsi v0 c0_i32_0
  let c0_i32_1 : BitVec 32 := 0#32
  let c0_i32_2 : BitVec 32 := 0#32
  ![arg0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c0_i32_0 : BitVec 32 := 0#32
  let c1_i32_1 : BitVec 32 := 1#32
  let v2 : BitVec 32 := Scalar.select v1 c0_i32_0 c1_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.minsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.minsi v0 c0_i32_0
  let c0_i32_1 : BitVec 32 := 0#32
  let c0_i32_2 : BitVec 32 := 0#32
  ![arg0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S16x256x1024 : Shape := ⟨3, ![16, 256, 1024]⟩
abbrev S16x2048x1024 : Shape := ⟨3, ![16, 2048, 1024]⟩
abbrev S6144 : Shape := ⟨1, ![6144]⟩
abbrev S16x6144 : Shape := ⟨2, ![16, 6144]⟩
abbrev S16x256x512 : Shape := ⟨3, ![16, 256, 512]⟩
abbrev S16x2048x512 : Shape := ⟨3, ![16, 2048, 512]⟩
abbrev S16x2304x512 : Shape := ⟨3, ![16, 2304, 512]⟩
abbrev S16x2304x3072 : Shape := ⟨3, ![16, 2304, 3072]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16x1x6144 : Shape := ⟨3, ![16, 1, 6144]⟩
abbrev S16x1x1024 : Shape := ⟨3, ![16, 1, 1024]⟩
abbrev S1024 : Shape := ⟨1, ![1024]⟩
abbrev S16x2048x3072 : Shape := ⟨3, ![16, 2048, 3072]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S16x2048x3x1024 : Shape := ⟨4, ![16, 2048, 3, 1024]⟩
abbrev S16x2048x1x512 : Shape := ⟨4, ![16, 2048, 1, 512]⟩
abbrev S16x2048x3x512 : Shape := ⟨4, ![16, 2048, 3, 512]⟩
abbrev S3x1024x16x2048 : Shape := ⟨4, ![3, 1024, 16, 2048]⟩
abbrev S_ : Shape := ⟨0, ![]⟩
abbrev S16x256x3072 : Shape := ⟨3, ![16, 256, 3072]⟩
abbrev S16x256x3x1024 : Shape := ⟨4, ![16, 256, 3, 1024]⟩
abbrev S16x256x1x512 : Shape := ⟨4, ![16, 256, 1, 512]⟩
abbrev S16x256x3x512 : Shape := ⟨4, ![16, 256, 3, 512]⟩
abbrev S3x1024x16x256 : Shape := ⟨4, ![3, 1024, 16, 256]⟩
abbrev S1x1024 : Shape := ⟨2, ![1, 1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x2048x4096 : Shape := ⟨3, ![16, 2048, 4096]⟩
abbrev S16x256 : Shape := ⟨2, ![16, 256]⟩
abbrev S16x256x1 : Shape := ⟨3, ![16, 256, 1]⟩
abbrev S16x256x4096 : Shape := ⟨3, ![16, 256, 4096]⟩
abbrev S16x2304x1024 : Shape := ⟨3, ![16, 2304, 1024]⟩

abbrev nBuf : Space → Nat
  | .hbm => 223
  | .vmem => 0
  | .smem => 0
  | _ => 0

abbrev hbmTy0_0 (i : Nat) : BufTy := match i % 128 with
  | 0 => ⟨S16x256x1024, .f32⟩
  | 1 => ⟨S16x2048x1024, .f32⟩
  | 2 => ⟨S6144, .f32⟩
  | 3 => ⟨S16x6144, .f32⟩
  | 4 => ⟨S16x256x512, .f32⟩
  | 5 => ⟨S16x2048x512, .f32⟩
  | 6 => ⟨S16x2304x512, .f32⟩
  | 7 => ⟨S16x256x512, .f32⟩
  | 8 => ⟨S16x2048x512, .f32⟩
  | 9 => ⟨S16x2304x3072, .f32⟩
  | 10 => ⟨S2x3x512x1024, .f32⟩
  | 11 => ⟨S2x1024x1024, .f32⟩
  | 12 => ⟨S2x1024, .f32⟩
  | 13 => ⟨S2x1024, .f32⟩
  | 14 => ⟨S2x1024x4096, .f32⟩
  | 15 => ⟨S2x4096x1024, .f32⟩
  | 16 => ⟨S2x1024, .f32⟩
  | 17 => ⟨S16x1x6144, .f32⟩
  | 18 => ⟨S16x1x1024, .f32⟩
  | 19 => ⟨S16x1x1024, .f32⟩
  | 20 => ⟨S16x1x1024, .f32⟩
  | 21 => ⟨S16x1x1024, .f32⟩
  | 22 => ⟨S16x1x1024, .f32⟩
  | 23 => ⟨S16x1x1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S16x2048x512, .f32⟩
  | 31 => ⟨S16x2048x3072, .f32⟩
  | 32 => ⟨S1x3x512x1024, .f32⟩
  | 33 => ⟨S3x512x1024, .f32⟩
  | 34 => ⟨S1x1024x1024, .f32⟩
  | 35 => ⟨S1024x1024, .f32⟩
  | 36 => ⟨S16x2048x3x1024, .f32⟩
  | 37 => ⟨S16x2048x1x512, .f32⟩
  | 38 => ⟨S16x2048x1x512, .f32⟩
  | 39 => ⟨S16x2048x1x512, .f32⟩
  | 40 => ⟨S16x2048x3x512, .f32⟩
  | 41 => ⟨S3x1024x16x2048, .f32⟩
  | 42 => ⟨S16x2048x3x1024, .f32⟩
  | 43 => ⟨S16x2048x3x1024, .f32⟩
  | 44 => ⟨S_, .f32⟩
  | 45 => ⟨S16x2048x1024, .f32⟩
  | 46 => ⟨S16x2048x1024, .f32⟩
  | 47 => ⟨S16x256x512, .f32⟩
  | 48 => ⟨S16x256x3072, .f32⟩
  | 49 => ⟨S1x3x512x1024, .f32⟩
  | 50 => ⟨S3x512x1024, .f32⟩
  | 51 => ⟨S1x1024x1024, .f32⟩
  | 52 => ⟨S1024x1024, .f32⟩
  | 53 => ⟨S16x256x3x1024, .f32⟩
  | 54 => ⟨S16x256x1x512, .f32⟩
  | 55 => ⟨S16x256x1x512, .f32⟩
  | 56 => ⟨S16x256x1x512, .f32⟩
  | 57 => ⟨S16x256x3x512, .f32⟩
  | 58 => ⟨S3x1024x16x256, .f32⟩
  | 59 => ⟨S16x256x3x1024, .f32⟩
  | 60 => ⟨S16x256x3x1024, .f32⟩
  | 61 => ⟨S_, .f32⟩
  | 62 => ⟨S16x256x1024, .f32⟩
  | 63 => ⟨S16x256x1024, .f32⟩
  | 64 => ⟨S1x1024, .f32⟩
  | 65 => ⟨S1024, .f32⟩
  | 66 => ⟨S16x2048x1024, .f32⟩
  | 67 => ⟨S_, .f32⟩
  | 68 => ⟨S16x2048, .f32⟩
  | 69 => ⟨S16x2048x1, .f32⟩
  | 70 => ⟨S_, .f32⟩
  | 71 => ⟨S16x2048x1, .f32⟩
  | 72 => ⟨S16x2048x1, .f32⟩
  | 73 => ⟨S_, .f32⟩
  | 74 => ⟨S16x2048x1, .f32⟩
  | 75 => ⟨S16x2048x1, .f32⟩
  | 76 => ⟨S16x2048x1, .f32⟩
  | 77 => ⟨S16x2048x1024, .f32⟩
  | 78 => ⟨S16x2048x1024, .f32⟩
  | 79 => ⟨S1x1x1024, .f32⟩
  | 80 => ⟨S16x2048x1024, .f32⟩
  | 81 => ⟨S16x2048x1024, .f32⟩
  | 82 => ⟨S16x2048x1024, .f32⟩
  | 83 => ⟨S16x2048x1024, .f32⟩
  | 84 => ⟨S16x2048x1024, .f32⟩
  | 85 => ⟨S1x1024, .f32⟩
  | 86 => ⟨S1024, .f32⟩
  | 87 => ⟨S16x2048x1024, .f32⟩
  | 88 => ⟨S_, .f32⟩
  | 89 => ⟨S16x2048, .f32⟩
  | 90 => ⟨S16x2048x1, .f32⟩
  | 91 => ⟨S_, .f32⟩
  | 92 => ⟨S16x2048x1, .f32⟩
  | 93 => ⟨S16x2048x1, .f32⟩
  | 94 => ⟨S_, .f32⟩
  | 95 => ⟨S16x2048x1, .f32⟩
  | 96 => ⟨S16x2048x1, .f32⟩
  | 97 => ⟨S16x2048x1, .f32⟩
  | 98 => ⟨S16x2048x1024, .f32⟩
  | 99 => ⟨S16x2048x1024, .f32⟩
  | 100 => ⟨S1x1x1024, .f32⟩
  | 101 => ⟨S16x2048x1024, .f32⟩
  | 102 => ⟨S16x2048x1024, .f32⟩
  | 103 => ⟨S_, .f32⟩
  | 104 => ⟨S16x1x1024, .f32⟩
  | 105 => ⟨S16x1x1024, .f32⟩
  | 106 => ⟨S16x2048x1024, .f32⟩
  | 107 => ⟨S16x2048x1024, .f32⟩
  | 108 => ⟨S16x2048x1024, .f32⟩
  | 109 => ⟨S16x2048x1024, .f32⟩
  | 110 => ⟨S1x1024x4096, .f32⟩
  | 111 => ⟨S1024x4096, .f32⟩
  | 112 => ⟨S1x4096x1024, .f32⟩
  | 113 => ⟨S4096x1024, .f32⟩
  | 114 => ⟨S16x2048x4096, .f32⟩
  | 115 => ⟨S_, .f32⟩
  | 116 => ⟨S16x2048x4096, .f32⟩
  | 117 => ⟨S16x2048x4096, .f32⟩
  | 118 => ⟨S16x2048x4096, .f32⟩
  | 119 => ⟨S16x2048x1024, .f32⟩
  | 120 => ⟨S1x1024, .f32⟩
  | 121 => ⟨S1024, .f32⟩
  | 122 => ⟨S16x2048x1024, .f32⟩
  | 123 => ⟨S_, .f32⟩
  | 124 => ⟨S16x2048, .f32⟩
  | 125 => ⟨S16x2048x1, .f32⟩
  | 126 => ⟨S_, .f32⟩
  | 127 => ⟨S16x2048x1, .f32⟩
  | _ => ⟨S16x256x1024, .f32⟩

abbrev hbmTy0_1 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S16x2048x1, .f32⟩
  | 5 => ⟨S16x2048x1024, .f32⟩
  | 6 => ⟨S16x2048x1024, .f32⟩
  | 7 => ⟨S1x1x1024, .f32⟩
  | 8 => ⟨S16x2048x1024, .f32⟩
  | 9 => ⟨S16x2048x1024, .f32⟩
  | 10 => ⟨S16x2048x1024, .f32⟩
  | 11 => ⟨S16x2048x1024, .f32⟩
  | 12 => ⟨S16x2048x1024, .f32⟩
  | 13 => ⟨S1x1024, .f32⟩
  | 14 => ⟨S1024, .f32⟩
  | 15 => ⟨S16x256x1024, .f32⟩
  | 16 => ⟨S_, .f32⟩
  | 17 => ⟨S16x256, .f32⟩
  | 18 => ⟨S16x256x1, .f32⟩
  | 19 => ⟨S_, .f32⟩
  | 20 => ⟨S16x256x1, .f32⟩
  | 21 => ⟨S16x256x1, .f32⟩
  | 22 => ⟨S_, .f32⟩
  | 23 => ⟨S16x256x1, .f32⟩
  | 24 => ⟨S16x256x1, .f32⟩
  | 25 => ⟨S16x256x1, .f32⟩
  | 26 => ⟨S16x256x1024, .f32⟩
  | 27 => ⟨S16x256x1024, .f32⟩
  | 28 => ⟨S1x1x1024, .f32⟩
  | 29 => ⟨S16x256x1024, .f32⟩
  | 30 => ⟨S16x256x1024, .f32⟩
  | 31 => ⟨S1x1x1024, .f32⟩
  | 32 => ⟨S16x256x1024, .f32⟩
  | 33 => ⟨S16x256x1024, .f32⟩
  | 34 => ⟨S16x256x1024, .f32⟩
  | 35 => ⟨S1x1024, .f32⟩
  | 36 => ⟨S1024, .f32⟩
  | 37 => ⟨S16x256x1024, .f32⟩
  | 38 => ⟨S_, .f32⟩
  | 39 => ⟨S16x256, .f32⟩
  | 40 => ⟨S16x256x1, .f32⟩
  | 41 => ⟨S_, .f32⟩
  | 42 => ⟨S16x256x1, .f32⟩
  | 43 => ⟨S16x256x1, .f32⟩
  | 44 => ⟨S_, .f32⟩
  | 45 => ⟨S16x256x1, .f32⟩
  | 46 => ⟨S16x256x1, .f32⟩
  | 47 => ⟨S16x256x1, .f32⟩
  | 48 => ⟨S16x256x1024, .f32⟩
  | 49 => ⟨S16x256x1024, .f32⟩
  | 50 => ⟨S1x1x1024, .f32⟩
  | 51 => ⟨S16x256x1024, .f32⟩
  | 52 => ⟨S16x256x1024, .f32⟩
  | 53 => ⟨S_, .f32⟩
  | 54 => ⟨S1024, .f32⟩
  | 55 => ⟨S1024, .f32⟩
  | 56 => ⟨S1x1x1024, .f32⟩
  | 57 => ⟨S16x256x1024, .f32⟩
  | 58 => ⟨S16x256x1024, .f32⟩
  | 59 => ⟨S1x1x1024, .f32⟩
  | 60 => ⟨S16x256x1024, .f32⟩
  | 61 => ⟨S16x256x1024, .f32⟩
  | 62 => ⟨S1x1024x4096, .f32⟩
  | 63 => ⟨S1024x4096, .f32⟩
  | 64 => ⟨S1x4096x1024, .f32⟩
  | 65 => ⟨S4096x1024, .f32⟩
  | 66 => ⟨S16x256x4096, .f32⟩
  | 67 => ⟨S_, .f32⟩
  | 68 => ⟨S16x256x4096, .f32⟩
  | 69 => ⟨S16x256x4096, .f32⟩
  | 70 => ⟨S16x256x4096, .f32⟩
  | 71 => ⟨S16x256x1024, .f32⟩
  | 72 => ⟨S1x1024, .f32⟩
  | 73 => ⟨S1024, .f32⟩
  | 74 => ⟨S16x256x1024, .f32⟩
  | 75 => ⟨S_, .f32⟩
  | 76 => ⟨S16x256, .f32⟩
  | 77 => ⟨S16x256x1, .f32⟩
  | 78 => ⟨S_, .f32⟩
  | 79 => ⟨S16x256x1, .f32⟩
  | 80 => ⟨S16x256x1, .f32⟩
  | 81 => ⟨S_, .f32⟩
  | 82 => ⟨S16x256x1, .f32⟩
  | 83 => ⟨S16x256x1, .f32⟩
  | 84 => ⟨S16x256x1, .f32⟩
  | 85 => ⟨S16x256x1024, .f32⟩
  | 86 => ⟨S16x256x1024, .f32⟩
  | 87 => ⟨S1x1x1024, .f32⟩
  | 88 => ⟨S16x256x1024, .f32⟩
  | 89 => ⟨S16x256x1024, .f32⟩
  | 90 => ⟨S1x1x1024, .f32⟩
  | 91 => ⟨S16x256x1024, .f32⟩
  | 92 => ⟨S16x256x1024, .f32⟩
  | 93 => ⟨S16x256x1024, .f32⟩
  | 94 => ⟨S16x2304x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_1 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_4 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_cst_6 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_7 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call0_cst : Ref sig .tc := ⟨.hbm, 115, rfl⟩
abbrev main_call0_v0 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_8 : Ref sig .tc := ⟨.hbm, 123, rfl⟩
abbrev main_v95 : Ref sig .tc := ⟨.hbm, 124, rfl⟩
abbrev main_v96 : Ref sig .tc := ⟨.hbm, 125, rfl⟩
abbrev main_cst_9 : Ref sig .tc := ⟨.hbm, 126, rfl⟩
abbrev main_v97 : Ref sig .tc := ⟨.hbm, 127, rfl⟩
abbrev main_v98 : Ref sig .tc := ⟨.hbm, 128, rfl⟩
abbrev main_cst_10 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_11 : Ref sig .tc := ⟨.hbm, 144, rfl⟩
abbrev main_v113 : Ref sig .tc := ⟨.hbm, 145, rfl⟩
abbrev main_v114 : Ref sig .tc := ⟨.hbm, 146, rfl⟩
abbrev main_cst_12 : Ref sig .tc := ⟨.hbm, 147, rfl⟩
abbrev main_v115 : Ref sig .tc := ⟨.hbm, 148, rfl⟩
abbrev main_v116 : Ref sig .tc := ⟨.hbm, 149, rfl⟩
abbrev main_cst_13 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_14 : Ref sig .tc := ⟨.hbm, 166, rfl⟩
abbrev main_v132 : Ref sig .tc := ⟨.hbm, 167, rfl⟩
abbrev main_v133 : Ref sig .tc := ⟨.hbm, 168, rfl⟩
abbrev main_cst_15 : Ref sig .tc := ⟨.hbm, 169, rfl⟩
abbrev main_v134 : Ref sig .tc := ⟨.hbm, 170, rfl⟩
abbrev main_v135 : Ref sig .tc := ⟨.hbm, 171, rfl⟩
abbrev main_cst_16 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_17 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_call1_cst : Ref sig .tc := ⟨.hbm, 195, rfl⟩
abbrev main_call1_v0 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_18 : Ref sig .tc := ⟨.hbm, 203, rfl⟩
abbrev main_v163 : Ref sig .tc := ⟨.hbm, 204, rfl⟩
abbrev main_v164 : Ref sig .tc := ⟨.hbm, 205, rfl⟩
abbrev main_cst_19 : Ref sig .tc := ⟨.hbm, 206, rfl⟩
abbrev main_v165 : Ref sig .tc := ⟨.hbm, 207, rfl⟩
abbrev main_v166 : Ref sig .tc := ⟨.hbm, 208, rfl⟩
abbrev main_cst_20 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩

abbrev nD : Nat := 1
abbrev τ : Topo := Topo.v7x

variable {F : FTy → Type} [FloatOps F]
-- ==== Kernel4.lean ====
abbrev S16x2304x512 : Shape := ⟨3, ![16, 2304, 512]⟩
abbrev S16x2304x128 : Shape := ⟨3, ![16, 2304, 128]⟩
abbrev S16x2304x768 : Shape := ⟨3, ![16, 2304, 768]⟩
abbrev S_ : Shape := ⟨0, ![]⟩
abbrev S16x2304x8x96 : Shape := ⟨4, ![16, 2304, 8, 96]⟩
abbrev S16x2304x8x32 : Shape := ⟨4, ![16, 2304, 8, 32]⟩
abbrev S16x2304x8x128 : Shape := ⟨4, ![16, 2304, 8, 128]⟩
abbrev S16x2304x1024 : Shape := ⟨3, ![16, 2304, 1024]⟩
abbrev S16x256x512 : Shape := ⟨3, ![16, 256, 512]⟩
abbrev S1x256x512 : Shape := ⟨3, ![1, 256, 512]⟩
abbrev S1x256x128 : Shape := ⟨3, ![1, 256, 128]⟩
abbrev S1x256x1024 : Shape := ⟨3, ![1, 256, 1024]⟩
abbrev S256x64 : Shape := ⟨2, ![256, 64]⟩
abbrev S1x256x64 : Shape := ⟨3, ![1, 256, 64]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 39
  | .vmem => 16
  | .smem => 0
  | _ => 0

abbrev bufTy : (tb : Table) → Fin (tcTables nBuf tb) → BufTy
  | .hbm, ⟨0, _⟩ => ⟨S16x2304x512, .f32⟩
  | .hbm, ⟨1, _⟩ => ⟨S16x2304x128, .f32⟩
  | .hbm, ⟨2, _⟩ => ⟨S16x2304x128, .f32⟩
  | .hbm, ⟨3, _⟩ => ⟨S16x2304x768, .f32⟩
  | .hbm, ⟨4, _⟩ => ⟨S16x2304x768, .f32⟩
  | .hbm, ⟨5, _⟩ => ⟨S16x2304x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x2304x512, .f32⟩
  | .hbm, ⟨18, _⟩ => ⟨S16x2304x512, .f32⟩
  | .hbm, ⟨19, _⟩ => ⟨S16x2304x512, .bf16⟩
  | .hbm, ⟨20, _⟩ => ⟨S16x2304x8x96, .f32⟩
  | .hbm, ⟨21, _⟩ => ⟨S_, .f32⟩
  | .hbm, ⟨22, _⟩ => ⟨S16x2304x8x32, .f32⟩
  | .hbm, ⟨23, _⟩ => ⟨S16x2304x8x128, .f32⟩
  | .hbm, ⟨24, _⟩ => ⟨S16x2304x1024, .f32⟩
  | .hbm, ⟨25, _⟩ => ⟨S16x2304x1024, .f32⟩
  | .hbm, ⟨26, _⟩ => ⟨S16x2304x1024, .f32⟩
  | .hbm, ⟨27, _⟩ => ⟨S16x2304x1024, .bf16⟩
  | .hbm, ⟨28, _⟩ => ⟨S16x2304x128, .bf16⟩
  | .hbm, ⟨29, _⟩ => ⟨S16x2304x8x96, .f32⟩
  | .hbm, ⟨30, _⟩ => ⟨S_, .f32⟩
  | .hbm, ⟨31, _⟩ => ⟨S16x2304x8x32, .f32⟩
  | .hbm, ⟨32, _⟩ => ⟨S16x2304x8x128, .f32⟩
  | .hbm, ⟨33, _⟩ => ⟨S16x2304x1024, .f32⟩
  | .hbm, ⟨34, _⟩ => ⟨S16x2304x1024, .bf16⟩
  | .hbm, ⟨35, _⟩ => ⟨S16x2304x128, .bf16⟩
  | .hbm, ⟨36, _⟩ => ⟨S16x2304x512, .bf16⟩
  | .hbm, ⟨37, _⟩ => ⟨S16x256x512, .bf16⟩
  | .hbm, ⟨38, _⟩ => ⟨S16x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | _, _ => ⟨S16x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x2304x512 : Shape := ⟨3, ![16, 2304, 512]⟩
abbrev S16x2304x128 : Shape := ⟨3, ![16, 2304, 128]⟩
abbrev S16x2304x768 : Shape := ⟨3, ![16, 2304, 768]⟩
abbrev S16x256x512 : Shape := ⟨3, ![16, 256, 512]⟩
abbrev S16x256x128 : Shape := ⟨3, ![16, 256, 128]⟩
abbrev S16x256x768 : Shape := ⟨3, ![16, 256, 768]⟩
abbrev S16x256x2x4x64 : Shape := ⟨5, ![16, 256, 2, 4, 64]⟩
abbrev S16x2x4x256x64 : Shape := ⟨5, ![16, 2, 4, 256, 64]⟩
abbrev S16x256x2x64 : Shape := ⟨4, ![16, 256, 2, 64]⟩
abbrev S16x2x256x64 : Shape := ⟨4, ![16, 2, 256, 64]⟩
abbrev S16x2x4x256x256 : Shape := ⟨5, ![16, 2, 4, 256, 256]⟩
abbrev S_ : Shape := ⟨0, ![]⟩
abbrev S16x2x4x256 : Shape := ⟨4, ![16, 2, 4, 256]⟩
abbrev S16x2x4x256x1 : Shape := ⟨5, ![16, 2, 4, 256, 1]⟩
abbrev S16x256x8x96 : Shape := ⟨4, ![16, 256, 8, 96]⟩
abbrev S16x8x256x96 : Shape := ⟨4, ![16, 8, 256, 96]⟩
abbrev S16x256x8x64 : Shape := ⟨4, ![16, 256, 8, 64]⟩
abbrev S16x8x256x64 : Shape := ⟨4, ![16, 8, 256, 64]⟩
abbrev S16x8x1x256x96 : Shape := ⟨5, ![16, 8, 1, 256, 96]⟩
abbrev S16x8x1x256x256 : Shape := ⟨5, ![16, 8, 1, 256, 256]⟩
abbrev S16x8x1x256 : Shape := ⟨4, ![16, 8, 1, 256]⟩
abbrev S16x8x1x256x1 : Shape := ⟨5, ![16, 8, 1, 256, 1]⟩
abbrev S16x8x1x256x64 : Shape := ⟨5, ![16, 8, 1, 256, 64]⟩
abbrev S16x256x8x1x64 : Shape := ⟨5, ![16, 256, 8, 1, 64]⟩

abbrev nBuf : Space → Nat
  | .hbm => 72
  | .vmem => 0
  | .smem => 0
  | _ => 0

abbrev bufTy : (tb : Table) → Fin (tcTables nBuf tb) → BufTy
  | .hbm, ⟨0, _⟩ => ⟨S16x2304x512, .f32⟩
  | .hbm, ⟨1, _⟩ => ⟨S16x2304x128, .f32⟩
  | .hbm, ⟨2, _⟩ => ⟨S16x2304x128, .f32⟩
  | .hbm, ⟨3, _⟩ => ⟨S16x2304x768, .f32⟩
  | .hbm, ⟨4, _⟩ => ⟨S16x2304x768, .f32⟩
  | .hbm, ⟨5, _⟩ => ⟨S16x2304x512, .f32⟩
  | .hbm, ⟨6, _⟩ => ⟨S16x256x512, .f32⟩
  | .hbm, ⟨7, _⟩ => ⟨S16x256x128, .f32⟩
  | .hbm, ⟨8, _⟩ => ⟨S16x256x128, .f32⟩
  | .hbm, ⟨9, _⟩ => ⟨S16x256x768, .f32⟩
  | .hbm, ⟨10, _⟩ => ⟨S16x256x768, .f32⟩
  | .hbm, ⟨11, _⟩ => ⟨S16x256x512, .f32⟩
  | .hbm, ⟨12, _⟩ => ⟨S16x256x2x4x64, .f32⟩
  | .hbm, ⟨13, _⟩ => ⟨S16x2x4x256x64, .f32⟩
  | .hbm, ⟨14, _⟩ => ⟨S16x256x2x64, .f32⟩
  | .hbm, ⟨15, _⟩ => ⟨S16x2x256x64, .f32⟩
  | .hbm, ⟨16, _⟩ => ⟨S16x256x2x64, .f32⟩
  | .hbm, ⟨17, _⟩ => ⟨S16x2x256x64, .f32⟩
  | .hbm, ⟨18, _⟩ => ⟨S16x2x4x256x256, .f32⟩
  | .hbm, ⟨19, _⟩ => ⟨S_, .f32⟩
  | .hbm, ⟨20, _⟩ => ⟨S16x2x4x256x256, .f32⟩
  | .hbm, ⟨21, _⟩ => ⟨S16x2x4x256x256, .f32⟩
  | .hbm, ⟨22, _⟩ => ⟨S_, .f32⟩
  | .hbm, ⟨23, _⟩ => ⟨S16x2x4x256, .f32⟩
  | .hbm, ⟨24, _⟩ => ⟨S_, .f32⟩
  | .hbm, ⟨25, _⟩ => ⟨S16x2x4x256, .f32⟩
  | .hbm, ⟨26, _⟩ => ⟨S16x2x4x256, .f32⟩
  | .hbm, ⟨27, _⟩ => ⟨S16x2x4x256x1, .f32⟩
  | .hbm, ⟨28, _⟩ => ⟨S16x2x4x256x256, .f32⟩
  | .hbm, ⟨29, _⟩ => ⟨S16x2x4x256x256, .f32⟩
  | .hbm, ⟨30, _⟩ => ⟨S16x2x4x256x256, .f32⟩
  | .hbm, ⟨31, _⟩ => ⟨S_, .f32⟩
  | .hbm, ⟨32, _⟩ => ⟨S16x2x4x256, .f32⟩
  | .hbm, ⟨33, _⟩ => ⟨S16x2x4x256x1, .f32⟩
  | .hbm, ⟨34, _⟩ => ⟨S16x2x4x256x256, .f32⟩
  | .hbm, ⟨35, _⟩ => ⟨S16x2x4x256x256, .f32⟩
  | .hbm, ⟨36, _⟩ => ⟨S16x2x4x256x64, .f32⟩
  | .hbm, ⟨37, _⟩ => ⟨S16x256x2x4x64, .f32⟩
  | .hbm, ⟨38, _⟩ => ⟨S16x256x512, .f32⟩
  | .hbm, ⟨39, _⟩ => ⟨S16x256x8x96, .f32⟩
  | .hbm, ⟨40, _⟩ => ⟨S16x8x256x96, .f32⟩
  | .hbm, ⟨41, _⟩ => ⟨S16x256x8x96, .f32⟩
  | .hbm, ⟨42, _⟩ => ⟨S16x8x256x96, .f32⟩
  | .hbm, ⟨43, _⟩ => ⟨S16x256x8x64, .f32⟩
  | .hbm, ⟨44, _⟩ => ⟨S16x8x256x64, .f32⟩
  | .hbm, ⟨45, _⟩ => ⟨S16x8x1x256x96, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16x8x1x256x256, .f32⟩
  | .hbm, ⟨51, _⟩ => ⟨S16x8x1x256x256, .f32⟩
  | .hbm, ⟨52, _⟩ => ⟨S16x8x1x256x256, .f32⟩
  | .hbm, ⟨53, _⟩ => ⟨S_, .f32⟩
  | .hbm, ⟨54, _⟩ => ⟨S16x8x1x256, .f32⟩
  | .hbm, ⟨55, _⟩ => ⟨S_, .f32⟩
  | .hbm, ⟨56, _⟩ => ⟨S16x8x1x256, .f32⟩
  | .hbm, ⟨57, _⟩ => ⟨S16x8x1x256, .f32⟩
  | .hbm, ⟨58, _⟩ => ⟨S16x8x1x256x1, .f32⟩
  | .hbm, ⟨59, _⟩ => ⟨S16x8x1x256x256, .f32⟩
  | .hbm, ⟨60, _⟩ => ⟨S16x8x1x256x256, .f32⟩
  | .hbm, ⟨61, _⟩ => ⟨S16x8x1x256x256, .f32⟩
  | .hbm, ⟨62, _⟩ => ⟨S_, .f32⟩
  | .hbm, ⟨63, _⟩ => ⟨S16x8x1x256, .f32⟩
  | .hbm, ⟨64, _⟩ => ⟨S16x8x1x256x1, .f32⟩
  | .hbm, ⟨65, _⟩ => ⟨S16x8x1x256x256, .f32⟩
  | .hbm, ⟨66, _⟩ => ⟨S16x8x1x256x256, .f32⟩
  | .hbm, ⟨67, _⟩ => ⟨S16x8x1x256x64, .f32⟩
  | .hbm, ⟨68, _⟩ => ⟨S16x256x8x1x64, .f32⟩
  | .hbm, ⟨69, _⟩ => ⟨S16x256x512, .f32⟩
  | .hbm, ⟨70, _⟩ => ⟨S16x256x512, .bf16⟩
  | .hbm, ⟨71, _⟩ => ⟨S16x256x512, .bf16⟩
  | _, _ => ⟨S16x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Kernel5.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 40
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S_, .f32⟩
  | .hbm, ⟨26, _⟩ => ⟨S24x1024, .f32⟩
  | .hbm, ⟨27, _⟩ => ⟨S24x1024, .f32⟩
  | .hbm, ⟨28, _⟩ => ⟨S24x1024, .f32⟩
  | .hbm, ⟨29, _⟩ => ⟨S1x1024x6144, .f32⟩
  | .hbm, ⟨30, _⟩ => ⟨S1024x6144, .f32⟩
  | .hbm, ⟨31, _⟩ => ⟨S24x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S24x6144, .f32⟩
  | .hbm, ⟨36, _⟩ => ⟨S24x6144, .f32⟩
  | .hbm, ⟨37, _⟩ => ⟨S1x24x6144, .f32⟩
  | .hbm, ⟨38, _⟩ => ⟨S1x24x6144, .f32⟩
  | .hbm, ⟨39, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.AttnRow.lean ====
/- One element of the attention as arithmetic over the extended reals: the kernel's base-2, divide-at-the-end form and the
   plain softmax are the same number when the scores are real. -/
module

public import Idealize.ShloMosaic.Lib.Pointwise

@[expose] public section

noncomputable section

namespace Cert.Attn

open Idealize.ShloMosaic

/-- The inner product of a query and a key. -/
def dotp {w : ℕ} (q k : Fin w → EReal) : EReal := ∑ e, q e * k e

/-- The largest score. -/
def top {n : ℕ} (s : Fin n → EReal) : EReal := Finset.univ.fold max ⊥ s

/-- The kernel's element: powers of two of the scores less the largest, the weighted sum divided by the plain sum. -/
def headK {n : ℕ} (s v : Fin n → EReal) : EReal :=
  Ideal.div (∑ j, Ideal.exp2 (s j - top s) * v j) (∑ j, Ideal.exp2 (s j - top s) * 1)

/-- The plain element: the softmax of the scores, then the weighted sum. -/
def headR {n : ℕ} (s v : Fin n → EReal) : EReal :=
  ∑ j, Ideal.div (Ideal.exp (s j - top s)) (∑ i, Ideal.exp (s i - top s)) * v j

/-- The largest of real numbers is one of them. -/
theorem top_coe {n : ℕ} (s : Fin n → ℝ) (j : Fin n) (h : ∀ i, s i ≤ s j) : top (fun i => (s i : EReal)) = s j := by
  refine le_antisymm ?_ ?_
  · exact Finset.sup_le fun i _ => EReal.coe_le_coe_iff.2 (h i)
  · exact Finset.le_sup (f := fun i => (s i : EReal)) (Finset.mem_univ j)

/-- A sum of reals. -/
theorem sum_coe {n : ℕ} (s : Fin n → ℝ) : ∑ j, (s j : EReal) = ((∑ j, s j : ℝ) : EReal) := by
  induction n with
  | zero => simp
  | succ n ih => rw [Fin.sum_univ_succ, Fin.sum_univ_succ, ih, EReal.coe_add]

/-- A nonnegative real factor moves into a sum of extended reals. -/
theorem sum_mul_coe {n : ℕ} (f : Fin n → EReal) (a : ℝ) (ha : 0 ≤ a) : (∑ j, f j) * (a : EReal) = ∑ j, f j * a := by
  induction n with
  | zero => simp
  | succ n ih =>
    rw [Fin.sum_univ_succ, Fin.sum_univ_succ, ← ih,
      EReal.right_distrib_of_nonneg_of_ne_top (EReal.coe_nonneg.2 ha) (EReal.coe_ne_top a)]

/-- A power of two of a number over `log 2` is the exponential. -/
theorem rpow_two (x : ℝ) : Real.rpow 2 (x * (1 / Real.log 2)) = Real.exp x := by
  show (2 : ℝ) ^ (x * (1 / Real.log 2)) = _
  rw [Real.rpow_def_of_pos (by norm_num)]
  have : Real.log 2 ≠ 0 := (Real.log_pos (by norm_num)).ne'
  congr 1
  field_simp

/-- With real scores, the kernel's element at the scores over `log 2` is the plain element at the scores. -/
theorem head_eq {n : ℕ} [NeZero n] (s : Fin n → ℝ) (v : Fin n → EReal) :
    headK (fun j => ((s j * (1 / Real.log 2) : ℝ) : EReal)) v = headR (fun j => (s j : EReal)) v := by
  obtain ⟨m, -, hm⟩ := Finset.exists_max_image Finset.univ s ⟨(0 : Fin n), Finset.mem_univ _⟩
  have hl : 0 < Real.log 2 := Real.log_pos (by norm_num)
  have hc : 0 ≤ 1 / Real.log 2 := (one_div_pos.2 hl).le
  have hp : ∀ j, Ideal.exp2 (((s j * (1 / Real.log 2) : ℝ) : EReal) - ((s m * (1 / Real.log 2) : ℝ) : EReal))
      = ((Real.exp (s j - s m) : ℝ) : EReal) := fun j => by
    rw [← EReal.coe_sub, ← sub_mul, Ideal.exp2_coe, rpow_two]
  have hq : ∀ j, Ideal.exp ((s j : EReal) - (s m : EReal)) = ((Real.exp (s j - s m) : ℝ) : EReal) := fun j => by
    rw [← EReal.coe_sub, Ideal.exp_coe]
  have hL : 0 < ∑ j, Real.exp (s j - s m) := Finset.sum_pos (fun j _ => Real.exp_pos _) ⟨(0 : Fin n), Finset.mem_univ _⟩
  unfold headK headR
  rw [top_coe _ m fun i => mul_le_mul_of_nonneg_right (hm i (Finset.mem_univ i)) hc,
    top_coe _ m fun i => hm i (Finset.mem_univ i)]
  simp only [hp, hq, mul_one]
  rw [sum_coe, Ideal.div_coe hL.ne', sum_mul_coe _ _ (one_div_pos.2 hL).le]
  refine Finset.sum_congr rfl fun j _ => ?_
  rw [Ideal.div_coe hL.ne', mul_right_comm]

/-- Scores of real queries scaled by `a / log 2` against real keys, and the plain scores scaled by `a`: the two elements
    agree. -/
theorem attn_eq {w n : ℕ} [NeZero n] (q : Fin w → EReal) (k : Fin n → Fin w → EReal) (v : Fin n → EReal) (a : ℝ)
    (hq : ∀ e, q e ≠ ⊤ ∧ q e ≠ ⊥) (hk : ∀ j e, k j e ≠ ⊤ ∧ k j e ≠ ⊥) :
    headK (fun j => dotp (fun e => q e * ((a * (1 / Real.log 2) : ℝ) : EReal)) (k j)) v
      = headR (fun j => dotp q (k j) * (a : EReal)) v := by
  lift q to Fin w → ℝ using hq
  obtain ⟨k, rfl⟩ : ∃ r : Fin n → Fin w → ℝ, k = fun j e => (r j e : EReal) :=
    ⟨fun j e => (k j e).toReal, funext fun j => funext fun e => (EReal.coe_toReal (hk j e).1 (hk j e).2).symm⟩
  have h1 : ∀ j, dotp (fun e => (q e : EReal) * ((a * (1 / Real.log 2) : ℝ) : EReal)) (fun e => (k j e : EReal))
      = (((∑ e, q e * k j e) * a * (1 / Real.log 2) : ℝ) : EReal) := fun j => by
    simp only [dotp, ← EReal.coe_mul]
    rw [sum_coe, Finset.sum_mul, Finset.sum_mul]
    refine congrArg _ (Finset.sum_congr rfl fun e _ => by ring)
  have h2 : ∀ j, dotp (fun e => (q e : EReal)) (fun e => (k j e : EReal)) * (a : EReal)
      = (((∑ e, q e * k j e) * a : ℝ) : EReal) := fun j => by
    simp only [dotp, ← EReal.coe_mul]
    rw [sum_coe, EReal.coe_mul]
  simp only [h1, h2]
  exact head_eq _ v

/-- Trailing zeros do not change an inner product. -/
theorem dotp_pad (q k : Fin 128 → EReal) (h : ∀ e : Fin 128, 96 ≤ e.val → q e = 0) :
    dotp q k = dotp (fun e : Fin 96 => q ⟨e.val, by omega⟩) (fun e => k ⟨e.val, by omega⟩) := by
  unfold dotp
  rw [show (∑ e : Fin 128, q e * k e) = ∑ e : Fin (96 + 32), q e * k e from rfl, Fin.sum_univ_add]
  rw [Finset.sum_eq_zero (s := Finset.univ) (f := fun e : Fin 32 => q (Fin.natAdd 96 e) * k (Fin.natAdd 96 e)), add_zero]
  · rfl
  · intro e _
    rw [h _ (by show 96 ≤ 96 + e.val; omega), zero_mul]

end Cert.Attn

end
-- ==== Proof.AttnPay.lean ====
/- The attention call's heads: every stored piece is one function of a query block, a key block and a value block. -/
module

public import proofs.«01_k».proof.Proof.Gen.KernelIdeal.Frame
public import Idealize.ShloMosaic.Lib.Pipeline.ValueKit
public import proofs.«01_k».proof.Proof.AttnRow

@[expose] public section

set_option maxRecDepth 16384

noncomputable section

namespace Cert.Attn

open Idealize.ShloMosaic Idealize.ShloMosaic.TcCoe Cert.KernelIdeal Cert.KernelIdeal.Gen

/-- A head from its scores. -/
def sm (v : Vec Ideal S1x2304x64 .bf16) (s : FVec Ideal S512x2304 .f32) : FVec Ideal S1x512x64 .bf16 :=
  k0_pay17 (F := Ideal) (k0_pay3 (F := Ideal) v) s
/-- A head of 64 lanes. -/
def hA (q : Vec Ideal S1x512x64 .bf16) (k v : Vec Ideal S1x2304x64 .bf16) : FVec Ideal S1x512x64 .bf16 :=
  sm v (k0_pay14 (F := Ideal) q k)
/-- A head of 128 lanes. -/
def hC (q : Vec Ideal S1x512x128 .bf16) (k : Vec Ideal S1x2304x128 .bf16) (v : Vec Ideal S1x2304x64 .bf16) :
    FVec Ideal S1x512x64 .bf16 :=
  sm v (k0_pay31 (F := Ideal) q k)

/-- The maximum starts at minus infinity. -/
theorem neg_inf : Ideal.ofBits .f32 0xFF800000#32 = ⊥ := by simp [Ideal.ofBits, Ideal.ieee]

/-- One element of a head from its scores. -/
theorem sm_apply (v : FVec Ideal S1x2304x64 .bf16) (s : FVec Ideal S512x2304 .f32) (r : Fin 512) (d : Fin 64) :
    sm v s (ix3 0 r d) = headK (fun j => s (ix2 r j)) (fun j => v (ix3 0 j d)) := by
  unfold sm
  pointwise [k0_pay17, k0_pay3, k0_pay2, headK, top]
  rw [neg_inf]
  rfl

/-- One element of a head of 64 lanes. -/
theorem hA_apply (q : FVec Ideal S1x512x64 .bf16) (k v : FVec Ideal S1x2304x64 .bf16) (r : Fin 512) (d : Fin 64) :
    hA q k v (ix3 0 r d)
      = headK (fun j => dotp (fun e => q (ix3 0 r e)) (fun e => k (ix3 0 j e))) (fun j => v (ix3 0 j d)) := by
  refine (sm_apply _ _ _ _).trans ?_
  have h : ∀ j, k0_pay14 (F := Ideal) q k (ix2 r j) = dotp (fun e => q (ix3 0 r e)) (fun e => k (ix3 0 j e)) := fun j => by
    pointwise [k0_pay14, dotp]
  simp only [h]

/-- One element of a head of 128 lanes. -/
theorem hC_apply (q : FVec Ideal S1x512x128 .bf16) (k : FVec Ideal S1x2304x128 .bf16) (v : FVec Ideal S1x2304x64 .bf16)
    (r : Fin 512) (d : Fin 64) :
    hC q k v (ix3 0 r d)
      = headK (fun j => dotp (fun e => q (ix3 0 r e)) (fun e => k (ix3 0 j e))) (fun j => v (ix3 0 j d)) := by
  refine (sm_apply _ _ _ _).trans ?_
  have h : ∀ j, k0_pay31 (F := Ideal) q k (ix2 r j) = dotp (fun e => q (ix3 0 r e)) (fun e => k (ix3 0 j e)) := fun j => by
    pointwise [k0_pay31, dotp]
  simp only [h]

end Cert.Attn

end
-- ==== Proof.AttnBlock.lean ====
/- What the attention call's body leaves in its two output tiles, element by element. -/
module

public import proofs.«01_k».proof.Proof.AttnPay

@[expose] public section

set_option maxRecDepth 16384

noncomputable section

namespace Cert.Attn

open Idealize.ShloMosaic Idealize.ShloMosaic.TcCoe Cert.KernelIdeal Cert.KernelIdeal.Gen

variable (x0 : FVec Ideal S1x512x512 .bf16) (x1 x2 : FVec Ideal S1x2304x128 .bf16) (x3 : FVec Ideal S1x512x1024 .bf16)
  (x4 : FVec Ideal S1x2304x1024 .bf16) (x5 : FVec Ideal S1x2304x512 .bf16)

/-- Element `d` of head `h` of row `r` of the first tile: four heads share a key and value head. -/
def tileA (r : Fin 512) (h : Fin 8) (d : Fin 64) : EReal :=
  headK (fun j => dotp (fun e : Fin 64 => x0 (ix3 0 r ⟨64 * h.val + e.val, by omega⟩))
      (fun e => x1 (ix3 0 j ⟨64 * (h.val / 4) + e.val, by omega⟩)))
    (fun j => x2 (ix3 0 j ⟨64 * (h.val / 4) + d.val, by omega⟩))

/-- Element `d` of head `h` of row `r` of the second tile. -/
def tileC (r : Fin 512) (h : Fin 8) (d : Fin 64) : EReal :=
  headK (fun j => dotp (fun e : Fin 128 => x3 (ix3 0 r ⟨128 * h.val + e.val, by omega⟩))
      (fun e => x4 (ix3 0 j ⟨128 * h.val + e.val, by omega⟩)))
    (fun j => x5 (ix3 0 j ⟨64 * h.val + d.val, by omega⟩))

/-- The first tile's stores are heads. -/
theorem out6_eq : out0_6 (F := Ideal) x0 x1 x2 x3 x4 x5 = View.canon [⟨r0_17, hA (View.ld x0 r0_17) (View.ld x1 r0_1) (View.ld x2 r0_1)⟩,
    ⟨r0_16, hA (View.ld x0 r0_16) (View.ld x1 r0_1) (View.ld x2 r0_1)⟩,
    ⟨r0_15, hA (View.ld x0 r0_15) (View.ld x1 r0_1) (View.ld x2 r0_1)⟩,
    ⟨r0_14, hA (View.ld x0 r0_14) (View.ld x1 r0_1) (View.ld x2 r0_1)⟩,
    ⟨r0_13, hA (View.ld x0 r0_13) (View.ld x1 r0_0) (View.ld x2 r0_0)⟩,
    ⟨r0_12, hA (View.ld x0 r0_12) (View.ld x1 r0_0) (View.ld x2 r0_0)⟩,
    ⟨r0_11, hA (View.ld x0 r0_11) (View.ld x1 r0_0) (View.ld x2 r0_0)⟩,
    ⟨r0_10, hA (View.ld x0 r0_10) (View.ld x1 r0_0) (View.ld x2 r0_0)⟩] := rfl

/-- The second tile's stores are heads. -/
theorem out7_eq : out0_7 (F := Ideal) x0 x1 x2 x3 x4 x5 = View.canon [⟨r0_17, hC (View.ld x3 r0_32) (View.ld x4 r0_33) (View.ld x5 r0_9)⟩,
    ⟨r0_16, hC (View.ld x3 r0_30) (View.ld x4 r0_31) (View.ld x5 r0_8)⟩,
    ⟨r0_15, hC (View.ld x3 r0_28) (View.ld x4 r0_29) (View.ld x5 r0_7)⟩,
    ⟨r0_14, hC (View.ld x3 r0_26) (View.ld x4 r0_27) (View.ld x5 r0_6)⟩,
    ⟨r0_13, hC (View.ld x3 r0_24) (View.ld x4 r0_25) (View.ld x5 r0_5)⟩,
    ⟨r0_12, hC (View.ld x3 r0_22) (View.ld x4 r0_23) (View.ld x5 r0_4)⟩,
    ⟨r0_11, hC (View.ld x3 r0_20) (View.ld x4 r0_21) (View.ld x5 r0_3)⟩,
    ⟨r0_10, hC (View.ld x3 r0_18) (View.ld x4 r0_19) (View.ld x5 r0_2)⟩] := rfl

/-- The first tile, element by element. -/
theorem outA_apply (r : Fin 512) (h : Fin 8) (d : Fin 64) :
    out0_6 (F := Ideal) x0 x1 x2 x3 x4 x5 (ix3 0 r ⟨64 * h.val + d.val, by omega⟩) = tileA x0 x1 x2 r h d := by
  rw [out6_eq]
  canon_tiles x p
  · have q2 : 64 * h.val + d.val = 448 + ((x 2 : Fin _) : Nat) := p2
    have l2 : ((x 2 : Fin _) : Nat) < 64 := x2_lt
    clear p2
    obtain rfl : h = 7 := by
      apply Fin.ext
      show h.val = 7
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 448 + d.val = 448 + ((x 2 : Fin _) : Nat) := q2
        omega
    rw [hA_apply]
    pointwise [tileA]
  · have q2 : 64 * h.val + d.val = 384 + ((x 2 : Fin _) : Nat) := p2
    have l2 : ((x 2 : Fin _) : Nat) < 64 := x2_lt
    clear p2
    obtain rfl : h = 6 := by
      apply Fin.ext
      show h.val = 6
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 384 + d.val = 384 + ((x 2 : Fin _) : Nat) := q2
        omega
    rw [hA_apply]
    pointwise [tileA]
  · have q2 : 64 * h.val + d.val = 320 + ((x 2 : Fin _) : Nat) := p2
    have l2 : ((x 2 : Fin _) : Nat) < 64 := x2_lt
    clear p2
    obtain rfl : h = 5 := by
      apply Fin.ext
      show h.val = 5
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 320 + d.val = 320 + ((x 2 : Fin _) : Nat) := q2
        omega
    rw [hA_apply]
    pointwise [tileA]
  · have q2 : 64 * h.val + d.val = 256 + ((x 2 : Fin _) : Nat) := p2
    have l2 : ((x 2 : Fin _) : Nat) < 64 := x2_lt
    clear p2
    obtain rfl : h = 4 := by
      apply Fin.ext
      show h.val = 4
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 256 + d.val = 256 + ((x 2 : Fin _) : Nat) := q2
        omega
    rw [hA_apply]
    pointwise [tileA]
  · have q2 : 64 * h.val + d.val = 192 + ((x 2 : Fin _) : Nat) := p2
    have l2 : ((x 2 : Fin _) : Nat) < 64 := x2_lt
    clear p2
    obtain rfl : h = 3 := by
      apply Fin.ext
      show h.val = 3
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 192 + d.val = 192 + ((x 2 : Fin _) : Nat) := q2
        omega
    rw [hA_apply]
    pointwise [tileA]
  · have q2 : 64 * h.val + d.val = 128 + ((x 2 : Fin _) : Nat) := p2
    have l2 : ((x 2 : Fin _) : Nat) < 64 := x2_lt
    clear p2
    obtain rfl : h = 2 := by
      apply Fin.ext
      show h.val = 2
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 128 + d.val = 128 + ((x 2 : Fin _) : Nat) := q2
        omega
    rw [hA_apply]
    pointwise [tileA]
  · have q2 : 64 * h.val + d.val = 64 + ((x 2 : Fin _) : Nat) := p2
    have l2 : ((x 2 : Fin _) : Nat) < 64 := x2_lt
    clear p2
    obtain rfl : h = 1 := by
      apply Fin.ext
      show h.val = 1
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 64 + d.val = 64 + ((x 2 : Fin _) : Nat) := q2
        omega
    rw [hA_apply]
    pointwise [tileA]
  · have q2 : 64 * h.val + d.val = 0 + ((x 2 : Fin _) : Nat) := p2.trans (Nat.zero_add _).symm
    have l2 : ((x 2 : Fin _) : Nat) < 64 := x2_lt
    clear p2
    obtain rfl : h = 0 := by
      apply Fin.ext
      show h.val = 0
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 0 + d.val = 0 + ((x 2 : Fin _) : Nat) := q2
        omega
    rw [hA_apply]
    pointwise [tileA]

/-- The second tile, element by element. -/
theorem outC_apply (r : Fin 512) (h : Fin 8) (d : Fin 64) :
    out0_7 (F := Ideal) x0 x1 x2 x3 x4 x5 (ix3 0 r ⟨64 * h.val + d.val, by omega⟩) = tileC x3 x4 x5 r h d := by
  rw [out7_eq]
  canon_tiles x p
  · have q2 : 64 * h.val + d.val = 448 + ((x 2 : Fin _) : Nat) := p2
    have l2 : ((x 2 : Fin _) : Nat) < 64 := x2_lt
    clear p2
    obtain rfl : h = 7 := by
      apply Fin.ext
      show h.val = 7
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 448 + d.val = 448 + ((x 2 : Fin _) : Nat) := q2
        omega
    rw [hC_apply]
    pointwise [tileC]
  · have q2 : 64 * h.val + d.val = 384 + ((x 2 : Fin _) : Nat) := p2
    have l2 : ((x 2 : Fin _) : Nat) < 64 := x2_lt
    clear p2
    obtain rfl : h = 6 := by
      apply Fin.ext
      show h.val = 6
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 384 + d.val = 384 + ((x 2 : Fin _) : Nat) := q2
        omega
    rw [hC_apply]
    pointwise [tileC]
  · have q2 : 64 * h.val + d.val = 320 + ((x 2 : Fin _) : Nat) := p2
    have l2 : ((x 2 : Fin _) : Nat) < 64 := x2_lt
    clear p2
    obtain rfl : h = 5 := by
      apply Fin.ext
      show h.val = 5
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 320 + d.val = 320 + ((x 2 : Fin _) : Nat) := q2
        omega
    rw [hC_apply]
    pointwise [tileC]
  · have q2 : 64 * h.val + d.val = 256 + ((x 2 : Fin _) : Nat) := p2
    have l2 : ((x 2 : Fin _) : Nat) < 64 := x2_lt
    clear p2
    obtain rfl : h = 4 := by
      apply Fin.ext
      show h.val = 4
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 256 + d.val = 256 + ((x 2 : Fin _) : Nat) := q2
        omega
    rw [hC_apply]
    pointwise [tileC]
  · have q2 : 64 * h.val + d.val = 192 + ((x 2 : Fin _) : Nat) := p2
    have l2 : ((x 2 : Fin _) : Nat) < 64 := x2_lt
    clear p2
    obtain rfl : h = 3 := by
      apply Fin.ext
      show h.val = 3
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 192 + d.val = 192 + ((x 2 : Fin _) : Nat) := q2
        omega
    rw [hC_apply]
    pointwise [tileC]
  · have q2 : 64 * h.val + d.val = 128 + ((x 2 : Fin _) : Nat) := p2
    have l2 : ((x 2 : Fin _) : Nat) < 64 := x2_lt
    clear p2
    obtain rfl : h = 2 := by
      apply Fin.ext
      show h.val = 2
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 128 + d.val = 128 + ((x 2 : Fin _) : Nat) := q2
        omega
    rw [hC_apply]
    pointwise [tileC]
  · have q2 : 64 * h.val + d.val = 64 + ((x 2 : Fin _) : Nat) := p2
    have l2 : ((x 2 : Fin _) : Nat) < 64 := x2_lt
    clear p2
    obtain rfl : h = 1 := by
      apply Fin.ext
      show h.val = 1
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 64 + d.val = 64 + ((x 2 : Fin _) : Nat) := q2
        omega
    rw [hC_apply]
    pointwise [tileC]
  · have q2 : 64 * h.val + d.val = 0 + ((x 2 : Fin _) : Nat) := p2.trans (Nat.zero_add _).symm
    have l2 : ((x 2 : Fin _) : Nat) < 64 := x2_lt
    clear p2
    obtain rfl : h = 0 := by
      apply Fin.ext
      show h.val = 0
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 0 + d.val = 0 + ((x 2 : Fin _) : Nat) := q2
        omega
    rw [hC_apply]
    pointwise [tileC]

end Cert.Attn

end
-- ==== Proof.AttnRef.lean ====
/- The plain attentions, element by element. -/
module

public import proofs.«01_k».proof.Proof.Gen.ReferenceIdeal.Run
public import Idealize.ShloMosaic.Lib.Pipeline.ValueKit
public import proofs.«01_k».proof.Proof.AttnRow

@[expose] public section

set_option maxRecDepth 16384

noncomputable section

namespace Cert.Attn

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The maximum starts at minus infinity. -/
theorem neg_inf' : Ideal.ofBits .f32 0xFF800000#32 = ⊥ := by simp [Ideal.ofBits, Ideal.ieee]

/-- The host's maximum along the last of five axes. -/
theorem host_max {n0 n1 n2 n3 n4 : ℕ} (h : (⟨5, ![n0, n1, n2, n3, n4]⟩ : Shape).ReducesTo [4] ⟨4, ![n0, n1, n2, n3]⟩)
    (s : FVec Ideal ⟨5, ![n0, n1, n2, n3, n4]⟩ .f32) (init : FVec Ideal S_ .f32) (hu : 0 < S_.numel)
    (hi : ∀ i, init i = ⊥) (b : Fin n0) (u : Fin n1) (g : Fin n2) (n : Fin n3) :
    Host.reduce FloatOps.maximumf s init h hu (ix4 b u g n) = top fun i => s (ix5 b u g n i) := by
  rw [Host.reduce_eq_fold]
  refine (Shape.ReducesTo.fold_fiber_r5_a4 h (ix4 b u g n) _ _ _).trans ?_
  rw [hi]
  rfl
/-- The first attention's element: head `h`, lane `d`, latent token `n` of batch entry `b`. -/
def REFA (q : FVec Ideal S16x2304x512 .f32) (k v : FVec Ideal S16x2304x128 .f32) (b : Fin 16) (n : Fin 2048) (h : Fin 8)
    (d : Fin 64) : EReal :=
  headR (fun j => dotp (fun e : Fin 64 => q (ix3 b ⟨256 + n.val, by omega⟩ ⟨64 * h.val + e.val, by omega⟩))
      (fun e => k (ix3 b j ⟨64 * (h.val / 4) + e.val, by omega⟩)) * Ideal.ofBits .f32 0x3E000000#32)
    (fun j => v (ix3 b j ⟨64 * (h.val / 4) + d.val, by omega⟩))

/-- The second attention's element. -/
def REFC (q k : FVec Ideal S16x2304x768 .f32) (v : FVec Ideal S16x2304x512 .f32) (b : Fin 16) (n : Fin 2048) (h : Fin 8)
    (d : Fin 64) : EReal :=
  headR (fun j => dotp (fun e : Fin 96 => q (ix3 b ⟨256 + n.val, by omega⟩ ⟨96 * h.val + e.val, by omega⟩))
      (fun e => k (ix3 b j ⟨96 * h.val + e.val, by omega⟩)) * Ideal.div 1 (Ideal.sqrt (Ideal.ofBits .f32 0x42C00000#32)))
    (fun j => v (ix3 b j ⟨64 * h.val + d.val, by omega⟩))

/-- The first result's term. -/
def YA : FVec Ideal S16x2048x512 .bf16 := Value.res_main_v51 m c
/-- The second result's term. -/
def YC : FVec Ideal S16x2048x512 .bf16 := Value.res_main_v52 m c

/-- The scores of the first attention. -/
def scA (q : FVec Ideal S16x2304x512 .f32) (k : FVec Ideal S16x2304x128 .f32) : FVec Ideal S16x2x4x2048x2304 .f32 :=
  mulf (Host.dotGeneral dot_S16x2x4x2048x64_S16x2x2304x64_S16x2x4x2048x2304_4_3_23_2_01_01 none (transpose S16x2x4x2048x64 [0, 2, 3, 1, 4] (shapeCast _ (extractStridedSlice S16x2048x512 ![0, 256, 0] q slices_S16x2304x512_S16x2048x512_0_256_0) shapeCasts_S16x2048x512_S16x2048x2x4x64) transposes_S16x2048x2x4x64_S16x2x4x2048x64_0_2_3_1_4) (transpose S16x2x2304x64 [0, 2, 1, 3] (shapeCast _ k shapeCasts_S16x2304x128_S16x2304x2x64) transposes_S16x2304x2x64_S16x2x2304x64_0_2_1_3)) (broadcastInDim S16x2x4x2048x2304 ![] bcast_S_S16x2x4x2048x2304 (constant S_ .f32 0x3E000000#32))

/-- The values of the first attention, heads first. -/
def vtA (v : FVec Ideal S16x2304x128 .f32) : FVec Ideal S16x2x2304x64 .f32 :=
  transpose S16x2x2304x64 [0, 2, 1, 3] (shapeCast _ v shapeCasts_S16x2304x128_S16x2304x2x64) transposes_S16x2304x2x64_S16x2x2304x64_0_2_1_3

/-- The largest score of each query. -/
def mxA (s : FVec Ideal S16x2x4x2048x2304 .f32) : FVec Ideal S16x2x4x2048 .f32 :=
  Host.reduce FloatOps.maximumf s (constant S_ .f32 0xFF800000#32) reducesTo_S16x2x4x2048x2304_S16x2x4x2048_d4 h_S_

/-- One largest score. -/
theorem mxA_apply (s : FVec Ideal S16x2x4x2048x2304 .f32) (b : Fin 16) (u : Fin 2) (g : Fin 4) (n : Fin 2048) :
    mxA s (ix4 b u g n) = top fun i => s (ix5 b u g n i) :=
  host_max reducesTo_S16x2x4x2048x2304_S16x2x4x2048_d4 s _ h_S_ (fun _ => neg_inf') b u g n

/-- The exponentials of the scores less the largest. -/
def exA (s : FVec Ideal S16x2x4x2048x2304 .f32) (t : FVec Ideal S16x2x4x2048 .f32) : FVec Ideal S16x2x4x2048x2304 .f32 :=
  Host.exp (subf s (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) t))))

/-- The softmax weights from the exponentials. -/
def wtA (p : FVec Ideal S16x2x4x2048x2304 .f32) : FVec Ideal S16x2x4x2048x2304 .f32 :=
  Host.divf p (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd p (constant S_ .f32 0x00000000#32) reducesTo_S16x2x4x2048x2304_S16x2x4x2048_d4 h_S_)))

/-- The weighted sums of the values, heads merged. -/
def otA (p : FVec Ideal S16x2x4x2048x2304 .f32) (v : FVec Ideal S16x2x2304x64 .f32) : FVec Ideal S16x2048x512 .bf16 :=
  truncf .bf16 (shapeCast _ (transpose S16x2048x2x4x64 [0, 3, 1, 2, 4] (Host.dotGeneral dot_S16x2x4x2048x2304_S16x2x2304x64_S16x2x4x2048x64_4_2_23_3_01_01 none p v) transposes_S16x2x4x2048x64_S16x2048x2x4x64_0_3_1_2_4) shapeCasts_S16x2048x2x4x64_S16x2048x512) bitsLt_bf16_f32

/-- The first result is those steps in order. -/
theorem YA_eq : YA m c = otA (wtA (exA (scA (m ((c.tc : Thread nD τ).loc main_arg0)) (m ((c.tc : Thread nD τ).loc main_arg1)))
      (mxA (scA (m ((c.tc : Thread nD τ).loc main_arg0)) (m ((c.tc : Thread nD τ).loc main_arg1))))))
    (vtA (m ((c.tc : Thread nD τ).loc main_arg2))) := rfl

/-- One score. -/
theorem scA_apply (q : FVec Ideal S16x2304x512 .f32) (k : FVec Ideal S16x2304x128 .f32) (b : Fin 16) (u : Fin 2) (g : Fin 4) (n : Fin 2048) (j : Fin 2304) :
    scA q k (ix5 b u g n j)
      = dotp (fun e : Fin 64 => q (ix3 b ⟨256 + n.val, by omega⟩ ⟨u.val * 256 + g.val * 64 + e.val, by omega⟩)) (fun e => k (ix3 b j ⟨u.val * 64 + e.val, by omega⟩))
        * Ideal.ofBits .f32 0x3E000000#32 := by
  pointwise [scA, dotp]

/-- One value. -/
theorem vtA_apply (v : FVec Ideal S16x2304x128 .f32) (b : Fin 16) (u : Fin 2) (j : Fin 2304) (d : Fin 64) :
    vtA v (ix4 b u j d) = v (ix3 b j ⟨u.val * 64 + d.val, by omega⟩) := by
  pointwise [vtA]

/-- One exponential. -/
theorem exA_apply (s : FVec Ideal S16x2x4x2048x2304 .f32) (t : FVec Ideal S16x2x4x2048 .f32) (b : Fin 16) (u : Fin 2) (g : Fin 4) (n : Fin 2048) (j : Fin 2304) :
    exA s t (ix5 b u g n j) = Ideal.exp (s (ix5 b u g n j) - t (ix4 b u g n)) := by
  pointwise [exA]
  rw [neg_inf', bot_sup_eq]

/-- One weight. -/
theorem wtA_apply (p : FVec Ideal S16x2x4x2048x2304 .f32) (b : Fin 16) (u : Fin 2) (g : Fin 4) (n : Fin 2048) (j : Fin 2304) :
    wtA p (ix5 b u g n j) = Ideal.div (p (ix5 b u g n j)) (∑ i, p (ix5 b u g n i)) := by
  pointwise [wtA]

/-- One weighted sum. -/
theorem otA_apply (p : FVec Ideal S16x2x4x2048x2304 .f32) (v : FVec Ideal S16x2x2304x64 .f32) (b : Fin 16) (n : Fin 2048) (h : Fin 8) (d : Fin 64) :
    otA p v (ix3 b n ⟨64 * h.val + d.val, by omega⟩)
      = ∑ j, p (ix5 b ⟨h.val / 4, by omega⟩ ⟨h.val % 4, by omega⟩ n j) * v (ix4 b ⟨h.val / 4, by omega⟩ j d) := by
  pointwise [otA]
  simp only [show (64 * h.val + d.val) / 256 = h.val / 4 by omega, show (64 * h.val + d.val) / 64 % 4 = h.val % 4 by omega]

/-- The first result, element by element. -/
theorem refA_apply (b : Fin 16) (n : Fin 2048) (h : Fin 8) (d : Fin 64) :
    YA m c (ix3 b n ⟨64 * h.val + d.val, by omega⟩)
      = REFA (m ((c.tc : Thread nD τ).loc main_arg0)) (m ((c.tc : Thread nD τ).loc main_arg1))
          (m ((c.tc : Thread nD τ).loc main_arg2)) b n h d := by
  rw [YA_eq, otA_apply]
  simp only [wtA_apply, exA_apply, mxA_apply, scA_apply, vtA_apply, REFA, headR,
    show ∀ e, h.val / 4 * 256 + h.val % 4 * 64 + e = 64 * h.val + e by omega, show ∀ e, h.val / 4 * 64 + e = 64 * (h.val / 4) + e by omega]

/-- The scores of the second attention. -/
def scC (q : FVec Ideal S16x2304x768 .f32) (k : FVec Ideal S16x2304x768 .f32) : FVec Ideal S16x8x1x2048x2304 .f32 :=
  mulf (Host.dotGeneral dot_S16x8x1x2048x96_S16x8x2304x96_S16x8x1x2048x2304_4_3_23_2_01_01 none (broadcastInDim S16x8x1x2048x96 ![0, 1, 3, 4] bcast_S16x8x2048x96_S16x8x1x2048x96_0_1_3_4 (transpose S16x8x2048x96 [0, 2, 1, 3] (shapeCast _ (extractStridedSlice S16x2048x768 ![0, 256, 0] q slices_S16x2304x768_S16x2048x768_0_256_0) shapeCasts_S16x2048x768_S16x2048x8x96) transposes_S16x2048x8x96_S16x8x2048x96_0_2_1_3)) (transpose S16x8x2304x96 [0, 2, 1, 3] (shapeCast _ k shapeCasts_S16x2304x768_S16x2304x8x96) transposes_S16x2304x8x96_S16x8x2304x96_0_2_1_3)) (broadcastInDim S16x8x1x2048x2304 ![] bcast_S_S16x8x1x2048x2304 (Host.divf (constant S_ .f32 0x3F800000#32) (Host.sqrt (constant S_ .f32 0x42C00000#32))))

/-- The values of the second attention, heads first. -/
def vtC (v : FVec Ideal S16x2304x512 .f32) : FVec Ideal S16x8x2304x64 .f32 :=
  transpose S16x8x2304x64 [0, 2, 1, 3] (shapeCast _ v shapeCasts_S16x2304x512_S16x2304x8x64) transposes_S16x2304x8x64_S16x8x2304x64_0_2_1_3

/-- The largest score of each query. -/
def mxC (s : FVec Ideal S16x8x1x2048x2304 .f32) : FVec Ideal S16x8x1x2048 .f32 :=
  Host.reduce FloatOps.maximumf s (constant S_ .f32 0xFF800000#32) reducesTo_S16x8x1x2048x2304_S16x8x1x2048_d4 h_S_

/-- One largest score. -/
theorem mxC_apply (s : FVec Ideal S16x8x1x2048x2304 .f32) (b : Fin 16) (u : Fin 8) (n : Fin 2048) :
    mxC s (ix4 b u 0 n) = top fun i => s (ix5 b u 0 n i) :=
  host_max reducesTo_S16x8x1x2048x2304_S16x8x1x2048_d4 s _ h_S_ (fun _ => neg_inf') b u 0 n

/-- The exponentials of the scores less the largest. -/
def exC (s : FVec Ideal S16x8x1x2048x2304 .f32) (t : FVec Ideal S16x8x1x2048 .f32) : FVec Ideal S16x8x1x2048x2304 .f32 :=
  Host.exp (subf s (broadcastInDim S16x8x1x2048x2304 ![0, 1, 2, 3, 4] bcast_S16x8x1x2048x1_S16x8x1x2048x2304_0_1_2_3_4 (broadcastInDim S16x8x1x2048x1 ![0, 1, 2, 3] bcast_S16x8x1x2048_S16x8x1x2048x1_0_1_2_3 (maximumf (broadcastInDim S16x8x1x2048 ![] bcast_S_S16x8x1x2048 (constant S_ .f32 0xFF800000#32)) t))))

/-- The softmax weights from the exponentials. -/
def wtC (p : FVec Ideal S16x8x1x2048x2304 .f32) : FVec Ideal S16x8x1x2048x2304 .f32 :=
  Host.divf p (broadcastInDim S16x8x1x2048x2304 ![0, 1, 2, 3, 4] bcast_S16x8x1x2048x1_S16x8x1x2048x2304_0_1_2_3_4 (broadcastInDim S16x8x1x2048x1 ![0, 1, 2, 3] bcast_S16x8x1x2048_S16x8x1x2048x1_0_1_2_3 (Host.reduceAdd p (constant S_ .f32 0x00000000#32) reducesTo_S16x8x1x2048x2304_S16x8x1x2048_d4 h_S_)))

/-- The weighted sums of the values, heads merged. -/
def otC (p : FVec Ideal S16x8x1x2048x2304 .f32) (v : FVec Ideal S16x8x2304x64 .f32) : FVec Ideal S16x2048x512 .bf16 :=
  truncf .bf16 (shapeCast _ (transpose S16x2048x8x1x64 [0, 3, 1, 2, 4] (Host.dotGeneral dot_S16x8x1x2048x2304_S16x8x2304x64_S16x8x1x2048x64_4_2_23_3_01_01 none p v) transposes_S16x8x1x2048x64_S16x2048x8x1x64_0_3_1_2_4) shapeCasts_S16x2048x8x1x64_S16x2048x512) bitsLt_bf16_f32

/-- The second result is those steps in order. -/
theorem YC_eq : YC m c = otC (wtC (exC (scC (m ((c.tc : Thread nD τ).loc main_arg3)) (m ((c.tc : Thread nD τ).loc main_arg4)))
      (mxC (scC (m ((c.tc : Thread nD τ).loc main_arg3)) (m ((c.tc : Thread nD τ).loc main_arg4))))))
    (vtC (m ((c.tc : Thread nD τ).loc main_arg5))) := rfl

/-- One score. -/
theorem scC_apply (q : FVec Ideal S16x2304x768 .f32) (k : FVec Ideal S16x2304x768 .f32) (b : Fin 16) (u : Fin 8) (n : Fin 2048) (j : Fin 2304) :
    scC q k (ix5 b u 0 n j)
      = dotp (fun e : Fin 96 => q (ix3 b ⟨256 + n.val, by omega⟩ ⟨u.val * 96 + e.val, by omega⟩)) (fun e => k (ix3 b j ⟨u.val * 96 + e.val, by omega⟩))
        * Ideal.div 1 (Ideal.sqrt (Ideal.ofBits .f32 0x42C00000#32)) := by
  pointwise [scC, dotp]

/-- One value. -/
theorem vtC_apply (v : FVec Ideal S16x2304x512 .f32) (b : Fin 16) (u : Fin 8) (j : Fin 2304) (d : Fin 64) :
    vtC v (ix4 b u j d) = v (ix3 b j ⟨u.val * 64 + d.val, by omega⟩) := by
  pointwise [vtC]

/-- One exponential. -/
theorem exC_apply (s : FVec Ideal S16x8x1x2048x2304 .f32) (t : FVec Ideal S16x8x1x2048 .f32) (b : Fin 16) (u : Fin 8) (n : Fin 2048) (j : Fin 2304) :
    exC s t (ix5 b u 0 n j) = Ideal.exp (s (ix5 b u 0 n j) - t (ix4 b u 0 n)) := by
  pointwise [exC]
  rw [neg_inf', bot_sup_eq]

/-- One weight. -/
theorem wtC_apply (p : FVec Ideal S16x8x1x2048x2304 .f32) (b : Fin 16) (u : Fin 8) (n : Fin 2048) (j : Fin 2304) :
    wtC p (ix5 b u 0 n j) = Ideal.div (p (ix5 b u 0 n j)) (∑ i, p (ix5 b u 0 n i)) := by
  pointwise [wtC]

/-- One weighted sum. -/
theorem otC_apply (p : FVec Ideal S16x8x1x2048x2304 .f32) (v : FVec Ideal S16x8x2304x64 .f32) (b : Fin 16) (n : Fin 2048) (h : Fin 8) (d : Fin 64) :
    otC p v (ix3 b n ⟨64 * h.val + d.val, by omega⟩)
      = ∑ j, p (ix5 b h 0 n j) * v (ix4 b h j d) := by
  pointwise [otC]

/-- The second result, element by element. -/
theorem refC_apply (b : Fin 16) (n : Fin 2048) (h : Fin 8) (d : Fin 64) :
    YC m c (ix3 b n ⟨64 * h.val + d.val, by omega⟩)
      = REFC (m ((c.tc : Thread nD τ).loc main_arg3)) (m ((c.tc : Thread nD τ).loc main_arg4))
          (m ((c.tc : Thread nD τ).loc main_arg5)) b n h d := by
  rw [YC_eq, otC_apply]
  simp only [wtC_apply, exC_apply, mxC_apply, scC_apply, vtC_apply, REFC, headR,
    show ∀ e, h.val * 96 + e = 96 * h.val + e by omega, show ∀ e, h.val * 64 + e = 64 * h.val + e by omega]

/-- The head of a column. -/
def hd (k : Fin 512) : Fin 8 := ⟨k.val / 64, by omega⟩
/-- The lane of a column in its head. -/
def ln (k : Fin 512) : Fin 64 := ⟨k.val % 64, by omega⟩

/-- The first attention's array. -/
def arrA (q : FVec Ideal S16x2304x512 .f32) (k v : FVec Ideal S16x2304x128 .f32) : FVec Ideal S16x2048x512 .bf16 :=
  fun i => REFA q k v (i 0) (i 1) (hd (i 2)) (ln (i 2))

/-- The second attention's array. -/
def arrC (q k : FVec Ideal S16x2304x768 .f32) (v : FVec Ideal S16x2304x512 .f32) : FVec Ideal S16x2048x512 .bf16 :=
  fun i => REFC q k v (i 0) (i 1) (hd (i 2)) (ln (i 2))

/-- Every column is a lane of a head. -/
theorem column (k : Fin 512) : ∃ (h : Fin 8) (d : Fin 64), k = ⟨64 * h.val + d.val, by omega⟩ :=
  ⟨⟨k.val / 64, by omega⟩, ⟨k.val % 64, by omega⟩, Fin.ext (by show k.val = 64 * (k.val / 64) + k.val % 64; omega)⟩

/-- The first array at a lane of a head. -/
theorem arrA_apply (q : FVec Ideal S16x2304x512 .f32) (k v : FVec Ideal S16x2304x128 .f32) (b : Fin 16) (n : Fin 2048) (h : Fin 8) (d : Fin 64) :
    arrA q k v (ix3 b n ⟨64 * h.val + d.val, by omega⟩) = REFA q k v b n h d :=
  congrArg₂ (REFA q k v b n) (Fin.ext (by show (64 * h.val + d.val) / 64 = h.val; omega)) (Fin.ext (by show (64 * h.val + d.val) % 64 = d.val; omega))

/-- The second array at a lane of a head. -/
theorem arrC_apply (q k : FVec Ideal S16x2304x768 .f32) (v : FVec Ideal S16x2304x512 .f32) (b : Fin 16) (n : Fin 2048) (h : Fin 8) (d : Fin 64) :
    arrC q k v (ix3 b n ⟨64 * h.val + d.val, by omega⟩) = REFC q k v b n h d :=
  congrArg₂ (REFC q k v b n) (Fin.ext (by show (64 * h.val + d.val) / 64 = h.val; omega)) (Fin.ext (by show (64 * h.val + d.val) % 64 = d.val; omega))

/-- The first result is the first attention's array. -/
theorem YA_arr : YA m c = arrA (m ((c.tc : Thread nD τ).loc main_arg0)) (m ((c.tc : Thread nD τ).loc main_arg1)) (m ((c.tc : Thread nD τ).loc main_arg2)) := by
  funext i
  obtain ⟨b, n, k, rfl⟩ : ∃ (b : Fin 16) (n : Fin 2048) (k : Fin 512), i = ix3 b n k := ⟨i 0, i 1, i 2, by funext a; fin_cases a <;> rfl⟩
  obtain ⟨h, d, rfl⟩ := column k
  exact (refA_apply m c b n h d).trans (arrA_apply _ _ _ b n h d).symm

/-- The second result is the second attention's array. -/
theorem YC_arr : YC m c = arrC (m ((c.tc : Thread nD τ).loc main_arg3)) (m ((c.tc : Thread nD τ).loc main_arg4)) (m ((c.tc : Thread nD τ).loc main_arg5)) := by
  funext i
  obtain ⟨b, n, k, rfl⟩ : ∃ (b : Fin 16) (n : Fin 2048) (k : Fin 512), i = ix3 b n k := ⟨i 0, i 1, i 2, by funext a; fin_cases a <;> rfl⟩
  obtain ⟨h, d, rfl⟩ := column k
  exact (refC_apply m c b n h d).trans (arrC_apply _ _ _ b n h d).symm

end Cert.Attn

end
-- ==== Proof.AttnBlks.lean ====
/- Every block the attention call reads, at the array indices it sits at. -/
module

public import proofs.«01_k».proof.Proof.AttnBlock
public import proofs.«01_k».proof.Proof.AttnRef
public import Idealize.ShloMosaic.Lib.Claim

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Where every window sits at grid point `t`: the two query windows at element offsets, the others at block indices. -/
theorem idx_val : ∀ t : Fin cfg0.N, win0_0.index t = ![t.val / 4, 256 + 512 * (t.val % 4), 0] ∧ win0_1.index t = ![t.val / 4, 0, 0]
    ∧ win0_2.index t = ![t.val / 4, 0, 0] ∧ win0_3.index t = ![t.val / 4, 256 + 512 * (t.val % 4), 0]
    ∧ win0_4.index t = ![t.val / 4, 0, 0] ∧ win0_5.index t = ![t.val / 4, 0, 0]
    ∧ win0_6.index t = ![t.val / 4, t.val % 4, 0] ∧ win0_7.index t = ![t.val / 4, t.val % 4, 0] ∧ t.val < 64 :=
  (by decide +kernel : ∀ t : Fin grid0.N, _)

/-- The batch entry of grid point `t`. -/
def bt (t : Fin cfg0.N) : Fin 16 := ⟨t.val / 4, by have := (idx_val t).2.2.2.2.2.2.2.2; omega⟩
/-- The latent row of row `r` of grid point `t`. -/
def rt (t : Fin cfg0.N) (r : Fin 512) : Fin 2048 := ⟨512 * (t.val % 4) + r.val, by omega⟩
/-- The token of row `r` of grid point `t`. -/
def nt (t : Fin cfg0.N) (r : Fin 512) : Fin 2304 := ⟨256 + (rt t r).val, by omega⟩

/-- Input block 0 at grid point `t`. -/
def xb0 (c : Dev nD) (t : Fin cfg0.N) : FVec Ideal S1x512x512 .bf16 := iblk m c 0 t
/-- Operand 0 of the call. -/
def ar0 (c : Dev nD) : FVec Ideal Cert.ReferenceIdeal.S16x2304x512 .f32 := m ((c : Thread nD τ).loc main_arg0)
/-- Input block 1 at grid point `t`. -/
def xb1 (c : Dev nD) (t : Fin cfg0.N) : FVec Ideal S1x2304x128 .bf16 := iblk m c 1 t
/-- Operand 1 of the call. -/
def ar1 (c : Dev nD) : FVec Ideal Cert.ReferenceIdeal.S16x2304x128 .f32 := m ((c : Thread nD τ).loc main_arg1)
/-- Input block 2 at grid point `t`. -/
def xb2 (c : Dev nD) (t : Fin cfg0.N) : FVec Ideal S1x2304x128 .bf16 := iblk m c 2 t
/-- Operand 2 of the call. -/
def ar2 (c : Dev nD) : FVec Ideal Cert.ReferenceIdeal.S16x2304x128 .f32 := m ((c : Thread nD τ).loc main_arg2)
/-- Input block 3 at grid point `t`. -/
def xb3 (c : Dev nD) (t : Fin cfg0.N) : FVec Ideal S1x512x1024 .bf16 := iblk m c 3 t
/-- Operand 3 of the call. -/
def ar3 (c : Dev nD) : FVec Ideal Cert.ReferenceIdeal.S16x2304x768 .f32 := m ((c : Thread nD τ).loc main_arg3)
/-- Input block 4 at grid point `t`. -/
def xb4 (c : Dev nD) (t : Fin cfg0.N) : FVec Ideal S1x2304x1024 .bf16 := iblk m c 4 t
/-- Operand 4 of the call. -/
def ar4 (c : Dev nD) : FVec Ideal Cert.ReferenceIdeal.S16x2304x768 .f32 := m ((c : Thread nD τ).loc main_arg4)
/-- Input block 5 at grid point `t`. -/
def xb5 (c : Dev nD) (t : Fin cfg0.N) : FVec Ideal S1x2304x512 .bf16 := iblk m c 5 t
/-- Operand 5 of the call. -/
def ar5 (c : Dev nD) : FVec Ideal Cert.ReferenceIdeal.S16x2304x512 .f32 := m ((c : Thread nD τ).loc main_arg5)

/-- The scale of the first queries. -/
def sA : EReal := Ideal.ofBits .f32 0x3E000000#32 * Ideal.div (Ideal.ofBits .f32 0x3F800000#32) (Ideal.log (Ideal.ofBits .f32 0x40000000#32))
/-- The scale of the second queries. -/
def sC : EReal := Ideal.div (Ideal.ofBits .f32 0x3F800000#32) (Ideal.sqrt (Ideal.ofBits .f32 0x42C00000#32)) * Ideal.div (Ideal.ofBits .f32 0x3F800000#32) (Ideal.log (Ideal.ofBits .f32 0x40000000#32))

/-- Heads of 96 lanes beside 32 further lanes. -/
def cat (a : FVec Ideal S16x2304x8x96 .f32) (z : FVec Ideal S16x2304x8x32 .f32) : FVec Ideal S16x2304x8x128 .f32 :=
  concatenate S16x2304x8x128 3 [⟨S16x2304x8x96, a⟩, ⟨S16x2304x8x32, z⟩] concatenates_S16x2304x8x96_S16x2304x8x32_S16x2304x8x128_d3

/-- Lanes split into heads. -/
def heads (x : FVec Ideal S16x2304x768 .f32) : FVec Ideal S16x2304x8x96 .f32 := shapeCast _ x shapeCasts_S16x2304x768_S16x2304x8x96

/-- Heads merged into lanes. -/
def lanes (x : FVec Ideal S16x2304x8x128 .f32) : FVec Ideal S16x2304x1024 .f32 := shapeCast _ x shapeCasts_S16x2304x8x128_S16x2304x1024

/-- The padding. -/
def zeros : FVec Ideal S16x2304x8x32 .f32 := broadcastInDim S16x2304x8x32 ![] bcast_S_S16x2304x8x32 (constant S_ .f32 0x00000000#32)

/-- The second queries scaled. -/
def scaled (y : FVec Ideal S16x2304x1024 .f32) : FVec Ideal S16x2304x1024 .bf16 :=
  truncf .bf16 (mulf y (broadcastInDim S16x2304x1024 ![] bcast_S_S16x2304x1024 (mulf (Host.divf (constant S_ .f32 0x3F800000#32) (Host.sqrt (constant S_ .f32 0x42C00000#32))) (Host.divf (constant S_ .f32 0x3F800000#32) (Host.log (constant S_ .f32 0x40000000#32)))))) bitsLt_bf16_f32

/-- The second keys cast. -/
def keys (y : FVec Ideal S16x2304x1024 .f32) : FVec Ideal S16x2304x1024 .bf16 := truncf .bf16 y bitsLt_bf16_f32

/-- A cast changes nothing. -/
theorem keys_apply (y : FVec Ideal S16x2304x1024 .f32) (b : Fin 16) (j : Fin 2304) (e : Fin 1024) : keys y (ix3 b j e) = y (ix3 b j e) := by
  pointwise [keys]

/-- A lane of the head. -/
theorem cat_lt (a : FVec Ideal S16x2304x8x96 .f32) (z : FVec Ideal S16x2304x8x32 .f32) (b : Fin 16) (j : Fin 2304) (h : Fin 8) (e : Fin 128)
    (he : e.val < 96) : cat a z (ix4 b j h e) = a (ix4 b j h ⟨e.val, he⟩) := by
  pointwise [cat]
  rw [dif_pos he]

/-- A lane past the head. -/
theorem cat_ge (a : FVec Ideal S16x2304x8x96 .f32) (z : FVec Ideal S16x2304x8x32 .f32) (b : Fin 16) (j : Fin 2304) (h : Fin 8) (e : Fin 128)
    (he : ¬ e.val < 96) : cat a z (ix4 b j h e) = z (ix4 b j h ⟨e.val - 96, by omega⟩) := by
  pointwise [cat]
  rw [dif_neg he]

/-- Where a head's lane comes from. -/
theorem heads_apply (x : FVec Ideal S16x2304x768 .f32) (b : Fin 16) (j : Fin 2304) (h : Fin 8) (e : Fin 96) :
    heads x (ix4 b j h e) = x (ix3 b j ⟨h.val * 96 + e.val, by omega⟩) := by
  pointwise [heads]

/-- Where a merged lane comes from. -/
theorem lanes_apply (x : FVec Ideal S16x2304x8x128 .f32) (b : Fin 16) (j : Fin 2304) (h : Fin 8) (e : Fin 128) :
    lanes x (ix3 b j ⟨128 * h.val + e.val, by omega⟩) = x (ix4 b j h e) := by
  pointwise [lanes]

/-- A padding lane is zero. -/
theorem zeros_apply (b : Fin 16) (j : Fin 2304) (h : Fin 8) (e : Fin 32) : zeros (ix4 b j h e) = 0 := by
  pointwise [zeros]

/-- A scaled lane. -/
theorem scaled_apply (y : FVec Ideal S16x2304x1024 .f32) (b : Fin 16) (j : Fin 2304) (e : Fin 1024) : scaled y (ix3 b j e) = y (ix3 b j e) * sC := by
  pointwise [scaled, sC]

/-- The second queries as the call reads them. -/
theorem V15 (c : Dev nD) (i : S16x2304x1024.Idx) : V m c main_v15 i = scaled (lanes (cat (heads (ar3 m c)) zeros)) i := by
  entry_read
  rfl

/-- The second keys as the call reads them. -/
theorem V21 (c : Dev nD) (i : S16x2304x1024.Idx) : V m c main_v21 i = keys (lanes (cat (heads (ar4 m c)) zeros)) i := by
  entry_read
  rfl

/-- A lane of the second queries as the call reads them. -/
theorem q_lane (c : Dev nD) (b : Fin 16) (n : Fin 2304) (h : Fin 8) (e : Fin 96) :
    V m c main_v15 (ix3 b n ⟨128 * h.val + e.val, by omega⟩) = ar3 m c (ix3 b n ⟨h.val * 96 + e.val, by omega⟩) * sC := by
  refine (V15 m c _).trans ((scaled_apply _ _ _ _).trans (congrArg (fun u : EReal => u * sC) ?_))
  exact (lanes_apply _ b n h ⟨e.val, by omega⟩).trans ((cat_lt _ _ b n h ⟨e.val, by omega⟩ e.isLt).trans (heads_apply _ b n h e))

/-- A padding lane of the second queries as the call reads them. -/
theorem q_zero (c : Dev nD) (b : Fin 16) (n : Fin 2304) (h : Fin 8) (e : Fin 128) (he : ¬ e.val < 96) :
    V m c main_v15 (ix3 b n ⟨128 * h.val + e.val, by omega⟩) = (0 : EReal) := by
  refine (V15 m c _).trans ((scaled_apply _ _ _ _).trans ?_)
  refine (congrArg (fun u : EReal => u * sC) (?_ : _ = (0 : EReal))).trans (zero_mul sC)
  exact (lanes_apply _ b n h e).trans ((cat_ge _ _ b n h e he).trans (zeros_apply b n h _))

/-- A lane of the second keys as the call reads them. -/
theorem k_lane (c : Dev nD) (b : Fin 16) (n : Fin 2304) (h : Fin 8) (e : Fin 96) :
    V m c main_v21 (ix3 b n ⟨128 * h.val + e.val, by omega⟩) = ar4 m c (ix3 b n ⟨h.val * 96 + e.val, by omega⟩) := by
  refine (V21 m c _).trans ((keys_apply _ _ _ _).trans ?_)
  exact (lanes_apply _ b n h ⟨e.val, by omega⟩).trans ((cat_lt _ _ b n h ⟨e.val, by omega⟩ e.isLt).trans (heads_apply _ b n h e))

/-- Where the first query block sits. -/
theorem emb0 (t : Fin cfg0.N) (r e : Fin 512) : ((cfg0.win 0).blk t).view.emb (ix3 0 r e) = ix3 (bt t) (nt t r) e := by
  funext a
  apply Fin.ext
  refine (Pipeline.Window.rect_emb_val_off win0_0 t (ix3 0 r e) a).trans ?_
  show (win0_0.index t a) + ((ix3 (0 : Fin 1) r e : S1x512x512.Idx) a).val = _
  rw [(idx_val t).1]
  fin_cases a
  · show t.val / 4 + 0 = t.val / 4
    omega
  · show 256 + 512 * (t.val % 4) + r.val = 256 + (512 * (t.val % 4) + r.val)
    omega
  · show 0 + e.val = e.val
    omega

/-- Where the second query block sits. -/
theorem emb3 (t : Fin cfg0.N) (r : Fin 512) (e : Fin 1024) : ((cfg0.win 3).blk t).view.emb (ix3 0 r e) = ix3 (bt t) (nt t r) e := by
  funext a
  apply Fin.ext
  refine (Pipeline.Window.rect_emb_val_off win0_3 t (ix3 0 r e) a).trans ?_
  show (win0_3.index t a) + ((ix3 (0 : Fin 1) r e : S1x512x1024.Idx) a).val = _
  rw [(idx_val t).2.2.2.1]
  fin_cases a
  · show t.val / 4 + 0 = t.val / 4
    omega
  · show 256 + 512 * (t.val % 4) + r.val = 256 + (512 * (t.val % 4) + r.val)
    omega
  · show 0 + e.val = e.val
    omega

/-- The first query block: the queries, scaled. -/
theorem blk0 (c : Dev nD) (t : Fin cfg0.N) (r e : Fin 512) : xb0 m c t (ix3 0 r e) = ar0 m c (ix3 (bt t) (nt t r) e) * sA := by
  unfold xb0 ar0
  show V m c (Pipeline.arrRef spec0 0) (((cfg0.win 0).blk t).view.emb (ix3 0 r e)) = _
  rw [emb0]
  show V m c main_v8 _ = _
  entry_read
  pointwise [sA]

/-- The first key block. -/
theorem blk1 (c : Dev nD) (t : Fin cfg0.N) (j : Fin 2304) (e : Fin 128) : xb1 m c t (ix3 0 j e) = ar1 m c (ix3 (bt t) j e) := by
  unfold xb1 ar1
  blk_point [iblk, V, idx_val t]
  all_goals (simp only [bt]; omega)

/-- The first value block. -/
theorem blk2 (c : Dev nD) (t : Fin cfg0.N) (j : Fin 2304) (e : Fin 128) : xb2 m c t (ix3 0 j e) = ar2 m c (ix3 (bt t) j e) := by
  unfold xb2 ar2
  blk_point [iblk, V, idx_val t]
  all_goals (simp only [bt]; omega)

/-- The second value block. -/
theorem blk5 (c : Dev nD) (t : Fin cfg0.N) (j : Fin 2304) (e : Fin 512) : xb5 m c t (ix3 0 j e) = ar5 m c (ix3 (bt t) j e) := by
  unfold xb5 ar5
  blk_point [iblk, V, idx_val t]
  all_goals (simp only [bt]; omega)

/-- Reading the second query window's block. -/
theorem read3 (f : FVec Ideal S16x2304x1024 .bf16) (t : Fin cfg0.N) (r : Fin 512) (e : Fin 1024) :
    ((cfg0.win 3).blk t).view.read (Elt Ideal) f (ix3 0 r e) = f (ix3 (bt t) (nt t r) e) :=
  congrArg f (emb3 t r e)

/-- The second query block is a block of the second queries. -/
theorem blk3v (c : Dev nD) (t : Fin cfg0.N) (r : Fin 512) (e : Fin 1024) :
    xb3 m c t (ix3 0 r e) = V m c main_v15 (ix3 (bt t) (nt t r) e) := by
  unfold xb3 iblk
  exact read3 (V m c main_v15) t r e

/-- A lane of the second query block: the query, scaled. -/
theorem blk3 (c : Dev nD) (t : Fin cfg0.N) (r : Fin 512) (h : Fin 8) (e : Fin 96) :
    xb3 m c t (ix3 0 r ⟨128 * h.val + e.val, by omega⟩) = ar3 m c (ix3 (bt t) (nt t r) ⟨h.val * 96 + e.val, by omega⟩) * sC :=
  (blk3v m c t r ⟨128 * h.val + e.val, by omega⟩).trans (q_lane m c (bt t) (nt t r) h e)

/-- A padding lane of the second query block. -/
theorem blk3z (c : Dev nD) (t : Fin cfg0.N) (r : Fin 512) (h : Fin 8) (e : Fin 128) (he : ¬ e.val < 96) :
    xb3 m c t (ix3 0 r ⟨128 * h.val + e.val, by omega⟩) = 0 :=
  (blk3v m c t r ⟨128 * h.val + e.val, by omega⟩).trans (q_zero m c (bt t) (nt t r) h e he)

/-- Where the second key block sits. -/
theorem emb4 (t : Fin cfg0.N) (j : Fin 2304) (e : Fin 1024) : ((cfg0.win 4).blk t).view.emb (ix3 0 j e) = ix3 (bt t) j e := by
  blk_ext [idx_val t]
  all_goals (simp only [bt]; omega)

/-- Reading the second key window's block. -/
theorem read4 (f : FVec Ideal S16x2304x1024 .bf16) (t : Fin cfg0.N) (j : Fin 2304) (e : Fin 1024) :
    ((cfg0.win 4).blk t).view.read (Elt Ideal) f (ix3 0 j e) = f (ix3 (bt t) j e) :=
  congrArg f (emb4 t j e)

/-- The second key block is a block of the second keys. -/
theorem blk4v (c : Dev nD) (t : Fin cfg0.N) (j : Fin 2304) (e : Fin 1024) :
    xb4 m c t (ix3 0 j e) = V m c main_v21 (ix3 (bt t) j e) := by
  unfold xb4 iblk
  exact read4 (V m c main_v21) t j e

/-- A lane of the second key block. -/
theorem blk4 (c : Dev nD) (t : Fin cfg0.N) (j : Fin 2304) (h : Fin 8) (e : Fin 96) :
    xb4 m c t (ix3 0 j ⟨128 * h.val + e.val, by omega⟩) = ar4 m c (ix3 (bt t) j ⟨h.val * 96 + e.val, by omega⟩) :=
  (blk4v m c t j ⟨128 * h.val + e.val, by omega⟩).trans (k_lane m c (bt t) j h e)

end Cert.Attn

end
-- ==== Proof.AttnFin.lean ====
/- The constants of the two scales, and what the precondition says of an entry. -/
module

public import proofs.«01_k».proof.Defs
public import proofs.«01_k».proof.Proof.AttnBlks
public import Idealize.ShloMosaic.Lib.ReduceAll

@[expose] public section

set_option maxRecDepth 16384

noncomputable section

namespace Cert.Attn

open Idealize.ShloMosaic Idealize.ShloMosaic.TcCoe Idealize.SL.Sem

/-- The word of two. -/
theorem lit_two : Ideal.ofBits .f32 0x40000000#32 = ((2 : ℝ) : EReal) := by
  simp [Ideal.ofBits, Ideal.ieee, -EReal.coe_mul]; norm_num

/-- The word of an eighth. -/
theorem lit_eighth : Ideal.ofBits .f32 0x3E000000#32 = ((1 / 8 : ℝ) : EReal) := by
  simp [Ideal.ofBits, Ideal.ieee, -EReal.coe_mul]; norm_num

/-- The word of ninety-six. -/
theorem lit_96 : Ideal.ofBits .f32 0x42C00000#32 = ((96 : ℝ) : EReal) := by
  simp [Ideal.ofBits, Ideal.ieee, -EReal.coe_mul]; norm_num

/-- The word of infinity. -/
theorem lit_inf : Ideal.ofBits .f32 0x7F800000#32 = ⊤ := by simp [Ideal.ofBits, Ideal.ieee]

/-- One over the logarithm of two. -/
theorem inv_log : Ideal.div (Ideal.ofBits .f32 0x3F800000#32) (Ideal.log (Ideal.ofBits .f32 0x40000000#32)) = ((1 / Real.log 2 : ℝ) : EReal) := by
  rw [lit_two, Ideal.ofBits_one_f32, Ideal.log_coe, if_neg (by norm_num), Ideal.div_coe (Real.log_pos (by norm_num)).ne', one_mul]

/-- One over the square root of ninety-six. -/
theorem inv_sqrt : Ideal.div 1 (Ideal.sqrt (Ideal.ofBits .f32 0x42C00000#32)) = ((1 / √96 : ℝ) : EReal) := by
  rw [lit_96, Ideal.sqrt_coe, if_neg (by norm_num), Ideal.div_coe (Real.sqrt_pos.2 (by norm_num)).ne', one_mul]

/-- The scale of the first queries. -/
theorem sA_eq : sA = ((1 / 8 * (1 / Real.log 2) : ℝ) : EReal) := by
  unfold sA
  rw [inv_log, lit_eighth, ← EReal.coe_mul]

/-- The scale of the second queries. -/
theorem sC_eq : sC = ((1 / √96 * (1 / Real.log 2) : ℝ) : EReal) := by
  unfold sC
  rw [inv_log, Ideal.ofBits_one_f32, inv_sqrt, ← EReal.coe_mul]

/-- An absolute value below infinity is a real number's. -/
theorem real_of_lt (x : EReal) (h : max x (-x) < ⊤) : x ≠ ⊤ ∧ x ≠ ⊥ := by
  constructor
  · rintro rfl
    simp at h
  · rintro rfl
    simp at h

/-- One array's part of the precondition, at one entry. -/
theorem finite_entry {s : Shape} {axes : List (Fin s.rank)} (x : FVec Ideal s .f32) (hb : Cert.Pre_finite.S_.BroadcastsInDim s (![] : Fin 0 → Fin s.rank))
    (h : s.ReducesTo axes Cert.Pre_finite.S_) (hu : 0 < Cert.Pre_finite.S_.numel) (init : IVec Cert.Pre_finite.S_ 1) (j : Cert.Pre_finite.S_.Idx)
    (e : Host.reduce IntOp.andi (cmpf .olt (Host.absf x) (broadcastInDim s ![] hb (constant (F := Ideal) Cert.Pre_finite.S_ .f32 0x7F800000#32))) init h hu j = 1#1)
    (i : s.Idx) : x i ≠ ⊤ ∧ x i ≠ ⊥ := by
  have e' : BitVec.ofBool (decide (max (x i) (-(x i)) < Ideal.ofBits .f32 0x7F800000#32)) = 1#1 := Host.reduce_andi_all _ _ h hu j e i
  rw [lit_inf, WordCmp.ofBool_decide_eq_one_iff] at e'
  exact real_of_lt _ e'

/-- The precondition, entry by entry: queries and keys are real numbers. -/
theorem finite_all [Cert.Pre_finite.Facts] (a0 : FVec Ideal Cert.Pre_finite.S16x2304x512 .f32) (a1 a2 : FVec Ideal Cert.Pre_finite.S16x2304x128 .f32)
    (a3 a4 : FVec Ideal Cert.Pre_finite.S16x2304x768 .f32) (a5 : FVec Ideal Cert.Pre_finite.S16x2304x512 .f32)
    (h : Cert.Pre_finite.fn (F := Ideal) a0 a1 a2 a3 a4 a5 = fun _ => 1#1) :
    (∀ i, a0 i ≠ ⊤ ∧ a0 i ≠ ⊥) ∧ (∀ i, a1 i ≠ ⊤ ∧ a1 i ≠ ⊥) ∧ (∀ i, a3 i ≠ ⊤ ∧ a3 i ≠ ⊥) ∧ (∀ i, a4 i ≠ ⊤ ∧ a4 i ≠ ⊥) := by
  have e := congrFun h (Shape.Idx.first Cert.Pre_finite.Facts.h_S_)
  obtain ⟨e, e4⟩ := IntOp.andi_eq_one.1 e
  obtain ⟨e, e3⟩ := IntOp.andi_eq_one.1 e
  obtain ⟨e0, e1⟩ := IntOp.andi_eq_one.1 e
  exact ⟨finite_entry a0 _ _ _ _ _ e0, finite_entry a1 _ _ _ _ _ e1, finite_entry a3 _ _ _ _ _ e3, finite_entry a4 _ _ _ _ _ e4⟩

end Cert.Attn

end
-- ==== Proof.AttnFinal.lean ====
/- The attention call's result arrays are the plain attentions'. -/
module

public import proofs.«01_k».proof.Proof.AttnFin

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The first tile's element depends on its blocks only through the entries read. -/
theorem tileA_congr {x0 : FVec Ideal S1x512x512 .bf16} {x1 x2 : FVec Ideal S1x2304x128 .bf16} {r : Fin 512} {h : Fin 8} {d : Fin 64}
    {q : Fin 64 → EReal} {k : Fin 2304 → Fin 64 → EReal} {v : Fin 2304 → EReal}
    (h0 : ∀ e : Fin 64, x0 (ix3 0 r ⟨64 * h.val + e.val, by omega⟩) = q e * ((1 / 8 * (1 / Real.log 2) : ℝ) : EReal))
    (h1 : ∀ (j : Fin 2304) (e : Fin 64), x1 (ix3 0 j ⟨64 * (h.val / 4) + e.val, by omega⟩) = k j e)
    (h2 : ∀ j : Fin 2304, x2 (ix3 0 j ⟨64 * (h.val / 4) + d.val, by omega⟩) = v j)
    (hq : ∀ e, q e ≠ ⊤ ∧ q e ≠ ⊥) (hk : ∀ j e, k j e ≠ ⊤ ∧ k j e ≠ ⊥) :
    tileA x0 x1 x2 r h d = headR (fun j => dotp q (k j) * ((1 / 8 : ℝ) : EReal)) v := by
  unfold tileA
  simp only [h0, h1, h2]
  exact attn_eq q k v (1 / 8) hq hk

/-- The second tile's element depends on its blocks only through the entries read; the padding lanes add nothing. -/
theorem tileC_congr {x3 : FVec Ideal S1x512x1024 .bf16} {x4 : FVec Ideal S1x2304x1024 .bf16} {x5 : FVec Ideal S1x2304x512 .bf16}
    {r : Fin 512} {h : Fin 8} {d : Fin 64} {q : Fin 96 → EReal} {k : Fin 2304 → Fin 96 → EReal} {v : Fin 2304 → EReal}
    (h0 : ∀ e : Fin 96, x3 (ix3 0 r ⟨128 * h.val + e.val, by omega⟩) = q e * ((1 / √96 * (1 / Real.log 2) : ℝ) : EReal))
    (hz : ∀ e : Fin 128, ¬ e.val < 96 → x3 (ix3 0 r ⟨128 * h.val + e.val, by omega⟩) = 0)
    (h1 : ∀ (j : Fin 2304) (e : Fin 96), x4 (ix3 0 j ⟨128 * h.val + e.val, by omega⟩) = k j e)
    (h2 : ∀ j : Fin 2304, x5 (ix3 0 j ⟨64 * h.val + d.val, by omega⟩) = v j)
    (hq : ∀ e, q e ≠ ⊤ ∧ q e ≠ ⊥) (hk : ∀ j e, k j e ≠ ⊤ ∧ k j e ≠ ⊥) :
    tileC x3 x4 x5 r h d = headR (fun j => dotp q (k j) * ((1 / √96 : ℝ) : EReal)) v := by
  have hd : ∀ j : Fin 2304, dotp (fun e : Fin 128 => x3 (ix3 0 r ⟨128 * h.val + e.val, by omega⟩)) (fun e => x4 (ix3 0 j ⟨128 * h.val + e.val, by omega⟩))
      = dotp (fun e => q e * ((1 / √96 * (1 / Real.log 2) : ℝ) : EReal)) (k j) := fun j => by
    rw [dotp_pad _ _ fun e he => hz e (by omega)]
    simp only [h0, h1]
  unfold tileC
  simp only [hd, h2]
  exact attn_eq q k v (1 / √96) hq hk

/-- The first tile of the blocks is the plain attention's. -/
theorem blocksA (c : Dev nD) (t : Fin cfg0.N) (r : Fin 512) (h : Fin 8) (d : Fin 64)
    (f0 : ∀ i, ar0 m c i ≠ ⊤ ∧ ar0 m c i ≠ ⊥) (f1 : ∀ i, ar1 m c i ≠ ⊤ ∧ ar1 m c i ≠ ⊥) :
    tileA (xb0 m c t) (xb1 m c t) (xb2 m c t) r h d = REFA (ar0 m c) (ar1 m c) (ar2 m c) (bt t) (rt t r) h d := by
  refine (tileA_congr (fun e => (blk0 m c t r _).trans (by rw [sA_eq])) (fun j e => blk1 m c t j _) (fun j => blk2 m c t j _)
    (fun e => f0 _) (fun j e => f1 _)).trans ?_
  unfold REFA
  rw [lit_eighth]
  rfl

/-- The second tile of the blocks is the plain attention's. -/
theorem blocksC (c : Dev nD) (t : Fin cfg0.N) (r : Fin 512) (h : Fin 8) (d : Fin 64)
    (f3 : ∀ i, ar3 m c i ≠ ⊤ ∧ ar3 m c i ≠ ⊥) (f4 : ∀ i, ar4 m c i ≠ ⊤ ∧ ar4 m c i ≠ ⊥) :
    tileC (xb3 m c t) (xb4 m c t) (xb5 m c t) r h d = REFC (ar3 m c) (ar4 m c) (ar5 m c) (bt t) (rt t r) h d := by
  refine (tileC_congr (fun e => (blk3 m c t r h e).trans (by rw [sC_eq])) (fun e he => blk3z m c t r h e he) (fun j e => blk4 m c t j h e)
    (fun j => blk5 m c t j _) (fun e => f3 _) (fun j e => f4 _)).trans ?_
  unfold REFC
  rw [inv_sqrt]
  simp only [mul_comm h.val 96]
  rfl

/-- The first array the call leaves, as a function of its operands. -/
def resultA (c : Dev nD) : FVec Ideal S16x2048x512 .bf16 := arrA (ar0 m c) (ar1 m c) (ar2 m c)
/-- The second array the call leaves, as a function of its operands. -/
def resultC (c : Dev nD) : FVec Ideal S16x2048x512 .bf16 := arrC (ar3 m c) (ar4 m c) (ar5 m c)

/-- Where row `r` of grid point `t`'s first block sits. -/
theorem emb6 (t : Fin cfg0.N) (r e : Fin 512) : ((cfg0.win 6).blk t).view.emb (ix3 0 r e) = ix3 (bt t) (rt t r) e := by
  blk_ext [idx_val t]
  all_goals (simp only [bt, rt]; omega)

/-- Where row `r` of grid point `t`'s second block sits. -/
theorem emb7 (t : Fin cfg0.N) (r e : Fin 512) : ((cfg0.win 7).blk t).view.emb (ix3 0 r e) = ix3 (bt t) (rt t r) e := by
  blk_ext [idx_val t]
  all_goals (simp only [bt, rt]; omega)

/-- What one grid point stores to the first array, at the index it is stored to. -/
theorem pointA (c : Dev nD) (f0 : ∀ i, ar0 m c i ≠ ⊤ ∧ ar0 m c i ≠ ⊥) (f1 : ∀ i, ar1 m c i ≠ ⊤ ∧ ar1 m c i ≠ ⊥)
    (t : Fin cfg0.N) (y : S1x512x512.Idx) :
    out0_6 (F := Ideal) (xb0 m c t) (xb1 m c t) (xb2 m c t) (xb3 m c t) (xb4 m c t) (xb5 m c t) y
      = resultA m c (((cfg0.win 6).blk t).view.emb y) := by
  idx_vars y
  obtain rfl : y0 = 0 := Subsingleton.elim _ _
  obtain ⟨h, d, rfl⟩ := column y2
  refine (outA_apply _ _ _ _ _ _ y1 h d).trans ((blocksA m c t y1 h d f0 f1).trans ?_)
  exact (arrA_apply _ _ _ (bt t) (rt t y1) h d).symm.trans (congrArg (resultA m c) (emb6 t y1 _)).symm

/-- What one grid point stores to the second array, at the index it is stored to. -/
theorem pointC (c : Dev nD) (f3 : ∀ i, ar3 m c i ≠ ⊤ ∧ ar3 m c i ≠ ⊥) (f4 : ∀ i, ar4 m c i ≠ ⊤ ∧ ar4 m c i ≠ ⊥)
    (t : Fin cfg0.N) (y : S1x512x512.Idx) :
    out0_7 (F := Ideal) (xb0 m c t) (xb1 m c t) (xb2 m c t) (xb3 m c t) (xb4 m c t) (xb5 m c t) y
      = resultC m c (((cfg0.win 7).blk t).view.emb y) := by
  idx_vars y
  obtain rfl : y0 = 0 := Subsingleton.elim _ _
  obtain ⟨h, d, rfl⟩ := column y2
  refine (outC_apply _ _ _ _ _ _ y1 h d).trans ((blocksC m c t y1 h d f3 f4).trans ?_)
  exact (arrC_apply _ _ _ (bt t) (rt t y1) h d).symm.trans (congrArg (resultC m c) (emb7 t y1 _)).symm

/-- The first result array after the call. -/
theorem finalA (c : Dev nD) (f0 : ∀ i, ar0 m c i ≠ ⊤ ∧ ar0 m c i ≠ ⊥) (f1 : ∀ i, ar1 m c i ≠ ⊤ ∧ ar1 m c i ≠ ⊥) :
    (dats m 0 c).arrAt 6 (cfgs 0).N = resultA m c := by
  refine (dats m 0 c).arrAt_eq_of_covers 6 _ (by decide +kernel) fun t _ y => ?_
  blk_simp
  rw [after0_6]
  exact pointA m c f0 f1 t y

/-- The second result array after the call. -/
theorem finalC (c : Dev nD) (f3 : ∀ i, ar3 m c i ≠ ⊤ ∧ ar3 m c i ≠ ⊥) (f4 : ∀ i, ar4 m c i ≠ ⊤ ∧ ar4 m c i ≠ ⊥) :
    (dats m 0 c).arrAt 7 (cfgs 0).N = resultC m c := by
  refine (dats m 0 c).arrAt_eq_of_covers 7 _ (by decide +kernel) fun t _ y => ?_
  blk_simp
  rw [after0_7]
  exact pointC m c f3 f4 t y

end Cert.Attn

end
-- ==== Proof.AttnClaim.lean ====
/- The attention call against the plain attentions. -/
module

public import proofs.«01_k».proof.Defs
public import proofs.«01_k».proof.Proof.AttnFinal

@[expose] public section

set_option maxRecDepth 16384

noncomputable section

namespace Cert.Attn

open Idealize.ShloMosaic Idealize.ShloMosaic.TcCoe Idealize.SL.Sem

section

open Cert.ReferenceIdeal Cert.ReferenceIdeal.Gen Cert.ReferenceIdeal.Value Idealize.ShloMosaic.StableHlo

/-- The plain attentions' run: it ends with the two attentions' arrays and its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = arrA (m ((c.tc : Thread nD τ).loc main_arg0)) (m ((c.tc : Thread nD τ).loc main_arg1)) (m ((c.tc : Thread nD τ).loc main_arg2))
      ∧ r.2.mem ((c.tc : Thread nD τ).loc main_v52) = arrC (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (YA_arr m c), (h c).2.1.trans (YC_arr m c), (h c).2.2⟩) (Value.run m ρ)

end

/-- The attention call agrees with the plain attentions, queries and keys being real numbers. -/
theorem algebraic [Cert.Pre_finite.Facts] : Cert.algebraic_KernelIdeal_ReferenceIdeal_pre_finite := by
  pair_intro
  · run_from Cert.KernelIdeal.Gen.run_main m g
  · run_from Cert.Attn.ref_run m' g'
    · obtain ⟨f0, f1, -, -⟩ := finite_all _ _ _ _ _ _ (hpre c)
      exact (Cert.Attn.finalA m c f0 f1).symm
    · obtain ⟨-, -, f3, f4⟩ := finite_all _ _ _ _ _ _ (hpre c)
      exact (Cert.Attn.finalC m c f3 f4).symm

end Cert.Attn

end
-- ==== Proof.PostRow.lean ====
/- One row of the closing call as arithmetic over the extended reals: the row of the result as a function of the rows of
   the operands. Both the kernel and the reference are read down to these functions. -/
module

public import Idealize.ShloMosaic.Lib.Pointwise

@[expose] public section

noncomputable section

namespace Cert.Post

open Idealize.ShloMosaic

/-- A row times a matrix. -/
def mm {n k : ℕ} (x : Fin n → EReal) (w : Fin n → Fin k → EReal) : Fin k → EReal := fun j => ∑ e, x e * w e j

/-- The root-mean-square normalisation of a row, times a gain: `x / √(mean x² + ε) · g`. -/
def rms (x g : Fin 1024 → EReal) : Fin 1024 → EReal := fun d =>
  x d * Ideal.rsqrt (Ideal.div (∑ e, x e * x e) (Ideal.ofBits .f32 0x44800000#32) + Ideal.ofBits .f32 0x358637BD#32) * g d

/-- The gated sum of the three branches, each projected by its own matrix. -/
def tot (a b c : Fin 512 → EReal) (g : Fin 3 → Fin 1024 → EReal) (w : Fin 3 → Fin 512 → Fin 1024 → EReal) :
    Fin 1024 → EReal := fun k =>
  g 0 k * mm a (w 0) k + g 1 k * mm b (w 1) k + g 2 k * mm c (w 2) k

/-- A residual: the row plus the gate times the normalised row. -/
def res (x m y g : Fin 1024 → EReal) : Fin 1024 → EReal := fun d => x d + m d * rms y g d

/-- A normalised and modulated row. -/
def hid (x g sc sh : Fin 1024 → EReal) : Fin 1024 → EReal := fun d => rms x g d * (1 + sc d) + sh d

/-- The squared positive part of a row. -/
def act (u : Fin 4096 → EReal) : Fin 4096 → EReal := fun k => max (u k) 0 * max (u k) 0

/-- The row after the branches' merge, the output projection and the first residual. -/
def row1 (x : Fin 1024 → EReal) (m : Fin 6 → Fin 1024 → EReal) (a b c : Fin 512 → EReal) (g : Fin 3 → Fin 1024 → EReal)
    (wb : Fin 3 → Fin 512 → Fin 1024 → EReal) (wo : Fin 1024 → Fin 1024 → EReal) (gp : Fin 1024 → EReal) :
    Fin 1024 → EReal :=
  res x (m 2) (mm (tot a b c g wb) wo) gp

/-- The MLP of a row. -/
def mlp (x : Fin 1024 → EReal) (m : Fin 6 → Fin 1024 → EReal) (gq : Fin 1024 → EReal)
    (w1 : Fin 1024 → Fin 4096 → EReal) (w2 : Fin 4096 → Fin 1024 → EReal) : Fin 1024 → EReal :=
  mm (act (mm (hid x gq (m 4) (m 3)) w1)) w2

/-- The row of the result. -/
def row (x : Fin 1024 → EReal) (m : Fin 6 → Fin 1024 → EReal) (a b c : Fin 512 → EReal) (g : Fin 3 → Fin 1024 → EReal)
    (wb : Fin 3 → Fin 512 → Fin 1024 → EReal) (wo : Fin 1024 → Fin 1024 → EReal) (gp gq : Fin 1024 → EReal)
    (w1 : Fin 1024 → Fin 4096 → EReal) (w2 : Fin 4096 → Fin 1024 → EReal) (gr : Fin 1024 → EReal) : Fin 1024 → EReal :=
  res (row1 x m a b c g wb wo gp) (m 5) (mlp (row1 x m a b c g wb wo gp) m gq w1 w2) gr

end Cert.Post

end
-- ==== Proof.CloseBlock.lean ====
/- What the first layer's closing call computes in one grid point, row by row. -/
module

public import proofs.«01_k».proof.Proof.Gen.Kernel3Ideal.Frame
public import Idealize.ShloMosaic.Lib.Pipeline.ValueKit
public import proofs.«01_k».proof.Proof.PostRow

@[expose] public section

set_option maxRecDepth 16384

noncomputable section

namespace Cert.Close

open Idealize.ShloMosaic Idealize.ShloMosaic.TcCoe Cert.Kernel3Ideal Cert.Kernel3Ideal.Gen
open Cert.Post (mm rms tot res hid act row row1 mlp)

/-- The context's value at a context tile, the latents' value at a latent tile. -/
def pick (i : grid0.Coords) (a b : EReal) : EReal := if (i 1).val = 0 then a else b

/-- The body's test whether the tile is the context's. -/
theorem is_ctx (i : grid0.Coords) :
    Scalar.cmpi .slt (Scalar.addi (BitVec.ofNat 32 (i 1).val) 0#32) 1#32 = if (i 1).val = 0 then 1#1 else 0#1 := by
  have h : (i 1).val < 9 := (i 1).isLt
  exact (by decide : ∀ n : Fin 9, Scalar.cmpi .slt (Scalar.addi (BitVec.ofNat 32 n.val) 0#32) 1#32
    = if n.val = 0 then 1#1 else 0#1) ⟨(i 1).val, h⟩

/-- The first branch's row. -/
theorem pay3_apply (i : grid0.Coords) (v4 v6 : FVec Ideal S1x256x512 .bf16) (r : Fin 256) (e : Fin 512) :
    k0_pay3 (F := Ideal) i v4 v6 (ix2 r e) = pick i (v4 (ix3 0 r e)) (v6 (ix3 0 r e)) := by
  by_cases h : (i 1).val = 0
  · simp only [k0_pay3, is_ctx, pick, h, if_true]
    pointwise!
  · simp only [k0_pay3, is_ctx, pick, h, if_false]
    pointwise!

/-- The third branch's row. -/
theorem pay5_apply (i : grid0.Coords) (v4 v6 : FVec Ideal S1x256x512 .bf16) (r : Fin 256) (e : Fin 512) :
    k0_pay5 (F := Ideal) i v4 v6 (ix2 r e) = pick i (v4 (ix3 0 r e)) (v6 (ix3 0 r e)) := by
  by_cases h : (i 1).val = 0
  · simp only [k0_pay5, is_ctx, pick, h, if_true]
    pointwise!
  · simp only [k0_pay5, is_ctx, pick, h, if_false]
    pointwise!

/-- The token's row. -/
theorem pay6_apply (i : grid0.Coords) (v4 v6 : FVec Ideal S1x256x1024 .f32) (r : Fin 256) (e : Fin 1024) :
    k0_pay6 (F := Ideal) i v4 v6 (ix2 r e) = pick i (v4 (ix3 0 r e)) (v6 (ix3 0 r e)) := by
  by_cases h : (i 1).val = 0
  · simp only [k0_pay6, is_ctx, pick, h, if_true]
    pointwise!
  · simp only [k0_pay6, is_ctx, pick, h, if_false]
    pointwise!

/-- The upper half of the first branch's rows. -/
theorem pay7_apply (i : grid0.Coords) (v4 v6 : FVec Ideal S1x256x512 .bf16) (r : Fin 128) (e : Fin 512) :
    k0_pay7 (F := Ideal) i v4 v6 (ix2 r e) = pick i (v4 (ix3 0 ⟨r, by omega⟩ e)) (v6 (ix3 0 ⟨r, by omega⟩ e)) := by
  rw [← pay3_apply]
  unfold k0_pay7
  pointwise

/-- The upper half's gated sum. -/
theorem pay8_apply (v10 v17 : FVec Ideal S256x512 .bf16) (v25 : FVec Ideal S128x512 .bf16)
    (v26 v34 v43 : FVec Ideal S1x1x512x1024 .bf16) (v29 v37 v46 : FVec Ideal S1x128x1024 .bf16) (r : Fin 128) (k : Fin 1024) :
    k0_pay8 (F := Ideal) v10 v17 v25 v26 v29 v34 v37 v43 v46 (ix2 r k)
      = v29 (ix3 0 r k) * mm (fun e => v25 (ix2 r e)) (fun e k => v26 (ix4 0 0 e k)) k
        + v37 (ix3 0 r k) * mm (fun e => v10 (ix2 ⟨r, by omega⟩ e)) (fun e k => v34 (ix4 0 0 e k)) k
        + v46 (ix3 0 r k) * mm (fun e => v17 (ix2 ⟨r, by omega⟩ e)) (fun e k => v43 (ix4 0 0 e k)) k := by
  pointwise! [k0_pay8, mm]

/-- The lower half's first projection. -/
theorem pay9_apply (v8 : FVec Ideal S256x512 .bf16) (v53 : FVec Ideal S1x1x512x1024 .bf16) (r : Fin 128) (k : Fin 1024) :
    k0_pay9 (F := Ideal) v8 v53 (ix2 r k)
      = mm (fun e => v8 (ix2 ⟨128 + r, by omega⟩ e)) (fun e k => v53 (ix4 0 0 e k)) k := by
  pointwise! [k0_pay9, mm]

/-- The upper half's output projection. -/
theorem pay10_apply (v51 : FVec Ideal S128x1024 .bf16) (v79 : FVec Ideal S1x1024x1024 .bf16) (r : Fin 128) (d : Fin 1024) :
    k0_pay10 (F := Ideal) v51 v79 (ix2 r d) = mm (fun k => v51 (ix2 r k)) (fun k d => v79 (ix3 0 k d)) d := by
  pointwise! [k0_pay10, mm]

/-- The lower half's output projection. -/
theorem pay11_apply (v10 v17 : FVec Ideal S256x512 .bf16) (v55 : FVec Ideal S128x1024 .f32)
    (v61 v70 : FVec Ideal S1x1x512x1024 .bf16) (v56 v64 v73 : FVec Ideal S1x128x1024 .bf16)
    (v82 : FVec Ideal S1x1024x1024 .bf16) (r : Fin 128) (d : Fin 1024) :
    k0_pay11 (F := Ideal) v10 v17 v55 v56 v61 v64 v70 v73 v82 (ix2 r d)
      = mm (fun k => v56 (ix3 0 r k) * v55 (ix2 r k)
          + v64 (ix3 0 r k) * mm (fun e => v10 (ix2 ⟨128 + r, by omega⟩ e)) (fun e k => v61 (ix4 0 0 e k)) k
          + v73 (ix3 0 r k) * mm (fun e => v17 (ix2 ⟨128 + r, by omega⟩ e)) (fun e k => v70 (ix4 0 0 e k)) k)
          (fun k d => v82 (ix3 0 k d)) d := by
  pointwise! [k0_pay11, mm]

/-- The upper half's row after the first residual. -/
theorem pay15_apply (y v85 : FVec Ideal S128x1024 .f32) (v86 v88 : FVec Ideal S1x1024 .f32) (r : Fin 128) (d : Fin 1024) :
    k0_pay15 (F := Ideal) y v85 v86 v88 (ix2 r d)
      = res (fun d => v85 (ix2 r d)) (fun d => v86 (ix2 0 d)) (fun d => y (ix2 r d)) (fun d => v88 (ix2 0 d)) d := by
  pointwise! [k0_pay15, res, rms]

/-- The lower half's row after the first residual. -/
theorem pay16_apply (v1 : FVec Ideal S6x1024 .f32) (v24 : FVec Ideal S256x1024 .f32) (y : FVec Ideal S128x1024 .f32)
    (v106 : FVec Ideal S1x1024 .f32) (r : Fin 128) (d : Fin 1024) :
    k0_pay16 (F := Ideal) v1 v24 y v106 (ix2 r d)
      = res (fun d => v24 (ix2 ⟨128 + r, by omega⟩ d)) (fun d => v1 (ix2 2 d)) (fun d => y (ix2 r d)) (fun d => v106 (ix2 0 d)) d := by
  pointwise! [k0_pay16, res, rms]

/-- The upper half's normalised row: its gain is multiplied in apart. -/
theorem pay17_apply (y v85 : FVec Ideal S128x1024 .f32) (v86 v88 : FVec Ideal S1x1024 .f32) (v123 : FVec Ideal S1x1024 .f32)
    (r : Fin 128) (d : Fin 1024) :
    k0_pay17 (F := Ideal) y v85 v86 v88 (ix2 r d) * k0_pay18 (F := Ideal) v123 (ix2 r d)
      = rms (fun d => k0_pay15 (F := Ideal) y v85 v86 v88 (ix2 r d)) (fun d => v123 (ix2 0 d)) d := by
  pointwise! [k0_pay17, k0_pay18, rms]

/-- The lower half's hidden layer. -/
theorem pay19_apply (v1 : FVec Ideal S6x1024 .f32) (v122 : FVec Ideal S128x1024 .f32) (v146 : FVec Ideal S1x1024 .f32)
    (v172 : FVec Ideal S1x1024x4096 .bf16) (r : Fin 128) (k : Fin 4096) :
    k0_pay19 (F := Ideal) v1 v122 v146 v172 (ix2 r k)
      = mm (hid (fun d => v122 (ix2 r d)) (fun d => v146 (ix2 0 d)) (fun d => v1 (ix2 4 d)) (fun d => v1 (ix2 3 d)))
          (fun d k => v172 (ix3 0 d k)) k := by
  pointwise! [k0_pay19, mm, hid, rms]

/-- The upper half's hidden layer. -/
theorem pay20_apply (v1 : FVec Ideal S6x1024 .f32) (v134 v135 : FVec Ideal S128x1024 .f32)
    (v169 : FVec Ideal S1x1024x4096 .bf16) (r : Fin 128) (k : Fin 4096) :
    k0_pay20 (F := Ideal) v1 v134 v135 v169 (ix2 r k)
      = act (mm (fun d => v134 (ix2 r d) * v135 (ix2 r d) * (1 + v1 (ix2 4 d)) + v1 (ix2 3 d)) (fun d k => v169 (ix3 0 d k))) k := by
  pointwise! [k0_pay20, act, mm]

/-- The lower half's MLP. -/
theorem pay21_apply (u : FVec Ideal S128x4096 .f32) (v186 : FVec Ideal S1x4096x1024 .bf16) (r : Fin 128) (d : Fin 1024) :
    k0_pay21 (F := Ideal) u (Scalar.ofBits .f32 0x00000000#32) v186 (ix2 r d)
      = mm (act (fun k => u (ix2 r k))) (fun k d => v186 (ix3 0 k d)) d := by
  pointwise! [k0_pay21, act, mm]

/-- The upper half's result. -/
theorem pay22_apply (v1 : FVec Ideal S6x1024 .f32) (v103 : FVec Ideal S128x1024 .f32) (v178 : FVec Ideal S128x4096 .bf16)
    (v183 : FVec Ideal S1x4096x1024 .bf16) (v190 : FVec Ideal S1x1024 .f32) (r : Fin 128) (d : Fin 1024) :
    k0_pay22 (F := Ideal) v1 v103 v178 v183 v190 (ix3 0 r d)
      = res (fun d => v103 (ix2 r d)) (fun d => v1 (ix2 5 d)) (mm (fun k => v178 (ix2 r k)) (fun k d => v183 (ix3 0 k d)))
          (fun d => v190 (ix2 0 d)) d := by
  pointwise! [k0_pay22, res, rms, mm]

/-- The lower half's result. -/
theorem pay1_apply (v122 y : FVec Ideal S128x1024 .f32) (v210 v212 : FVec Ideal S1x1024 .f32) (v217 : FVec Ideal S128x1 .f32)
    (r : Fin 128) (d : Fin 1024)
    (h : v217 (ix2 r 0) = Ideal.div (∑ e : Fin 1024, y (ix2 r e) * y (ix2 r e)) (Ideal.ofBits .f32 0x44800000#32)) :
    k0_pay1 (F := Ideal) v122 y v210 v212 v217 (ix3 0 r d)
      = res (fun d => v122 (ix2 r d)) (fun d => v210 (ix2 0 d)) (fun d => y (ix2 r d)) (fun d => v212 (ix2 0 d)) d := by
  pointwise [k0_pay1, res, rms, h]

variable (i : grid0.Coords) (x0 x1 : FVec Ideal S1x256x1024 .f32) (x2 : FVec Ideal S1x1x6x1024 .f32)
  (x3 x4 x5 x6 x7 : FVec Ideal S1x256x512 .bf16) (x8 : FVec Ideal S1x256x3072 .bf16) (x9 : FVec Ideal S1x3x512x1024 .bf16)
  (x10 : FVec Ideal S1x1024x1024 .bf16) (x11 x12 : FVec Ideal S1x1024 .f32) (x13 : FVec Ideal S1x1024x4096 .bf16)
  (x14 : FVec Ideal S1x4096x1024 .bf16) (x15 : FVec Ideal S1x1024 .f32)

/-- Row `r` of the tile after the first residual, from the blocks. -/
def tile1 (r : Fin 256) : Fin 1024 → EReal :=
  row1 (fun e => pick i (x0 (ix3 0 r e)) (x1 (ix3 0 r e))) (fun j e => x2 (ix4 0 0 j e))
    (fun e => pick i (x3 (ix3 0 r e)) (x4 (ix3 0 r e))) (fun e => x5 (ix3 0 r e))
    (fun e => pick i (x6 (ix3 0 r e)) (x7 (ix3 0 r e)))
    (fun z k => x8 (ix3 0 r ⟨1024 * z.val + k.val, by omega⟩)) (fun z e k => x9 (ix4 0 z e k))
    (fun k d => x10 (ix3 0 k d)) (fun d => x11 (ix2 0 d))

/-- Row `r` of the result tile, from the blocks. -/
def tile (r : Fin 256) : Fin 1024 → EReal :=
  res (tile1 i x0 x1 x2 x3 x4 x5 x6 x7 x8 x9 x10 x11 r) (fun e => x2 (ix4 0 0 5 e))
    (mlp (tile1 i x0 x1 x2 x3 x4 x5 x6 x7 x8 x9 x10 x11 r) (fun j e => x2 (ix4 0 0 j e)) (fun d => x12 (ix2 0 d))
      (fun d k => x13 (ix3 0 d k)) (fun k d => x14 (ix3 0 k d))) (fun d => x15 (ix2 0 d))

/-- The upper half after the first residual. -/
theorem upper1 (r : Fin 128) (d : Fin 1024) :
    k0_pay15 (F := Ideal) (k0_pay30 i x0 x1 x2 x3 x4 x5 x6 x7 x8 x9 x10 x11 x12 x13 x14 x15)
        (k0_pay31 i x0 x1 x2 x3 x4 x5 x6 x7 x8 x9 x10 x11 x12 x13 x14 x15)
        (k0_pay32 i x0 x1 x2 x3 x4 x5 x6 x7 x8 x9 x10 x11 x12 x13 x14 x15)
        (k0_pay33 i x0 x1 x2 x3 x4 x5 x6 x7 x8 x9 x10 x11 x12 x13 x14 x15) (ix2 r d)
      = tile1 i x0 x1 x2 x3 x4 x5 x6 x7 x8 x9 x10 x11 ⟨r, by omega⟩ d := by
  rw [pay15_apply]
  unfold k0_pay30 k0_pay31 k0_pay32 k0_pay33 k0_pay29 k0_pay26 k0_pay28 k0_pay27
  simp only [pay10_apply, pay8_apply, pay7_apply, pay5_apply]
  pointwise [k0_pay12, k0_pay13, k0_pay14, k0_pay4, k0_pay2, pay6_apply, tile1, row1, tot, mm, res, rms]

/-- The lower half after the first residual. -/
theorem lower1 (r : Fin 128) (d : Fin 1024) :
    k0_pay34 (F := Ideal) i x0 x1 x2 x3 x4 x5 x6 x7 x8 x9 x10 x11 x12 x13 x14 x15 (ix2 r d)
      = tile1 i x0 x1 x2 x3 x4 x5 x6 x7 x8 x9 x10 x11 ⟨128 + r, by omega⟩ d := by
  unfold k0_pay34
  rw [pay16_apply]
  unfold k0_pay29 k0_pay26 k0_pay28 k0_pay27
  simp only [pay11_apply, pay9_apply, pay3_apply, pay5_apply, pay6_apply]
  pointwise [k0_pay4, k0_pay2, tile1, row1, tot, mm, res, rms]

/-- The upper half's hidden layer, squared. -/
theorem upper2 (r : Fin 128) (k : Fin 4096) :
    k0_pay20 (F := Ideal) (k0_pay26 i x0 x1 x2 x3 x4 x5 x6 x7 x8 x9 x10 x11 x12 x13 x14 x15)
        (k0_pay17 (k0_pay30 i x0 x1 x2 x3 x4 x5 x6 x7 x8 x9 x10 x11 x12 x13 x14 x15)
          (k0_pay31 i x0 x1 x2 x3 x4 x5 x6 x7 x8 x9 x10 x11 x12 x13 x14 x15)
          (k0_pay32 i x0 x1 x2 x3 x4 x5 x6 x7 x8 x9 x10 x11 x12 x13 x14 x15)
          (k0_pay33 i x0 x1 x2 x3 x4 x5 x6 x7 x8 x9 x10 x11 x12 x13 x14 x15))
        (k0_pay18 (View.ld x12 r0_13)) (View.ld x13 r0_14) (ix2 r k)
      = act (mm (hid (tile1 i x0 x1 x2 x3 x4 x5 x6 x7 x8 x9 x10 x11 ⟨r, by omega⟩) (fun d => x12 (ix2 0 d))
          (fun e => x2 (ix4 0 0 4 e)) (fun e => x2 (ix4 0 0 3 e))) (fun d k => x13 (ix3 0 d k))) k := by
  rw [pay20_apply]
  simp only [pay17_apply, upper1]
  unfold k0_pay26
  pointwise [k0_pay2, act, mm, hid, rms]

/-- The lower half's hidden layer. -/
theorem lower2 (r : Fin 128) (k : Fin 4096) :
    k0_pay35 (F := Ideal) i x0 x1 x2 x3 x4 x5 x6 x7 x8 x9 x10 x11 x12 x13 x14 x15 (ix2 r k)
      = mm (hid (tile1 i x0 x1 x2 x3 x4 x5 x6 x7 x8 x9 x10 x11 ⟨128 + r, by omega⟩) (fun d => x12 (ix2 0 d))
          (fun e => x2 (ix4 0 0 4 e)) (fun e => x2 (ix4 0 0 3 e))) (fun d k => x13 (ix3 0 d k)) k := by
  unfold k0_pay35
  rw [pay19_apply]
  simp only [lower1]
  unfold k0_pay26
  pointwise [k0_pay2, mm, hid, rms]

/-- The lower half's MLP. -/
theorem lower3 (r : Fin 128) (d : Fin 1024) :
    k0_pay21 (F := Ideal) (k0_pay35 i x0 x1 x2 x3 x4 x5 x6 x7 x8 x9 x10 x11 x12 x13 x14 x15)
        (Scalar.ofBits .f32 0x00000000#32) (View.ld x14 r0_15) (ix2 r d)
      = mlp (tile1 i x0 x1 x2 x3 x4 x5 x6 x7 x8 x9 x10 x11 ⟨128 + r, by omega⟩) (fun j e => x2 (ix4 0 0 j e))
          (fun d => x12 (ix2 0 d)) (fun d k => x13 (ix3 0 d k)) (fun k d => x14 (ix3 0 k d)) d := by
  rw [pay21_apply]
  simp only [lower2]
  pointwise [mlp, act, mm]

/-- The result tile, row by row. -/
theorem out_apply (r : Fin 256) (d : Fin 1024) :
    out0_16 (F := Ideal) i x0 x1 x2 x3 x4 x5 x6 x7 x8 x9 x10 x11 x12 x13 x14 x15 (ix3 0 r d)
      = tile i x0 x1 x2 x3 x4 x5 x6 x7 x8 x9 x10 x11 x12 x13 x14 x15 r d := by
  unfold out0_16
  canon_tiles x h
  · obtain ⟨s, hs⟩ : ∃ s : Fin 128, r.val = 128 + s.val := ⟨⟨x 1, x1_lt⟩, h1⟩
    obtain rfl : r = ⟨128 + s.val, Nat.add_lt_add_left s.isLt 128⟩ := Fin.ext hs
    obtain rfl : x = ix3 0 s d := by
      funext i
      apply Fin.ext
      fin_cases i
      · have : ((x 0 : Fin _) : Nat) < 1 := x0_lt
        show ((x 0 : Fin _) : Nat) = 0
        omega
      · exact (Nat.add_left_cancel h1).symm
      · exact h2.symm
    rw [pay1_apply]
    · simp only [lower1, lower3]
      unfold k0_pay26
      pointwise [k0_pay23, k0_pay24, k0_pay2, tile, res, rms]
    · pointwise! [k0_pay25]
  · obtain ⟨s, hs⟩ : ∃ s : Fin 128, r.val = s.val := ⟨⟨x 1, x1_lt⟩, h1⟩
    obtain rfl : r = ⟨s.val, Nat.lt_trans s.isLt (by decide)⟩ := Fin.ext hs
    obtain rfl : x = ix3 0 s d := by
      funext i
      apply Fin.ext
      fin_cases i
      · have : ((x 0 : Fin _) : Nat) < 1 := x0_lt
        show ((x 0 : Fin _) : Nat) = 0
        omega
      · exact h1.symm
      · exact h2.symm
    rw [pay22_apply]
    simp only [upper1, upper2]
    unfold k0_pay26
    pointwise [k0_pay2, tile, mlp, res, rms, mm]

end Cert.Close

end
-- ==== Proof.CloseRef.lean ====
/- The plain closing layer of the first layer, read row by row: context rows and latent rows. -/
module

public import proofs.«01_k».proof.Proof.Gen.Reference3Ideal.Run
public import Idealize.ShloMosaic.Lib.Pipeline.ValueKit
public import proofs.«01_k».proof.Proof.PostRow

@[expose] public section

set_option maxRecDepth 16384

noncomputable section

namespace Cert.Close

open Idealize.ShloMosaic Idealize.ShloMosaic.TcCoe Idealize.ShloMosaic.Host Cert.Reference3Ideal Cert.Reference3Ideal.Value
open Cert.Post (mm rms tot res hid act row row1 mlp)

/-- A context row of the layer as a function of the operands. -/
def rowC (X : FVec Ideal S16x256x1024 .f32) (M : FVec Ideal S6144 .f32) (A : FVec Ideal S16x256x512 .f32)
    (B : FVec Ideal S16x2304x512 .f32) (C : FVec Ideal S16x256x512 .f32) (G : FVec Ideal S16x2304x3072 .f32)
    (W : FVec Ideal S2x3x512x1024 .f32) (WO : FVec Ideal S2x1024x1024 .f32) (GP GQ : FVec Ideal S2x1024 .f32)
    (W1 : FVec Ideal S2x1024x4096 .f32) (W2 : FVec Ideal S2x4096x1024 .f32) (GR : FVec Ideal S2x1024 .f32)
    (b : Fin 16) (n : Fin 256) : Fin 1024 → EReal :=
  row (fun e => X (ix3 b n e)) (fun i e => M (ix1 ⟨1024 * i.val + e.val, by omega⟩))
    (fun e => A (ix3 b n e)) (fun e => B (ix3 b ⟨n, by omega⟩ e)) (fun e => C (ix3 b n e))
    (fun z k => G (ix3 b ⟨n, by omega⟩ ⟨1024 * z.val + k.val, by omega⟩)) (fun z e k => W (ix4 0 z e k))
    (fun k d => WO (ix3 0 k d)) (fun d => GP (ix2 0 d)) (fun d => GQ (ix2 0 d)) (fun d k => W1 (ix3 0 d k))
    (fun k d => W2 (ix3 0 k d)) (fun d => GR (ix2 0 d))

/-- A latent row of the layer as a function of the operands. -/
def rowL (X : FVec Ideal S16x2048x1024 .f32) (M : FVec Ideal S16x6144 .f32) (A : FVec Ideal S16x2048x512 .f32)
    (B : FVec Ideal S16x2304x512 .f32) (C : FVec Ideal S16x2048x512 .f32) (G : FVec Ideal S16x2304x3072 .f32)
    (W : FVec Ideal S2x3x512x1024 .f32) (WO : FVec Ideal S2x1024x1024 .f32) (GP GQ : FVec Ideal S2x1024 .f32)
    (W1 : FVec Ideal S2x1024x4096 .f32) (W2 : FVec Ideal S2x4096x1024 .f32) (GR : FVec Ideal S2x1024 .f32)
    (b : Fin 16) (n : Fin 2048) : Fin 1024 → EReal :=
  row (fun e => X (ix3 b n e)) (fun i e => M (ix2 b ⟨1024 * i.val + e.val, by omega⟩))
    (fun e => A (ix3 b n e)) (fun e => B (ix3 b ⟨256 + n, by omega⟩ e)) (fun e => C (ix3 b n e))
    (fun z k => G (ix3 b ⟨256 + n, by omega⟩ ⟨1024 * z.val + k.val, by omega⟩)) (fun z e k => W (ix4 0 z e k))
    (fun k d => WO (ix3 0 k d)) (fun d => GP (ix2 0 d)) (fun d => GQ (ix2 0 d)) (fun d k => W1 (ix3 0 d k))
    (fun k d => W2 (ix3 0 k d)) (fun d => GR (ix2 0 d))

variable (V0 : Valuation τ sig (Elt Ideal))

/-- Operand 0: the context's tokens. -/
abbrev a0 : FVec Ideal S16x256x1024 .f32 := V0 (Proc.devRef .tc main_arg0)
/-- Operand 1: the latents' tokens. -/
abbrev a1 : FVec Ideal S16x2048x1024 .f32 := V0 (Proc.devRef .tc main_arg1)
/-- Operand 2: the context's modulation. -/
abbrev a2 : FVec Ideal S6144 .f32 := V0 (Proc.devRef .tc main_arg2)
/-- Operand 3: the latents' modulation. -/
abbrev a3 : FVec Ideal S16x6144 .f32 := V0 (Proc.devRef .tc main_arg3)
/-- Operand 4: the context's first branch. -/
abbrev a4 : FVec Ideal S16x256x512 .f32 := V0 (Proc.devRef .tc main_arg4)
/-- Operand 5: the latents' first branch. -/
abbrev a5 : FVec Ideal S16x2048x512 .f32 := V0 (Proc.devRef .tc main_arg5)
/-- Operand 6: the second branch. -/
abbrev a6 : FVec Ideal S16x2304x512 .f32 := V0 (Proc.devRef .tc main_arg6)
/-- Operand 7: the context's third branch. -/
abbrev a7 : FVec Ideal S16x256x512 .f32 := V0 (Proc.devRef .tc main_arg7)
/-- Operand 8: the latents' third branch. -/
abbrev a8 : FVec Ideal S16x2048x512 .f32 := V0 (Proc.devRef .tc main_arg8)
/-- Operand 9: the gates. -/
abbrev a9 : FVec Ideal S16x2304x3072 .f32 := V0 (Proc.devRef .tc main_arg9)
/-- Operand 10: the branch weights. -/
abbrev a10 : FVec Ideal S2x3x512x1024 .f32 := V0 (Proc.devRef .tc main_arg10)
/-- Operand 11: the output weights. -/
abbrev a11 : FVec Ideal S2x1024x1024 .f32 := V0 (Proc.devRef .tc main_arg11)
/-- Operand 12: the gain after the attention. -/
abbrev a12 : FVec Ideal S2x1024 .f32 := V0 (Proc.devRef .tc main_arg12)
/-- Operand 13: the gain before the MLP. -/
abbrev a13 : FVec Ideal S2x1024 .f32 := V0 (Proc.devRef .tc main_arg13)
/-- Operand 14: the first MLP weights. -/
abbrev a14 : FVec Ideal S2x1024x4096 .f32 := V0 (Proc.devRef .tc main_arg14)
/-- Operand 15: the second MLP weights. -/
abbrev a15 : FVec Ideal S2x4096x1024 .f32 := V0 (Proc.devRef .tc main_arg15)
/-- Operand 16: the gain after the MLP. -/
abbrev a16 : FVec Ideal S2x1024 .f32 := V0 (Proc.devRef .tc main_arg16)

/-- The latents' projected branches. -/
def YL : FVec Ideal S16x2048x1024 .f32 := res_main_v28 V0
/-- The latents' rows after the first residual. -/
def XL : FVec Ideal S16x2048x1024 .f32 := res_main_v62 V0
/-- The latents' clipped hidden layer. -/
def UL : FVec Ideal S16x2048x4096 .f32 := res_main_v89 V0
/-- The latents' MLP output. -/
def OL : FVec Ideal S16x2048x1024 .f32 := res_main_v91 V0
/-- The context's projected branches. -/
def YC : FVec Ideal S16x256x1024 .f32 := res_main_v44 V0
/-- The context's rows after the first residual. -/
def XC : FVec Ideal S16x256x1024 .f32 := res_main_v128 V0
/-- The context's clipped hidden layer. -/
def UC : FVec Ideal S16x256x4096 .f32 := res_main_v157 V0
/-- The context's MLP output. -/
def OC : FVec Ideal S16x256x1024 .f32 := res_main_v159 V0

/-- The projected branches of one latent row. -/
theorem refL28 (b : Fin 16) (n : Fin 2048) (d : Fin 1024) :
    YL V0 (ix3 b n d)
      = mm (tot (fun e => a5 V0 (ix3 b n e)) (fun e => a6 V0 (ix3 b ⟨256 + n, by omega⟩ e)) (fun e => a8 V0 (ix3 b n e))
          (fun z k => a9 V0 (ix3 b ⟨256 + n, by omega⟩ ⟨1024 * z.val + k.val, by omega⟩)) (fun z e k => a10 V0 (ix4 0 z e k)))
        (fun k d => a11 V0 (ix3 0 k d)) d := by
  pointwise [YL, res_main_v28, mm, tot]
  refine Finset.sum_congr (M := EReal) rfl fun k _ => ?_
  refine congrArg (fun u : EReal => u * _) ?_
  rw [Fin.sum_univ_three]
  refine congrArg₂ (fun u v : EReal => u + v) (congrArg₂ (fun u v : EReal => u + v) ?_ ?_) ?_ <;>
    refine congrArg₂ (fun u v : EReal => u * v) ?_ (Finset.sum_congr (M := EReal) rfl fun e _ => mul_comm (G := EReal) _ _)
  · rw [show (⟨(0 : Fin 3).val * 1024 + k.val, by omega⟩ : Fin 3072) = ⟨k.val, by omega⟩ from Fin.ext (Nat.zero_add _)]
  · rfl
  · rfl

/-- The projected branches of one context row. -/
theorem refC44 (b : Fin 16) (n : Fin 256) (d : Fin 1024) :
    YC V0 (ix3 b n d)
      = mm (tot (fun e => a4 V0 (ix3 b n e)) (fun e => a6 V0 (ix3 b ⟨n, by omega⟩ e)) (fun e => a7 V0 (ix3 b n e))
          (fun z k => a9 V0 (ix3 b ⟨n, by omega⟩ ⟨1024 * z.val + k.val, by omega⟩)) (fun z e k => a10 V0 (ix4 0 z e k)))
        (fun k d => a11 V0 (ix3 0 k d)) d := by
  pointwise [YC, res_main_v44, mm, tot]
  refine Finset.sum_congr (M := EReal) rfl fun k _ => ?_
  refine congrArg (fun u : EReal => u * _) ?_
  rw [Fin.sum_univ_three]
  refine congrArg₂ (fun u v : EReal => u + v) (congrArg₂ (fun u v : EReal => u + v) ?_ ?_) ?_ <;>
    refine congrArg₂ (fun u v : EReal => u * v) ?_ (Finset.sum_congr (M := EReal) rfl fun e _ => mul_comm (G := EReal) _ _)
  · rw [show (⟨(0 : Fin 3).val * 1024 + k.val, by omega⟩ : Fin 3072) = ⟨k.val, by omega⟩ from Fin.ext (Nat.zero_add _)]
  · rfl
  · rfl

/-- The latent row after the first residual. -/
theorem refL62 (b : Fin 16) (n : Fin 2048) (d : Fin 1024) :
    XL V0 (ix3 b n d)
      = res (fun e => a1 V0 (ix3 b n e)) (fun e => a3 V0 (ix2 b ⟨2048 + e.val, by omega⟩))
          (fun e => YL V0 (ix3 b n e)) (fun d => a12 V0 (ix2 0 d)) d := by
  pointwise! [XL, YL, res_main_v62, res_main_v0, res, rms]

/-- The context row after the first residual. -/
theorem refC128 (b : Fin 16) (n : Fin 256) (d : Fin 1024) :
    XC V0 (ix3 b n d)
      = res (fun e => a0 V0 (ix3 b n e)) (fun e => a2 V0 (ix1 ⟨2048 + e.val, by omega⟩))
          (fun e => YC V0 (ix3 b n e)) (fun d => a12 V0 (ix2 0 d)) d := by
  pointwise! [XC, YC, res_main_v128, res, rms]

/-- The hidden layer of one latent row. -/
theorem refL89 (b : Fin 16) (n : Fin 2048) (k : Fin 4096) :
    UL V0 (ix3 b n k)
      = max (mm (hid (fun e => XL V0 (ix3 b n e)) (fun d => a13 V0 (ix2 0 d))
          (fun e => a3 V0 (ix2 b ⟨4096 + e.val, by omega⟩)) (fun e => a3 V0 (ix2 b ⟨3072 + e.val, by omega⟩)))
        (fun d k => a14 V0 (ix3 0 d k)) k) 0 := by
  pointwise! [UL, XL, res_main_v89, res_main_v0, mm, hid, rms]

/-- The hidden layer of one context row. -/
theorem refC157 (b : Fin 16) (n : Fin 256) (k : Fin 4096) :
    UC V0 (ix3 b n k)
      = max (mm (hid (fun e => XC V0 (ix3 b n e)) (fun d => a13 V0 (ix2 0 d))
          (fun e => a2 V0 (ix1 ⟨4096 + e.val, by omega⟩)) (fun e => a2 V0 (ix1 ⟨3072 + e.val, by omega⟩)))
        (fun d k => a14 V0 (ix3 0 d k)) k) 0 := by
  pointwise! [UC, XC, res_main_v157, mm, hid, rms]

/-- The MLP of one latent row. -/
theorem refL91 (b : Fin 16) (n : Fin 2048) (d : Fin 1024) :
    OL V0 (ix3 b n d) = mm (fun k => UL V0 (ix3 b n k) * UL V0 (ix3 b n k)) (fun k d => a15 V0 (ix3 0 k d)) d := by
  pointwise! [OL, UL, res_main_v91, mm]

/-- The MLP of one context row. -/
theorem refC159 (b : Fin 16) (n : Fin 256) (d : Fin 1024) :
    OC V0 (ix3 b n d) = mm (fun k => UC V0 (ix3 b n k) * UC V0 (ix3 b n k)) (fun k d => a15 V0 (ix3 0 k d)) d := by
  pointwise! [OC, UC, res_main_v159, mm]

/-- The plain layer's result. -/
abbrev RES : FVec Ideal S16x2304x1024 .f32 := val4 V0 (Proc.devRef .tc main_v179)

/-- The plain layer is the context's row function at every context row. -/
theorem refC_apply (b : Fin 16) (n : Fin 256) (d : Fin 1024) :
    RES V0 (ix3 b ⟨n, by omega⟩ d)
      = rowC (a0 V0) (a2 V0) (a4 V0) (a6 V0) (a7 V0) (a9 V0) (a10 V0) (a11 V0) (a12 V0) (a13 V0) (a14 V0) (a15 V0) (a16 V0) b n d := by
  trans res (fun e => XC V0 (ix3 b n e)) (fun e => a2 V0 (ix1 ⟨5120 + e.val, by omega⟩))
    (fun e => OC V0 (ix3 b n e)) (fun d => a16 V0 (ix2 0 d)) d
  · unfold RES
    rw [val4_main_v179]
    pointwise! [XC, OC, res, rms]
  · simp only [refC159, refC157, refC128, refC44]
    rfl

/-- The plain layer is the latents' row function at every latent row. -/
theorem refL_apply (b : Fin 16) (n : Fin 2048) (d : Fin 1024) :
    RES V0 (ix3 b ⟨256 + n, by omega⟩ d)
      = rowL (a1 V0) (a3 V0) (a5 V0) (a6 V0) (a8 V0) (a9 V0) (a10 V0) (a11 V0) (a12 V0) (a13 V0) (a14 V0) (a15 V0) (a16 V0) b n d := by
  trans res (fun e => XL V0 (ix3 b n e)) (fun e => a3 V0 (ix2 b ⟨5120 + e.val, by omega⟩))
    (fun e => OL V0 (ix3 b n e)) (fun d => a16 V0 (ix2 0 d)) d
  · unfold RES
    rw [val4_main_v179]
    pointwise! [XL, OL, res_main_v0, res, rms]
  · simp only [refL91, refL89, refL62, refL28]
    rfl

end Cert.Close

end
-- ==== Proof.CloseBlks.lean ====
/- Every block the first layer's closing call reads, at the array indices it sits at. -/
module

public import proofs.«01_k».proof.Proof.CloseBlock
public import proofs.«01_k».proof.Proof.CloseRef
public import Idealize.ShloMosaic.Lib.Claim

@[expose] public section

set_option maxRecDepth 16384

noncomputable section

namespace Cert.Close

open Idealize.ShloMosaic Idealize.ShloMosaic.TcCoe Idealize.SL.Sem Cert.Kernel3Ideal Cert.Kernel3Ideal.Gen
open Idealize.ShloMosaic.Pipeline (Dat)

variable (m : (ℓ : Loc nD τ sig) → Buf (Elt Ideal) ℓ)

/-- Where every window sits at grid point `t`. -/
theorem idx_val : ∀ t : Fin cfg0.N, win0_0.index t = ![t.val / 9, 0, 0] ∧ win0_1.index t = ![t.val / 9, t.val % 9 - 1, 0]
    ∧ win0_2.index t = ![t.val / 9, if t.val % 9 = 0 then 0 else 1, 0, 0] ∧ win0_3.index t = ![t.val / 9, 0, 0]
    ∧ win0_4.index t = ![t.val / 9, t.val % 9 - 1, 0] ∧ win0_5.index t = ![t.val / 9, t.val % 9, 0]
    ∧ win0_6.index t = ![t.val / 9, 0, 0] ∧ win0_7.index t = ![t.val / 9, t.val % 9 - 1, 0]
    ∧ win0_8.index t = ![t.val / 9, t.val % 9, 0]
    ∧ win0_9.index t = ![0, 0, 0, 0] ∧ win0_10.index t = ![0, 0, 0] ∧ win0_11.index t = ![0, 0] ∧ win0_12.index t = ![0, 0]
    ∧ win0_13.index t = ![0, 0, 0] ∧ win0_14.index t = ![0, 0, 0] ∧ win0_15.index t = ![0, 0]
    ∧ win0_16.index t = ![t.val / 9, t.val % 9, 0] ∧ t.val < 144 ∧ (grid0.coords t 1).val = t.val % 9 :=
  (by decide +kernel : ∀ t : Fin grid0.N, _)

/-- There are 144 grid points. -/
theorem t_lt (t : Fin cfg0.N) : t.val < 144 := (idx_val t).2.2.2.2.2.2.2.2.2.2.2.2.2.2.2.2.2.1
/-- The second grid coordinate. -/
theorem coord (t : Fin cfg0.N) : (grid0.coords t 1).val = t.val % 9 := (idx_val t).2.2.2.2.2.2.2.2.2.2.2.2.2.2.2.2.2.2

/-- The batch entry of grid point `t`. -/
def bt (t : Fin cfg0.N) : Fin 16 := ⟨t.val / 9, by have := t_lt t; omega⟩
/-- The latent row of row `r` of grid point `t`. -/
def rt (t : Fin cfg0.N) (r : Fin 256) : Fin 2048 := ⟨256 * (t.val % 9 - 1) + r.val, by omega⟩
/-- The token of row `r` of grid point `t`. -/
def nt (t : Fin cfg0.N) (r : Fin 256) : Fin 2304 := ⟨256 * (t.val % 9) + r.val, by omega⟩

/-- Input block 0 at grid point `t`. -/
def xb0 (c : Dev nD) (t : Fin cfg0.N) : FVec Ideal S1x256x1024 .f32 := iblk m c 0 t
/-- Input block 1 at grid point `t`. -/
def xb1 (c : Dev nD) (t : Fin cfg0.N) : FVec Ideal S1x256x1024 .f32 := iblk m c 1 t
/-- Input block 2 at grid point `t`. -/
def xb2 (c : Dev nD) (t : Fin cfg0.N) : FVec Ideal S1x1x6x1024 .f32 := iblk m c 2 t
/-- Input block 3 at grid point `t`. -/
def xb3 (c : Dev nD) (t : Fin cfg0.N) : FVec Ideal S1x256x512 .bf16 := iblk m c 3 t
/-- Input block 4 at grid point `t`. -/
def xb4 (c : Dev nD) (t : Fin cfg0.N) : FVec Ideal S1x256x512 .bf16 := iblk m c 4 t
/-- Input block 5 at grid point `t`. -/
def xb5 (c : Dev nD) (t : Fin cfg0.N) : FVec Ideal S1x256x512 .bf16 := iblk m c 5 t
/-- Input block 6 at grid point `t`. -/
def xb6 (c : Dev nD) (t : Fin cfg0.N) : FVec Ideal S1x256x512 .bf16 := iblk m c 6 t
/-- Input block 7 at grid point `t`. -/
def xb7 (c : Dev nD) (t : Fin cfg0.N) : FVec Ideal S1x256x512 .bf16 := iblk m c 7 t
/-- Input block 8 at grid point `t`. -/
def xb8 (c : Dev nD) (t : Fin cfg0.N) : FVec Ideal S1x256x3072 .bf16 := iblk m c 8 t
/-- Input block 9 at grid point `t`. -/
def xb9 (c : Dev nD) (t : Fin cfg0.N) : FVec Ideal S1x3x512x1024 .bf16 := iblk m c 9 t
/-- Input block 10 at grid point `t`. -/
def xb10 (c : Dev nD) (t : Fin cfg0.N) : FVec Ideal S1x1024x1024 .bf16 := iblk m c 10 t
/-- Input block 11 at grid point `t`. -/
def xb11 (c : Dev nD) (t : Fin cfg0.N) : FVec Ideal S1x1024 .f32 := iblk m c 11 t
/-- Input block 12 at grid point `t`. -/
def xb12 (c : Dev nD) (t : Fin cfg0.N) : FVec Ideal S1x1024 .f32 := iblk m c 12 t
/-- Input block 13 at grid point `t`. -/
def xb13 (c : Dev nD) (t : Fin cfg0.N) : FVec Ideal S1x1024x4096 .bf16 := iblk m c 13 t
/-- Input block 14 at grid point `t`. -/
def xb14 (c : Dev nD) (t : Fin cfg0.N) : FVec Ideal S1x4096x1024 .bf16 := iblk m c 14 t
/-- Input block 15 at grid point `t`. -/
def xb15 (c : Dev nD) (t : Fin cfg0.N) : FVec Ideal S1x1024 .f32 := iblk m c 15 t
/-- Operand 0 of the call. -/
def ar0 (c : Dev nD) : FVec Ideal Cert.Reference3Ideal.S16x256x1024 .f32 := m ((c : Thread nD τ).loc main_arg0)
/-- Operand 1 of the call. -/
def ar1 (c : Dev nD) : FVec Ideal Cert.Reference3Ideal.S16x2048x1024 .f32 := m ((c : Thread nD τ).loc main_arg1)
/-- Operand 2 of the call. -/
def ar2 (c : Dev nD) : FVec Ideal Cert.Reference3Ideal.S6144 .f32 := m ((c : Thread nD τ).loc main_arg2)
/-- Operand 3 of the call. -/
def ar3 (c : Dev nD) : FVec Ideal Cert.Reference3Ideal.S16x6144 .f32 := m ((c : Thread nD τ).loc main_arg3)
/-- Operand 4 of the call. -/
def ar4 (c : Dev nD) : FVec Ideal Cert.Reference3Ideal.S16x256x512 .f32 := m ((c : Thread nD τ).loc main_arg4)
/-- Operand 5 of the call. -/
def ar5 (c : Dev nD) : FVec Ideal Cert.Reference3Ideal.S16x2048x512 .f32 := m ((c : Thread nD τ).loc main_arg5)
/-- Operand 6 of the call. -/
def ar6 (c : Dev nD) : FVec Ideal Cert.Reference3Ideal.S16x2304x512 .f32 := m ((c : Thread nD τ).loc main_arg6)
/-- Operand 7 of the call. -/
def ar7 (c : Dev nD) : FVec Ideal Cert.Reference3Ideal.S16x256x512 .f32 := m ((c : Thread nD τ).loc main_arg7)
/-- Operand 8 of the call. -/
def ar8 (c : Dev nD) : FVec Ideal Cert.Reference3Ideal.S16x2048x512 .f32 := m ((c : Thread nD τ).loc main_arg8)
/-- Operand 9 of the call. -/
def ar9 (c : Dev nD) : FVec Ideal Cert.Reference3Ideal.S16x2304x3072 .f32 := m ((c : Thread nD τ).loc main_arg9)
/-- Operand 10 of the call. -/
def ar10 (c : Dev nD) : FVec Ideal Cert.Reference3Ideal.S2x3x512x1024 .f32 := m ((c : Thread nD τ).loc main_arg10)
/-- Operand 11 of the call. -/
def ar11 (c : Dev nD) : FVec Ideal Cert.Reference3Ideal.S2x1024x1024 .f32 := m ((c : Thread nD τ).loc main_arg11)
/-- Operand 12 of the call. -/
def ar12 (c : Dev nD) : FVec Ideal Cert.Reference3Ideal.S2x1024 .f32 := m ((c : Thread nD τ).loc main_arg12)
/-- Operand 13 of the call. -/
def ar13 (c : Dev nD) : FVec Ideal Cert.Reference3Ideal.S2x1024 .f32 := m ((c : Thread nD τ).loc main_arg13)
/-- Operand 14 of the call. -/
def ar14 (c : Dev nD) : FVec Ideal Cert.Reference3Ideal.S2x1024x4096 .f32 := m ((c : Thread nD τ).loc main_arg14)
/-- Operand 15 of the call. -/
def ar15 (c : Dev nD) : FVec Ideal Cert.Reference3Ideal.S2x4096x1024 .f32 := m ((c : Thread nD τ).loc main_arg15)
/-- Operand 16 of the call. -/
def ar16 (c : Dev nD) : FVec Ideal Cert.Reference3Ideal.S2x1024 .f32 := m ((c : Thread nD τ).loc main_arg16)

/-- The block of context tokens. -/
theorem blk0 (c : Dev nD) (t : Fin cfg0.N) (r : Fin 256) (e : Fin 1024) :
    xb0 m c t (ix3 0 r e) = ar0 m c (ix3 (bt t) r e) := by
  unfold xb0 ar0
  blk_point [iblk, V, idx_val t]
  all_goals (simp only [bt, rt, nt]; omega)

/-- The block of latent tokens. -/
theorem blk1 (c : Dev nD) (t : Fin cfg0.N) (r : Fin 256) (e : Fin 1024) :
    xb1 m c t (ix3 0 r e) = ar1 m c (ix3 (bt t) (rt t r) e) := by
  unfold xb1 ar1
  blk_point [iblk, V, idx_val t]
  all_goals (simp only [bt, rt, nt]; omega)

/-- The block of modulation rows at a context tile. -/
theorem blk2C (c : Dev nD) (t : Fin cfg0.N) (ht : t.val % 9 = 0) (i : Fin 6) (e : Fin 1024) :
    xb2 m c t (ix4 0 0 i e) = ar2 m c (ix1 ⟨1024 * i.val + e.val, by omega⟩) := by
  unfold xb2 ar2
  have h : ((cfg0.win 2).blk t).view.emb (ix4 0 0 i e) = ix4 (bt t) 0 i e := by
    blk_ext [idx_val t, ht]
    · exact Nat.add_zero _
    · rfl
  show V m c (Pipeline.arrRef spec0 2) (((cfg0.win 2).blk t).view.emb (ix4 0 0 i e)) = _
  rw [h]
  show V m c main_v3 _ = _
  entry_read
  pointwise
  exact congrArg (fun k : Fin 6144 => m ((c : Thread nD τ).loc main_arg2) (ix1 k))
    (Fin.ext (by show i.val * 1024 + e.val = 1024 * i.val + e.val; omega))

/-- The block of modulation rows at a latent tile. -/
theorem blk2L (c : Dev nD) (t : Fin cfg0.N) (ht : t.val % 9 ≠ 0) (i : Fin 6) (e : Fin 1024) :
    xb2 m c t (ix4 0 0 i e) = ar3 m c (ix2 (bt t) ⟨1024 * i.val + e.val, by omega⟩) := by
  unfold xb2 ar3
  have h : ((cfg0.win 2).blk t).view.emb (ix4 0 0 i e) = ix4 (bt t) 1 i e := by
    blk_ext [idx_val t, ht]
    · exact Nat.add_zero _
    · rfl
  show V m c (Pipeline.arrRef spec0 2) (((cfg0.win 2).blk t).view.emb (ix4 0 0 i e)) = _
  rw [h]
  show V m c main_v3 _ = _
  entry_read
  pointwise
  exact congrArg (fun k : Fin 6144 => m ((c : Thread nD τ).loc main_arg3) (ix2 (bt t) k))
    (Fin.ext (by show i.val * 1024 + e.val = 1024 * i.val + e.val; omega))

/-- The block of the context's first branch. -/
theorem blk3 (c : Dev nD) (t : Fin cfg0.N) (r : Fin 256) (e : Fin 512) :
    xb3 m c t (ix3 0 r e) = ar4 m c (ix3 (bt t) r e) := by
  unfold xb3 ar4
  blk_point [iblk, V, idx_val t]
  all_goals (simp only [bt, rt, nt]; omega)

/-- The block of the latents' first branch. -/
theorem blk4 (c : Dev nD) (t : Fin cfg0.N) (r : Fin 256) (e : Fin 512) :
    xb4 m c t (ix3 0 r e) = ar5 m c (ix3 (bt t) (rt t r) e) := by
  unfold xb4 ar5
  blk_point [iblk, V, idx_val t]
  all_goals (simp only [bt, rt, nt]; omega)

/-- The block of the second branch. -/
theorem blk5 (c : Dev nD) (t : Fin cfg0.N) (r : Fin 256) (e : Fin 512) :
    xb5 m c t (ix3 0 r e) = ar6 m c (ix3 (bt t) (nt t r) e) := by
  unfold xb5 ar6
  blk_point [iblk, V, idx_val t]
  all_goals (simp only [bt, rt, nt]; omega)

/-- The block of the context's third branch. -/
theorem blk6 (c : Dev nD) (t : Fin cfg0.N) (r : Fin 256) (e : Fin 512) :
    xb6 m c t (ix3 0 r e) = ar7 m c (ix3 (bt t) r e) := by
  unfold xb6 ar7
  blk_point [iblk, V, idx_val t]
  all_goals (simp only [bt, rt, nt]; omega)

/-- The block of the latents' third branch. -/
theorem blk7 (c : Dev nD) (t : Fin cfg0.N) (r : Fin 256) (e : Fin 512) :
    xb7 m c t (ix3 0 r e) = ar8 m c (ix3 (bt t) (rt t r) e) := by
  unfold xb7 ar8
  blk_point [iblk, V, idx_val t]
  all_goals (simp only [bt, rt, nt]; omega)

/-- The block of gates. -/
theorem blk8 (c : Dev nD) (t : Fin cfg0.N) (r : Fin 256) (e : Fin 3072) :
    xb8 m c t (ix3 0 r e) = ar9 m c (ix3 (bt t) (nt t r) e) := by
  unfold xb8 ar9
  blk_point [iblk, V, idx_val t]
  all_goals (simp only [bt, rt, nt]; omega)

/-- The branch weights. -/
theorem blk9 (c : Dev nD) (t : Fin cfg0.N) (z : Fin 3) (e : Fin 512) (d : Fin 1024) :
    xb9 m c t (ix4 0 z e d) = ar10 m c (ix4 0 z e d) := by
  unfold xb9 ar10
  blk_point [iblk, V, idx_val t]

/-- The output weights. -/
theorem blk10 (c : Dev nD) (t : Fin cfg0.N) (e d : Fin 1024) :
    xb10 m c t (ix3 0 e d) = ar11 m c (ix3 0 e d) := by
  unfold xb10 ar11
  blk_point [iblk, V, idx_val t]

/-- The gain after the attention. -/
theorem blk11 (c : Dev nD) (t : Fin cfg0.N) (d : Fin 1024) :
    xb11 m c t (ix2 0 d) = ar12 m c (ix2 0 d) := by
  unfold xb11 ar12
  blk_point [iblk, V, idx_val t]

/-- The gain before the MLP. -/
theorem blk12 (c : Dev nD) (t : Fin cfg0.N) (d : Fin 1024) :
    xb12 m c t (ix2 0 d) = ar13 m c (ix2 0 d) := by
  unfold xb12 ar13
  blk_point [iblk, V, idx_val t]

/-- The first MLP weights. -/
theorem blk13 (c : Dev nD) (t : Fin cfg0.N) (d : Fin 1024) (k : Fin 4096) :
    xb13 m c t (ix3 0 d k) = ar14 m c (ix3 0 d k) := by
  unfold xb13 ar14
  blk_point [iblk, V, idx_val t]

/-- The second MLP weights. -/
theorem blk14 (c : Dev nD) (t : Fin cfg0.N) (k : Fin 4096) (d : Fin 1024) :
    xb14 m c t (ix3 0 k d) = ar15 m c (ix3 0 k d) := by
  unfold xb14 ar15
  blk_point [iblk, V, idx_val t]

/-- The gain after the MLP. -/
theorem blk15 (c : Dev nD) (t : Fin cfg0.N) (d : Fin 1024) :
    xb15 m c t (ix2 0 d) = ar16 m c (ix2 0 d) := by
  unfold xb15 ar16
  blk_point [iblk, V, idx_val t]

end Cert.Close

end
-- ==== Proof.CloseFinal.lean ====
/- The first layer's closing call leaves the plain closing layer's array. -/
module

public import proofs.«01_k».proof.Proof.CloseBlks

@[expose] public section

set_option maxRecDepth 16384

noncomputable section

namespace Cert.Close

open Idealize.ShloMosaic Idealize.ShloMosaic.TcCoe Idealize.SL.Sem Cert.Kernel3Ideal Cert.Kernel3Ideal.Gen
open Idealize.ShloMosaic.Pipeline (Dat)
open Cert.Post (row)

variable (m : (ℓ : Loc nD τ sig) → Buf (Elt Ideal) ℓ)

/-- The tile's row depends on the blocks only through the entries read. -/
theorem tile_congr {i : grid0.Coords} {x0 x1 : FVec Ideal S1x256x1024 .f32} {x2 : FVec Ideal S1x1x6x1024 .f32}
    {x3 x4 x5 x6 x7 : FVec Ideal S1x256x512 .bf16}
    {x8 : FVec Ideal S1x256x3072 .bf16} {x9 : FVec Ideal S1x3x512x1024 .bf16} {x10 : FVec Ideal S1x1024x1024 .bf16}
    {x11 x12 : FVec Ideal S1x1024 .f32} {x13 : FVec Ideal S1x1024x4096 .bf16} {x14 : FVec Ideal S1x4096x1024 .bf16}
    {x15 : FVec Ideal S1x1024 .f32} {r : Fin 256} {d : Fin 1024} {f0 : Fin 1024 → EReal} {f1 : Fin 6 → Fin 1024 → EReal}
    {f2 f3 f4 : Fin 512 → EReal} {f5 : Fin 3072 → EReal} {f6 : Fin 3 → Fin 512 → Fin 1024 → EReal}
    {f7 : Fin 1024 → Fin 1024 → EReal} {f8 f9 f12 : Fin 1024 → EReal} {f10 : Fin 1024 → Fin 4096 → EReal}
    {f11 : Fin 4096 → Fin 1024 → EReal}
    (h0 : ∀ e, pick i (x0 (ix3 0 r e)) (x1 (ix3 0 r e)) = f0 e) (h1 : ∀ i e, x2 (ix4 0 0 i e) = f1 i e)
    (h2 : ∀ e, pick i (x3 (ix3 0 r e)) (x4 (ix3 0 r e)) = f2 e) (h3 : ∀ e, x5 (ix3 0 r e) = f3 e)
    (h4 : ∀ e, pick i (x6 (ix3 0 r e)) (x7 (ix3 0 r e)) = f4 e) (h5 : ∀ e, x8 (ix3 0 r e) = f5 e)
    (h6 : ∀ z e d, x9 (ix4 0 z e d) = f6 z e d) (h7 : ∀ e d, x10 (ix3 0 e d) = f7 e d) (h8 : ∀ d, x11 (ix2 0 d) = f8 d)
    (h9 : ∀ d, x12 (ix2 0 d) = f9 d) (h10 : ∀ d k, x13 (ix3 0 d k) = f10 d k) (h11 : ∀ k d, x14 (ix3 0 k d) = f11 k d)
    (h12 : ∀ d, x15 (ix2 0 d) = f12 d) :
    tile i x0 x1 x2 x3 x4 x5 x6 x7 x8 x9 x10 x11 x12 x13 x14 x15 r d
      = row f0 f1 f2 f3 f4 (fun z k => f5 ⟨1024 * z.val + k.val, by omega⟩) f6 f7 f8 f9 f10 f11 f12 d := by
  simp only [tile, tile1, row, h0, h1, h2, h3, h4, h5, h6, h7, h8, h9, h10, h11, h12]

/-- At a context tile the context's value is picked. -/
theorem pickC (t : Fin cfg0.N) (ht : t.val % 9 = 0) {a b x : EReal} (h : a = x) : pick (grid0.coords t) a b = x :=
  (if_pos ((coord t).trans ht)).trans h

/-- At a latent tile the latents' value is picked. -/
theorem pickL (t : Fin cfg0.N) (ht : t.val % 9 ≠ 0) {a b x : EReal} (h : b = x) : pick (grid0.coords t) a b = x :=
  (if_neg (fun e => ht ((coord t).symm.trans e))).trans h

/-- The token of a context tile's row. -/
theorem nt_ctx (t : Fin cfg0.N) (ht : t.val % 9 = 0) (r : Fin 256) : nt t r = ⟨r, by omega⟩ :=
  Fin.ext (by show 256 * (t.val % 9) + r.val = r.val; omega)

/-- The token of a latent tile's row. -/
theorem nt_lat (t : Fin cfg0.N) (ht : t.val % 9 ≠ 0) (r : Fin 256) : nt t r = ⟨256 + rt t r, by omega⟩ :=
  Fin.ext (by show 256 * (t.val % 9) + r.val = 256 + (256 * (t.val % 9 - 1) + r.val); omega)

/-- A context tile's rows are the plain layer's context rows. -/
theorem blocksC (c : Dev nD) (t : Fin cfg0.N) (ht : t.val % 9 = 0) (r : Fin 256) (d : Fin 1024) :
    tile (grid0.coords t) (xb0 m c t) (xb1 m c t) (xb2 m c t) (xb3 m c t) (xb4 m c t) (xb5 m c t) (xb6 m c t) (xb7 m c t) (xb8 m c t) (xb9 m c t) (xb10 m c t) (xb11 m c t) (xb12 m c t) (xb13 m c t) (xb14 m c t) (xb15 m c t) r d
      = rowC (ar0 m c) (ar2 m c) (ar4 m c) (ar6 m c) (ar7 m c) (ar9 m c) (ar10 m c) (ar11 m c) (ar12 m c) (ar13 m c) (ar14 m c) (ar15 m c) (ar16 m c) (bt t) r d :=
  (tile_congr (fun e => pickC t ht (blk0 m c t r e)) (blk2C m c t ht) (fun e => pickC t ht (blk3 m c t r e))
    (fun e => (blk5 m c t r e).trans (congrArg (fun n : Fin 2304 => ar6 m c (ix3 (bt t) n e)) (nt_ctx t ht r)))
    (fun e => pickC t ht (blk6 m c t r e))
    (fun e => (blk8 m c t r e).trans (congrArg (fun n : Fin 2304 => ar9 m c (ix3 (bt t) n e)) (nt_ctx t ht r)))
    (blk9 m c t) (blk10 m c t) (blk11 m c t) (blk12 m c t) (blk13 m c t) (blk14 m c t) (blk15 m c t)).trans rfl

/-- A latent tile's rows are the plain layer's latent rows. -/
theorem blocksL (c : Dev nD) (t : Fin cfg0.N) (ht : t.val % 9 ≠ 0) (r : Fin 256) (d : Fin 1024) :
    tile (grid0.coords t) (xb0 m c t) (xb1 m c t) (xb2 m c t) (xb3 m c t) (xb4 m c t) (xb5 m c t) (xb6 m c t) (xb7 m c t) (xb8 m c t) (xb9 m c t) (xb10 m c t) (xb11 m c t) (xb12 m c t) (xb13 m c t) (xb14 m c t) (xb15 m c t) r d
      = rowL (ar1 m c) (ar3 m c) (ar5 m c) (ar6 m c) (ar8 m c) (ar9 m c) (ar10 m c) (ar11 m c) (ar12 m c) (ar13 m c) (ar14 m c) (ar15 m c) (ar16 m c) (bt t) (rt t r) d :=
  (tile_congr (fun e => pickL t ht (blk1 m c t r e)) (blk2L m c t ht) (fun e => pickL t ht (blk4 m c t r e))
    (fun e => (blk5 m c t r e).trans (congrArg (fun n : Fin 2304 => ar6 m c (ix3 (bt t) n e)) (nt_lat t ht r)))
    (fun e => pickL t ht (blk7 m c t r e))
    (fun e => (blk8 m c t r e).trans (congrArg (fun n : Fin 2304 => ar9 m c (ix3 (bt t) n e)) (nt_lat t ht r)))
    (blk9 m c t) (blk10 m c t) (blk11 m c t) (blk12 m c t) (blk13 m c t) (blk14 m c t) (blk15 m c t)).trans rfl

/-- The layer's array from the operands: context rows, then latent rows. -/
def joined (x0 : FVec Ideal Cert.Reference3Ideal.S16x256x1024 .f32) (x1 : FVec Ideal Cert.Reference3Ideal.S16x2048x1024 .f32) (x2 : FVec Ideal Cert.Reference3Ideal.S6144 .f32) (x3 : FVec Ideal Cert.Reference3Ideal.S16x6144 .f32) (x4 : FVec Ideal Cert.Reference3Ideal.S16x256x512 .f32) (x5 : FVec Ideal Cert.Reference3Ideal.S16x2048x512 .f32) (x6 : FVec Ideal Cert.Reference3Ideal.S16x2304x512 .f32) (x7 : FVec Ideal Cert.Reference3Ideal.S16x256x512 .f32) (x8 : FVec Ideal Cert.Reference3Ideal.S16x2048x512 .f32) (x9 : FVec Ideal Cert.Reference3Ideal.S16x2304x3072 .f32) (x10 : FVec Ideal Cert.Reference3Ideal.S2x3x512x1024 .f32) (x11 : FVec Ideal Cert.Reference3Ideal.S2x1024x1024 .f32) (x12 : FVec Ideal Cert.Reference3Ideal.S2x1024 .f32) (x13 : FVec Ideal Cert.Reference3Ideal.S2x1024 .f32) (x14 : FVec Ideal Cert.Reference3Ideal.S2x1024x4096 .f32) (x15 : FVec Ideal Cert.Reference3Ideal.S2x4096x1024 .f32) (x16 : FVec Ideal Cert.Reference3Ideal.S2x1024 .f32) : FVec Ideal S16x2304x1024 .f32 := fun i =>
  if h : (i 1).val < 256 then rowC x0 x2 x4 x6 x7 x9 x10 x11 x12 x13 x14 x15 x16 (i 0) ⟨(i 1).val, h⟩ (i 2)
  else rowL x1 x3 x5 x6 x8 x9 x10 x11 x12 x13 x14 x15 x16 (i 0) ⟨(i 1).val - 256, by have : (i 1).val < 2304 := (i 1).isLt; omega⟩ (i 2)

/-- The array at a context row. -/
theorem joined_ctx (x0 : FVec Ideal Cert.Reference3Ideal.S16x256x1024 .f32) (x1 : FVec Ideal Cert.Reference3Ideal.S16x2048x1024 .f32) (x2 : FVec Ideal Cert.Reference3Ideal.S6144 .f32) (x3 : FVec Ideal Cert.Reference3Ideal.S16x6144 .f32) (x4 : FVec Ideal Cert.Reference3Ideal.S16x256x512 .f32) (x5 : FVec Ideal Cert.Reference3Ideal.S16x2048x512 .f32) (x6 : FVec Ideal Cert.Reference3Ideal.S16x2304x512 .f32) (x7 : FVec Ideal Cert.Reference3Ideal.S16x256x512 .f32) (x8 : FVec Ideal Cert.Reference3Ideal.S16x2048x512 .f32) (x9 : FVec Ideal Cert.Reference3Ideal.S16x2304x3072 .f32) (x10 : FVec Ideal Cert.Reference3Ideal.S2x3x512x1024 .f32) (x11 : FVec Ideal Cert.Reference3Ideal.S2x1024x1024 .f32) (x12 : FVec Ideal Cert.Reference3Ideal.S2x1024 .f32) (x13 : FVec Ideal Cert.Reference3Ideal.S2x1024 .f32) (x14 : FVec Ideal Cert.Reference3Ideal.S2x1024x4096 .f32) (x15 : FVec Ideal Cert.Reference3Ideal.S2x4096x1024 .f32) (x16 : FVec Ideal Cert.Reference3Ideal.S2x1024 .f32) (b : Fin 16) (n : Fin 2304) (k : Fin 256)
    (hn : n.val = k.val) (d : Fin 1024) : joined x0 x1 x2 x3 x4 x5 x6 x7 x8 x9 x10 x11 x12 x13 x14 x15 x16 (ix3 b n d) = rowC x0 x2 x4 x6 x7 x9 x10 x11 x12 x13 x14 x15 x16 b k d := by
  refine (dif_pos (by show n.val < 256; omega)).trans ?_
  exact congrArg (fun k : Fin 256 => rowC x0 x2 x4 x6 x7 x9 x10 x11 x12 x13 x14 x15 x16 b k d) (Fin.ext hn)

/-- The array at a latent row. -/
theorem joined_lat (x0 : FVec Ideal Cert.Reference3Ideal.S16x256x1024 .f32) (x1 : FVec Ideal Cert.Reference3Ideal.S16x2048x1024 .f32) (x2 : FVec Ideal Cert.Reference3Ideal.S6144 .f32) (x3 : FVec Ideal Cert.Reference3Ideal.S16x6144 .f32) (x4 : FVec Ideal Cert.Reference3Ideal.S16x256x512 .f32) (x5 : FVec Ideal Cert.Reference3Ideal.S16x2048x512 .f32) (x6 : FVec Ideal Cert.Reference3Ideal.S16x2304x512 .f32) (x7 : FVec Ideal Cert.Reference3Ideal.S16x256x512 .f32) (x8 : FVec Ideal Cert.Reference3Ideal.S16x2048x512 .f32) (x9 : FVec Ideal Cert.Reference3Ideal.S16x2304x3072 .f32) (x10 : FVec Ideal Cert.Reference3Ideal.S2x3x512x1024 .f32) (x11 : FVec Ideal Cert.Reference3Ideal.S2x1024x1024 .f32) (x12 : FVec Ideal Cert.Reference3Ideal.S2x1024 .f32) (x13 : FVec Ideal Cert.Reference3Ideal.S2x1024 .f32) (x14 : FVec Ideal Cert.Reference3Ideal.S2x1024x4096 .f32) (x15 : FVec Ideal Cert.Reference3Ideal.S2x4096x1024 .f32) (x16 : FVec Ideal Cert.Reference3Ideal.S2x1024 .f32) (b : Fin 16) (n : Fin 2304) (k : Fin 2048)
    (hn : n.val = 256 + k.val) (d : Fin 1024) : joined x0 x1 x2 x3 x4 x5 x6 x7 x8 x9 x10 x11 x12 x13 x14 x15 x16 (ix3 b n d) = rowL x1 x3 x5 x6 x8 x9 x10 x11 x12 x13 x14 x15 x16 b k d := by
  refine (dif_neg (by show ¬ n.val < 256; omega)).trans ?_
  exact congrArg (fun k : Fin 2048 => rowL x1 x3 x5 x6 x8 x9 x10 x11 x12 x13 x14 x15 x16 b k d) (Fin.ext (by show n.val - 256 = k.val; omega))

/-- An array is the layer's if its context rows and its latent rows are. -/
theorem joined_of (x0 : FVec Ideal Cert.Reference3Ideal.S16x256x1024 .f32) (x1 : FVec Ideal Cert.Reference3Ideal.S16x2048x1024 .f32) (x2 : FVec Ideal Cert.Reference3Ideal.S6144 .f32) (x3 : FVec Ideal Cert.Reference3Ideal.S16x6144 .f32) (x4 : FVec Ideal Cert.Reference3Ideal.S16x256x512 .f32) (x5 : FVec Ideal Cert.Reference3Ideal.S16x2048x512 .f32) (x6 : FVec Ideal Cert.Reference3Ideal.S16x2304x512 .f32) (x7 : FVec Ideal Cert.Reference3Ideal.S16x256x512 .f32) (x8 : FVec Ideal Cert.Reference3Ideal.S16x2048x512 .f32) (x9 : FVec Ideal Cert.Reference3Ideal.S16x2304x3072 .f32) (x10 : FVec Ideal Cert.Reference3Ideal.S2x3x512x1024 .f32) (x11 : FVec Ideal Cert.Reference3Ideal.S2x1024x1024 .f32) (x12 : FVec Ideal Cert.Reference3Ideal.S2x1024 .f32) (x13 : FVec Ideal Cert.Reference3Ideal.S2x1024 .f32) (x14 : FVec Ideal Cert.Reference3Ideal.S2x1024x4096 .f32) (x15 : FVec Ideal Cert.Reference3Ideal.S2x4096x1024 .f32) (x16 : FVec Ideal Cert.Reference3Ideal.S2x1024 .f32) (V : FVec Ideal S16x2304x1024 .f32)
    (hC : ∀ (b : Fin 16) (k : Fin 256) (d : Fin 1024), V (ix3 b ⟨k, by omega⟩ d) = rowC x0 x2 x4 x6 x7 x9 x10 x11 x12 x13 x14 x15 x16 b k d)
    (hL : ∀ (b : Fin 16) (k : Fin 2048) (d : Fin 1024), V (ix3 b ⟨256 + k, by omega⟩ d) = rowL x1 x3 x5 x6 x8 x9 x10 x11 x12 x13 x14 x15 x16 b k d) :
    V = joined x0 x1 x2 x3 x4 x5 x6 x7 x8 x9 x10 x11 x12 x13 x14 x15 x16 := by
  funext i
  obtain ⟨b, n, d, rfl⟩ : ∃ (b : Fin 16) (n : Fin 2304) (d : Fin 1024), i = ix3 b n d :=
    ⟨i 0, i 1, i 2, by funext a; fin_cases a <;> rfl⟩
  by_cases hn : n.val < 256
  · exact (hC b ⟨n.val, hn⟩ d).trans (joined_ctx x0 x1 x2 x3 x4 x5 x6 x7 x8 x9 x10 x11 x12 x13 x14 x15 x16 b n ⟨n.val, hn⟩ rfl d).symm
  · have e : n.val = 256 + (n.val - 256) := by omega
    refine Eq.trans ?_ (joined_lat x0 x1 x2 x3 x4 x5 x6 x7 x8 x9 x10 x11 x12 x13 x14 x15 x16 b n ⟨n.val - 256, by omega⟩ e d).symm
    refine Eq.trans ?_ (hL b ⟨n.val - 256, by omega⟩ d)
    exact congrArg (fun n : Fin 2304 => V (ix3 b n d)) (Fin.ext e)

/-- The array the call leaves. -/
def result (c : Dev nD) : FVec Ideal S16x2304x1024 .f32 := joined (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) (ar16 m c)

/-- Where row `r` of grid point `t`'s block sits in the result array. -/
theorem emb16 (t : Fin cfg0.N) (r : Fin 256) (d : Fin 1024) :
    ((cfg0.win 16).blk t).view.emb (ix3 0 r d) = ix3 (bt t) (nt t r) d := by
  blk_ext [idx_val t]
  all_goals (simp only [bt, nt]; omega)

/-- What one grid point stores, at the array index it is stored to. -/
theorem point (c : Dev nD) (t : Fin cfg0.N) (y : S1x256x1024.Idx) :
    out0_16 (F := Ideal) (grid0.coords t) (xb0 m c t) (xb1 m c t) (xb2 m c t) (xb3 m c t) (xb4 m c t) (xb5 m c t) (xb6 m c t) (xb7 m c t) (xb8 m c t) (xb9 m c t) (xb10 m c t) (xb11 m c t) (xb12 m c t) (xb13 m c t) (xb14 m c t) (xb15 m c t) y
      = result m c (((cfg0.win 16).blk t).view.emb y) := by
  idx_vars y
  obtain rfl : y0 = 0 := Subsingleton.elim _ _
  refine (out_apply _ _ _ _ _ _ _ _ _ _ _ _ _ _ _ _ _ y1 y2).trans ?_
  refine Eq.trans ?_ (congrArg (result m c) (emb16 t y1 y2)).symm
  by_cases ht : t.val % 9 = 0
  · exact (blocksC m c t ht y1 y2).trans (joined_ctx _ _ _ _ _ _ _ _ _ _ _ _ _ _ _ _ _ (bt t) (nt t y1) y1 (congrArg Fin.val (nt_ctx t ht y1)) y2).symm
  · exact (blocksL m c t ht y1 y2).trans (joined_lat _ _ _ _ _ _ _ _ _ _ _ _ _ _ _ _ _ (bt t) (nt t y1) (rt t y1) (congrArg Fin.val (nt_lat t ht y1)) y2).symm

/-- The result array after the closing call. -/
theorem final (c : Dev nD) : (dats m 0 c).arrAt 16 (cfgs 0).N = result m c := by
  refine (dats m 0 c).arrAt_eq_of_covers 16 _ (by decide +kernel) fun t _ y => ?_
  blk_simp
  rw [after0_16]
  exact point m c t y

end Cert.Close

end
-- ==== Proof.CloseClaim.lean ====
/- The first layer's closing call against the plain closing layer. -/
module

public import proofs.«01_k».proof.Defs
public import proofs.«01_k».proof.Proof.CloseFinal

@[expose] public section

set_option maxRecDepth 16384

noncomputable section

namespace Cert.Close

open Idealize.ShloMosaic Idealize.ShloMosaic.TcCoe Idealize.SL.Sem

section

open Cert.Reference3Ideal Cert.Reference3Ideal.Gen Cert.Reference3Ideal.Value Idealize.ShloMosaic.StableHlo

/-- The plain layer's run: it ends with that array and its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v179) = joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun r h c => ⟨(h c).1.trans ((val4_main_v179 (launchContents m c)).symm.trans ?_), (h c).2⟩)
    (Value.run m ρ)
  exact joined_of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) _
    (refC_apply (launchContents m c)) (refL_apply (launchContents m c))

end

section

open Cert.Kernel3Ideal Cert.Kernel3Ideal.Gen

/-- The closing call's run: it ends with the same array and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨((h.1 c).1 16).trans (final m c), h.2 c⟩)
    (θ_run_and (run_main m ρ) (unchanged m ρ))

end

/-- The first layer's closing call agrees with the plain closing layer. -/
theorem algebraic : Cert.algebraic_Kernel3Ideal_Reference3Ideal := by
  pair_intro
  · run_from Cert.Close.kernel_run m g
  · run_from Cert.Close.ref_run m' g'

end Cert.Close

end
-- ==== Proof.CtxPay.lean ====
/- The context queries' attention call's heads: every stored piece is one function of a query block, a key block and a value block. -/
module

public import proofs.«01_k».proof.Proof.Gen.Kernel4Ideal.Frame
public import Idealize.ShloMosaic.Lib.Pipeline.ValueKit
public import proofs.«01_k».proof.Proof.AttnRow

@[expose] public section

set_option maxRecDepth 16384

noncomputable section

namespace Cert.AttnCtx

open Cert.Attn (dotp top headK headR dotp_pad attn_eq)
open Idealize.ShloMosaic Idealize.ShloMosaic.TcCoe Cert.Kernel4Ideal Cert.Kernel4Ideal.Gen

/-- A head from its scores. -/
def sm (v : Vec Ideal S1x256x64 .bf16) (s : FVec Ideal S256x256 .f32) : FVec Ideal S1x256x64 .bf16 :=
  k0_pay33 (F := Ideal) (k0_pay3 (F := Ideal) v) s
/-- A head of 64 lanes. -/
def hA (q : Vec Ideal S1x256x64 .bf16) (k v : Vec Ideal S1x256x64 .bf16) : FVec Ideal S1x256x64 .bf16 :=
  sm v (k0_pay14 (F := Ideal) q k)
/-- A head of 128 lanes. -/
def hC (q : Vec Ideal S1x256x128 .bf16) (k : Vec Ideal S1x256x128 .bf16) (v : Vec Ideal S1x256x64 .bf16) :
    FVec Ideal S1x256x64 .bf16 :=
  sm v (k0_pay23 (F := Ideal) q k)

/-- The maximum starts at minus infinity. -/
theorem neg_inf : Ideal.ofBits .f32 0xFF800000#32 = ⊥ := by simp [Ideal.ofBits, Ideal.ieee]

/-- One element of a head from its scores. -/
theorem sm_apply (v : FVec Ideal S1x256x64 .bf16) (s : FVec Ideal S256x256 .f32) (r : Fin 256) (d : Fin 64) :
    sm v s (ix3 0 r d) = headK (fun j => s (ix2 r j)) (fun j => v (ix3 0 j d)) := by
  unfold sm
  pointwise [k0_pay33, k0_pay3, k0_pay2, headK, top]
  rw [neg_inf]
  rfl

/-- One element of a head of 64 lanes. -/
theorem hA_apply (q : FVec Ideal S1x256x64 .bf16) (k v : FVec Ideal S1x256x64 .bf16) (r : Fin 256) (d : Fin 64) :
    hA q k v (ix3 0 r d)
      = headK (fun j => dotp (fun e => q (ix3 0 r e)) (fun e => k (ix3 0 j e))) (fun j => v (ix3 0 j d)) := by
  refine (sm_apply _ _ _ _).trans ?_
  have h : ∀ j, k0_pay14 (F := Ideal) q k (ix2 r j) = dotp (fun e => q (ix3 0 r e)) (fun e => k (ix3 0 j e)) := fun j => by
    pointwise [k0_pay14, dotp]
  simp only [h]

/-- One element of a head of 128 lanes. -/
theorem hC_apply (q : FVec Ideal S1x256x128 .bf16) (k : FVec Ideal S1x256x128 .bf16) (v : FVec Ideal S1x256x64 .bf16)
    (r : Fin 256) (d : Fin 64) :
    hC q k v (ix3 0 r d)
      = headK (fun j => dotp (fun e => q (ix3 0 r e)) (fun e => k (ix3 0 j e))) (fun j => v (ix3 0 j d)) := by
  refine (sm_apply _ _ _ _).trans ?_
  have h : ∀ j, k0_pay23 (F := Ideal) q k (ix2 r j) = dotp (fun e => q (ix3 0 r e)) (fun e => k (ix3 0 j e)) := fun j => by
    pointwise [k0_pay23, dotp]
  simp only [h]

end Cert.AttnCtx

end
-- ==== Proof.CtxBlock.lean ====
/- What the context queries' attention call's body leaves in its two output tiles, element by element. -/
module

public import proofs.«01_k».proof.Proof.CtxPay

@[expose] public section

set_option maxRecDepth 16384

noncomputable section

namespace Cert.AttnCtx

open Cert.Attn (dotp top headK headR dotp_pad attn_eq)
open Idealize.ShloMosaic Idealize.ShloMosaic.TcCoe Cert.Kernel4Ideal Cert.Kernel4Ideal.Gen

variable (x0 : FVec Ideal S1x256x512 .bf16) (x1 x2 : FVec Ideal S1x256x128 .bf16) (x3 : FVec Ideal S1x256x1024 .bf16)
  (x4 : FVec Ideal S1x256x1024 .bf16) (x5 : FVec Ideal S1x256x512 .bf16)

/-- Element `d` of head `h` of row `r` of the first tile: four heads share a key and value head. -/
def tileA (r : Fin 256) (h : Fin 8) (d : Fin 64) : EReal :=
  headK (fun j => dotp (fun e : Fin 64 => x0 (ix3 0 r ⟨64 * h.val + e.val, by omega⟩))
      (fun e => x1 (ix3 0 j ⟨64 * (h.val / 4) + e.val, by omega⟩)))
    (fun j => x2 (ix3 0 j ⟨64 * (h.val / 4) + d.val, by omega⟩))

/-- Element `d` of head `h` of row `r` of the second tile. -/
def tileC (r : Fin 256) (h : Fin 8) (d : Fin 64) : EReal :=
  headK (fun j => dotp (fun e : Fin 128 => x3 (ix3 0 r ⟨128 * h.val + e.val, by omega⟩))
      (fun e => x4 (ix3 0 j ⟨128 * h.val + e.val, by omega⟩)))
    (fun j => x5 (ix3 0 j ⟨64 * h.val + d.val, by omega⟩))

/-- The first tile's stores are heads. -/
theorem out6_eq : out0_6 (F := Ideal) x0 x1 x2 x3 x4 x5 = View.canon [⟨r0_9, hA (View.ld x0 r0_9) (View.ld x1 r0_1) (View.ld x2 r0_1)⟩,
    ⟨r0_8, hA (View.ld x0 r0_8) (View.ld x1 r0_1) (View.ld x2 r0_1)⟩,
    ⟨r0_7, hA (View.ld x0 r0_7) (View.ld x1 r0_1) (View.ld x2 r0_1)⟩,
    ⟨r0_6, hA (View.ld x0 r0_6) (View.ld x1 r0_1) (View.ld x2 r0_1)⟩,
    ⟨r0_5, hA (View.ld x0 r0_5) (View.ld x1 r0_0) (View.ld x2 r0_0)⟩,
    ⟨r0_4, hA (View.ld x0 r0_4) (View.ld x1 r0_0) (View.ld x2 r0_0)⟩,
    ⟨r0_3, hA (View.ld x0 r0_3) (View.ld x1 r0_0) (View.ld x2 r0_0)⟩,
    ⟨r0_2, hA (View.ld x0 r0_2) (View.ld x1 r0_0) (View.ld x2 r0_0)⟩] := rfl

/-- The second tile's stores are heads. -/
theorem out7_eq : out0_7 (F := Ideal) x0 x1 x2 x3 x4 x5 = View.canon [⟨r0_9, hC (View.ld x3 r0_17) (View.ld x4 r0_17) (View.ld x5 r0_9)⟩,
    ⟨r0_8, hC (View.ld x3 r0_16) (View.ld x4 r0_16) (View.ld x5 r0_8)⟩,
    ⟨r0_7, hC (View.ld x3 r0_15) (View.ld x4 r0_15) (View.ld x5 r0_7)⟩,
    ⟨r0_6, hC (View.ld x3 r0_14) (View.ld x4 r0_14) (View.ld x5 r0_6)⟩,
    ⟨r0_5, hC (View.ld x3 r0_13) (View.ld x4 r0_13) (View.ld x5 r0_5)⟩,
    ⟨r0_4, hC (View.ld x3 r0_12) (View.ld x4 r0_12) (View.ld x5 r0_4)⟩,
    ⟨r0_3, hC (View.ld x3 r0_11) (View.ld x4 r0_11) (View.ld x5 r0_3)⟩,
    ⟨r0_2, hC (View.ld x3 r0_10) (View.ld x4 r0_10) (View.ld x5 r0_2)⟩] := rfl

/-- The first tile, element by element. -/
theorem outA_apply (r : Fin 256) (h : Fin 8) (d : Fin 64) :
    out0_6 (F := Ideal) x0 x1 x2 x3 x4 x5 (ix3 0 r ⟨64 * h.val + d.val, by omega⟩) = tileA x0 x1 x2 r h d := by
  rw [out6_eq]
  canon_tiles x p
  · have q2 : 64 * h.val + d.val = 448 + ((x 2 : Fin _) : Nat) := p2
    have l2 : ((x 2 : Fin _) : Nat) < 64 := x2_lt
    clear p2
    obtain rfl : h = 7 := by
      apply Fin.ext
      show h.val = 7
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 448 + d.val = 448 + ((x 2 : Fin _) : Nat) := q2
        omega
    rw [hA_apply]
    pointwise [tileA]
  · have q2 : 64 * h.val + d.val = 384 + ((x 2 : Fin _) : Nat) := p2
    have l2 : ((x 2 : Fin _) : Nat) < 64 := x2_lt
    clear p2
    obtain rfl : h = 6 := by
      apply Fin.ext
      show h.val = 6
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 384 + d.val = 384 + ((x 2 : Fin _) : Nat) := q2
        omega
    rw [hA_apply]
    pointwise [tileA]
  · have q2 : 64 * h.val + d.val = 320 + ((x 2 : Fin _) : Nat) := p2
    have l2 : ((x 2 : Fin _) : Nat) < 64 := x2_lt
    clear p2
    obtain rfl : h = 5 := by
      apply Fin.ext
      show h.val = 5
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 320 + d.val = 320 + ((x 2 : Fin _) : Nat) := q2
        omega
    rw [hA_apply]
    pointwise [tileA]
  · have q2 : 64 * h.val + d.val = 256 + ((x 2 : Fin _) : Nat) := p2
    have l2 : ((x 2 : Fin _) : Nat) < 64 := x2_lt
    clear p2
    obtain rfl : h = 4 := by
      apply Fin.ext
      show h.val = 4
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 256 + d.val = 256 + ((x 2 : Fin _) : Nat) := q2
        omega
    rw [hA_apply]
    pointwise [tileA]
  · have q2 : 64 * h.val + d.val = 192 + ((x 2 : Fin _) : Nat) := p2
    have l2 : ((x 2 : Fin _) : Nat) < 64 := x2_lt
    clear p2
    obtain rfl : h = 3 := by
      apply Fin.ext
      show h.val = 3
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 192 + d.val = 192 + ((x 2 : Fin _) : Nat) := q2
        omega
    rw [hA_apply]
    pointwise [tileA]
  · have q2 : 64 * h.val + d.val = 128 + ((x 2 : Fin _) : Nat) := p2
    have l2 : ((x 2 : Fin _) : Nat) < 64 := x2_lt
    clear p2
    obtain rfl : h = 2 := by
      apply Fin.ext
      show h.val = 2
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 128 + d.val = 128 + ((x 2 : Fin _) : Nat) := q2
        omega
    rw [hA_apply]
    pointwise [tileA]
  · have q2 : 64 * h.val + d.val = 64 + ((x 2 : Fin _) : Nat) := p2
    have l2 : ((x 2 : Fin _) : Nat) < 64 := x2_lt
    clear p2
    obtain rfl : h = 1 := by
      apply Fin.ext
      show h.val = 1
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 64 + d.val = 64 + ((x 2 : Fin _) : Nat) := q2
        omega
    rw [hA_apply]
    pointwise [tileA]
  · have q2 : 64 * h.val + d.val = 0 + ((x 2 : Fin _) : Nat) := p2.trans (Nat.zero_add _).symm
    have l2 : ((x 2 : Fin _) : Nat) < 64 := x2_lt
    clear p2
    obtain rfl : h = 0 := by
      apply Fin.ext
      show h.val = 0
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 0 + d.val = 0 + ((x 2 : Fin _) : Nat) := q2
        omega
    rw [hA_apply]
    pointwise [tileA]

/-- The second tile, element by element. -/
theorem outC_apply (r : Fin 256) (h : Fin 8) (d : Fin 64) :
    out0_7 (F := Ideal) x0 x1 x2 x3 x4 x5 (ix3 0 r ⟨64 * h.val + d.val, by omega⟩) = tileC x3 x4 x5 r h d := by
  rw [out7_eq]
  canon_tiles x p
  · have q2 : 64 * h.val + d.val = 448 + ((x 2 : Fin _) : Nat) := p2
    have l2 : ((x 2 : Fin _) : Nat) < 64 := x2_lt
    clear p2
    obtain rfl : h = 7 := by
      apply Fin.ext
      show h.val = 7
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 448 + d.val = 448 + ((x 2 : Fin _) : Nat) := q2
        omega
    rw [hC_apply]
    pointwise [tileC]
  · have q2 : 64 * h.val + d.val = 384 + ((x 2 : Fin _) : Nat) := p2
    have l2 : ((x 2 : Fin _) : Nat) < 64 := x2_lt
    clear p2
    obtain rfl : h = 6 := by
      apply Fin.ext
      show h.val = 6
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 384 + d.val = 384 + ((x 2 : Fin _) : Nat) := q2
        omega
    rw [hC_apply]
    pointwise [tileC]
  · have q2 : 64 * h.val + d.val = 320 + ((x 2 : Fin _) : Nat) := p2
    have l2 : ((x 2 : Fin _) : Nat) < 64 := x2_lt
    clear p2
    obtain rfl : h = 5 := by
      apply Fin.ext
      show h.val = 5
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 320 + d.val = 320 + ((x 2 : Fin _) : Nat) := q2
        omega
    rw [hC_apply]
    pointwise [tileC]
  · have q2 : 64 * h.val + d.val = 256 + ((x 2 : Fin _) : Nat) := p2
    have l2 : ((x 2 : Fin _) : Nat) < 64 := x2_lt
    clear p2
    obtain rfl : h = 4 := by
      apply Fin.ext
      show h.val = 4
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 256 + d.val = 256 + ((x 2 : Fin _) : Nat) := q2
        omega
    rw [hC_apply]
    pointwise [tileC]
  · have q2 : 64 * h.val + d.val = 192 + ((x 2 : Fin _) : Nat) := p2
    have l2 : ((x 2 : Fin _) : Nat) < 64 := x2_lt
    clear p2
    obtain rfl : h = 3 := by
      apply Fin.ext
      show h.val = 3
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 192 + d.val = 192 + ((x 2 : Fin _) : Nat) := q2
        omega
    rw [hC_apply]
    pointwise [tileC]
  · have q2 : 64 * h.val + d.val = 128 + ((x 2 : Fin _) : Nat) := p2
    have l2 : ((x 2 : Fin _) : Nat) < 64 := x2_lt
    clear p2
    obtain rfl : h = 2 := by
      apply Fin.ext
      show h.val = 2
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 128 + d.val = 128 + ((x 2 : Fin _) : Nat) := q2
        omega
    rw [hC_apply]
    pointwise [tileC]
  · have q2 : 64 * h.val + d.val = 64 + ((x 2 : Fin _) : Nat) := p2
    have l2 : ((x 2 : Fin _) : Nat) < 64 := x2_lt
    clear p2
    obtain rfl : h = 1 := by
      apply Fin.ext
      show h.val = 1
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 64 + d.val = 64 + ((x 2 : Fin _) : Nat) := q2
        omega
    rw [hC_apply]
    pointwise [tileC]
  · have q2 : 64 * h.val + d.val = 0 + ((x 2 : Fin _) : Nat) := p2.trans (Nat.zero_add _).symm
    have l2 : ((x 2 : Fin _) : Nat) < 64 := x2_lt
    clear p2
    obtain rfl : h = 0 := by
      apply Fin.ext
      show h.val = 0
      omega
    obtain rfl : x = ix3 0 r d := by
      funext i
      apply Fin.ext
      fin_cases i
      · have : ((x 0 : Fin _) : Nat) < 1 := x0_lt
        show ((x 0 : Fin _) : Nat) = 0
        omega
      · exact p1.symm
      · show ((x 2 : Fin _) : Nat) = d.val
        have q3 : 0 + d.val = 0 + ((x 2 : Fin _) : Nat) := q2
        omega
    rw [hC_apply]
    pointwise [tileC]

end Cert.AttnCtx

end
-- ==== Proof.CtxRef.lean ====
/- The plain attentions of the context queries, element by element. -/
module

public import proofs.«01_k».proof.Proof.Gen.Reference4Ideal.Run
public import Idealize.ShloMosaic.Lib.Pipeline.ValueKit
public import proofs.«01_k».proof.Proof.AttnRow

@[expose] public section

set_option maxRecDepth 16384

noncomputable section

namespace Cert.AttnCtx

open Cert.Attn (dotp top headK headR dotp_pad attn_eq)
open Idealize.ShloMosaic Idealize.ShloMosaic.TcCoe Idealize.SL.Sem Cert.Reference4Ideal Cert.Reference4Ideal.Gen

variable (m : (ℓ : Loc nD τ sig) → Buf (Elt Ideal) ℓ) (c : Dev nD)

/-- The context rows of 512 lanes. -/
def cut512 (x : FVec Ideal S16x2304x512 .f32) : FVec Ideal S16x256x512 .f32 :=
  extractStridedSlice S16x256x512 ![0, 0, 0] x slices_S16x2304x512_S16x256x512_0_0_0

/-- A context row's lane. -/
theorem cut512_apply (x : FVec Ideal S16x2304x512 .f32) (b : Fin 16) (n : Fin 256) (e : Fin 512) :
    cut512 x (ix3 b n e) = x (ix3 b ⟨n.val, by omega⟩ e) := by
  pointwise [cut512]

/-- The context rows of 128 lanes. -/
def cut128 (x : FVec Ideal S16x2304x128 .f32) : FVec Ideal S16x256x128 .f32 :=
  extractStridedSlice S16x256x128 ![0, 0, 0] x slices_S16x2304x128_S16x256x128_0_0_0

/-- A context row's lane. -/
theorem cut128_apply (x : FVec Ideal S16x2304x128 .f32) (b : Fin 16) (n : Fin 256) (e : Fin 128) :
    cut128 x (ix3 b n e) = x (ix3 b ⟨n.val, by omega⟩ e) := by
  pointwise [cut128]

/-- The context rows of 768 lanes. -/
def cut768 (x : FVec Ideal S16x2304x768 .f32) : FVec Ideal S16x256x768 .f32 :=
  extractStridedSlice S16x256x768 ![0, 0, 0] x slices_S16x2304x768_S16x256x768_0_0_0

/-- A context row's lane. -/
theorem cut768_apply (x : FVec Ideal S16x2304x768 .f32) (b : Fin 16) (n : Fin 256) (e : Fin 768) :
    cut768 x (ix3 b n e) = x (ix3 b ⟨n.val, by omega⟩ e) := by
  pointwise [cut768]

/-- The maximum starts at minus infinity. -/
theorem neg_inf' : Ideal.ofBits .f32 0xFF800000#32 = ⊥ := by simp [Ideal.ofBits, Ideal.ieee]

/-- The host's maximum along the last of five axes. -/
theorem host_max {n0 n1 n2 n3 n4 : ℕ} (h : (⟨5, ![n0, n1, n2, n3, n4]⟩ : Shape).ReducesTo [4] ⟨4, ![n0, n1, n2, n3]⟩)
    (s : FVec Ideal ⟨5, ![n0, n1, n2, n3, n4]⟩ .f32) (init : FVec Ideal S_ .f32) (hu : 0 < S_.numel)
    (hi : ∀ i, init i = ⊥) (b : Fin n0) (u : Fin n1) (g : Fin n2) (n : Fin n3) :
    Host.reduce FloatOps.maximumf s init h hu (ix4 b u g n) = top fun i => s (ix5 b u g n i) := by
  rw [Host.reduce_eq_fold]
  refine (Shape.ReducesTo.fold_fiber_r5_a4 h (ix4 b u g n) _ _ _).trans ?_
  rw [hi]
  rfl
/-- The first attention's element: head `h`, lane `d`, latent token `n` of batch entry `b`. -/
def REFA (q : FVec Ideal S16x256x512 .f32) (k v : FVec Ideal S16x256x128 .f32) (b : Fin 16) (n : Fin 256) (h : Fin 8)
    (d : Fin 64) : EReal :=
  headR (fun j => dotp (fun e : Fin 64 => q (ix3 b n ⟨64 * h.val + e.val, by omega⟩))
      (fun e => k (ix3 b j ⟨64 * (h.val / 4) + e.val, by omega⟩)) * Ideal.ofBits .f32 0x3E000000#32)
    (fun j => v (ix3 b j ⟨64 * (h.val / 4) + d.val, by omega⟩))

/-- The second attention's element. -/
def REFC (q k : FVec Ideal S16x256x768 .f32) (v : FVec Ideal S16x256x512 .f32) (b : Fin 16) (n : Fin 256) (h : Fin 8)
    (d : Fin 64) : EReal :=
  headR (fun j => dotp (fun e : Fin 96 => q (ix3 b n ⟨96 * h.val + e.val, by omega⟩))
      (fun e => k (ix3 b j ⟨96 * h.val + e.val, by omega⟩)) * Ideal.div 1 (Ideal.sqrt (Ideal.ofBits .f32 0x42C00000#32)))
    (fun j => v (ix3 b j ⟨64 * h.val + d.val, by omega⟩))

/-- The first result's term. -/
def YA : FVec Ideal S16x256x512 .bf16 := Value.res_main_v55 m c
/-- The second result's term. -/
def YC : FVec Ideal S16x256x512 .bf16 := Value.res_main_v56 m c

/-- The scores of the first attention. -/
def scA (q : FVec Ideal S16x256x512 .f32) (k : FVec Ideal S16x256x128 .f32) : FVec Ideal S16x2x4x256x256 .f32 :=
  mulf (Host.dotGeneral dot_S16x2x4x256x64_S16x2x256x64_S16x2x4x256x256_4_3_23_2_01_01 none (transpose S16x2x4x256x64 [0, 2, 3, 1, 4] (shapeCast _ q shapeCasts_S16x256x512_S16x256x2x4x64) transposes_S16x256x2x4x64_S16x2x4x256x64_0_2_3_1_4) (transpose S16x2x256x64 [0, 2, 1, 3] (shapeCast _ k shapeCasts_S16x256x128_S16x256x2x64) transposes_S16x256x2x64_S16x2x256x64_0_2_1_3)) (broadcastInDim S16x2x4x256x256 ![] bcast_S_S16x2x4x256x256 (constant S_ .f32 0x3E000000#32))

/-- The values of the first attention, heads first. -/
def vtA (v : FVec Ideal S16x256x128 .f32) : FVec Ideal S16x2x256x64 .f32 :=
  transpose S16x2x256x64 [0, 2, 1, 3] (shapeCast _ v shapeCasts_S16x256x128_S16x256x2x64) transposes_S16x256x2x64_S16x2x256x64_0_2_1_3

/-- The largest score of each query. -/
def mxA (s : FVec Ideal S16x2x4x256x256 .f32) : FVec Ideal S16x2x4x256 .f32 :=
  Host.reduce FloatOps.maximumf s (constant S_ .f32 0xFF800000#32) reducesTo_S16x2x4x256x256_S16x2x4x256_d4 h_S_

/-- One largest score. -/
theorem mxA_apply (s : FVec Ideal S16x2x4x256x256 .f32) (b : Fin 16) (u : Fin 2) (g : Fin 4) (n : Fin 256) :
    mxA s (ix4 b u g n) = top fun i => s (ix5 b u g n i) :=
  host_max reducesTo_S16x2x4x256x256_S16x2x4x256_d4 s _ h_S_ (fun _ => neg_inf') b u g n

/-- The exponentials of the scores less the largest. -/
def exA (s : FVec Ideal S16x2x4x256x256 .f32) (t : FVec Ideal S16x2x4x256 .f32) : FVec Ideal S16x2x4x256x256 .f32 :=
  Host.exp (subf s (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) t))))

/-- The softmax weights from the exponentials. -/
def wtA (p : FVec Ideal S16x2x4x256x256 .f32) : FVec Ideal S16x2x4x256x256 .f32 :=
  Host.divf p (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (Host.reduceAdd p (constant S_ .f32 0x00000000#32) reducesTo_S16x2x4x256x256_S16x2x4x256_d4 h_S_)))

/-- The weighted sums of the values, heads merged. -/
def otA (p : FVec Ideal S16x2x4x256x256 .f32) (v : FVec Ideal S16x2x256x64 .f32) : FVec Ideal S16x256x512 .bf16 :=
  truncf .bf16 (shapeCast _ (transpose S16x256x2x4x64 [0, 3, 1, 2, 4] (Host.dotGeneral dot_S16x2x4x256x256_S16x2x256x64_S16x2x4x256x64_4_2_23_3_01_01 none p v) transposes_S16x2x4x256x64_S16x256x2x4x64_0_3_1_2_4) shapeCasts_S16x256x2x4x64_S16x256x512) bitsLt_bf16_f32

/-- The first result is those steps in order. -/
theorem YA_eq : YA m c = otA (wtA (exA (scA (cut512 (m ((c.tc : Thread nD τ).loc main_arg0))) (cut128 (m ((c.tc : Thread nD τ).loc main_arg1))))
      (mxA (scA (cut512 (m ((c.tc : Thread nD τ).loc main_arg0))) (cut128 (m ((c.tc : Thread nD τ).loc main_arg1)))))))
    (vtA (cut128 (m ((c.tc : Thread nD τ).loc main_arg2)))) := rfl

/-- One score. -/
theorem scA_apply (q : FVec Ideal S16x256x512 .f32) (k : FVec Ideal S16x256x128 .f32) (b : Fin 16) (u : Fin 2) (g : Fin 4) (n : Fin 256) (j : Fin 256) :
    scA q k (ix5 b u g n j)
      = dotp (fun e : Fin 64 => q (ix3 b n ⟨u.val * 256 + g.val * 64 + e.val, by omega⟩)) (fun e => k (ix3 b j ⟨u.val * 64 + e.val, by omega⟩))
        * Ideal.ofBits .f32 0x3E000000#32 := by
  pointwise [scA, dotp]

/-- One value. -/
theorem vtA_apply (v : FVec Ideal S16x256x128 .f32) (b : Fin 16) (u : Fin 2) (j : Fin 256) (d : Fin 64) :
    vtA v (ix4 b u j d) = v (ix3 b j ⟨u.val * 64 + d.val, by omega⟩) := by
  pointwise [vtA]

/-- One exponential. -/
theorem exA_apply (s : FVec Ideal S16x2x4x256x256 .f32) (t : FVec Ideal S16x2x4x256 .f32) (b : Fin 16) (u : Fin 2) (g : Fin 4) (n : Fin 256) (j : Fin 256) :
    exA s t (ix5 b u g n j) = Ideal.exp (s (ix5 b u g n j) - t (ix4 b u g n)) := by
  pointwise [exA]
  rw [neg_inf', bot_sup_eq]

/-- One weight. -/
theorem wtA_apply (p : FVec Ideal S16x2x4x256x256 .f32) (b : Fin 16) (u : Fin 2) (g : Fin 4) (n : Fin 256) (j : Fin 256) :
    wtA p (ix5 b u g n j) = Ideal.div (p (ix5 b u g n j)) (∑ i, p (ix5 b u g n i)) := by
  pointwise [wtA]

/-- One weighted sum. -/
theorem otA_apply (p : FVec Ideal S16x2x4x256x256 .f32) (v : FVec Ideal S16x2x256x64 .f32) (b : Fin 16) (n : Fin 256) (h : Fin 8) (d : Fin 64) :
    otA p v (ix3 b n ⟨64 * h.val + d.val, by omega⟩)
      = ∑ j, p (ix5 b ⟨h.val / 4, by omega⟩ ⟨h.val % 4, by omega⟩ n j) * v (ix4 b ⟨h.val / 4, by omega⟩ j d) := by
  pointwise [otA]
  simp only [show (64 * h.val + d.val) / 256 = h.val / 4 by omega, show (64 * h.val + d.val) / 64 % 4 = h.val % 4 by omega]

/-- The first result, element by element. -/
theorem refA_apply (b : Fin 16) (n : Fin 256) (h : Fin 8) (d : Fin 64) :
    YA m c (ix3 b n ⟨64 * h.val + d.val, by omega⟩)
      = REFA (cut512 (m ((c.tc : Thread nD τ).loc main_arg0))) (cut128 (m ((c.tc : Thread nD τ).loc main_arg1)))
          (cut128 (m ((c.tc : Thread nD τ).loc main_arg2))) b n h d := by
  rw [YA_eq, otA_apply]
  simp only [wtA_apply, exA_apply, mxA_apply, scA_apply, vtA_apply, REFA, headR,
    show ∀ e, h.val / 4 * 256 + h.val % 4 * 64 + e = 64 * h.val + e by omega, show ∀ e, h.val / 4 * 64 + e = 64 * (h.val / 4) + e by omega]

/-- The scores of the second attention. -/
def scC (q : FVec Ideal S16x256x768 .f32) (k : FVec Ideal S16x256x768 .f32) : FVec Ideal S16x8x1x256x256 .f32 :=
  mulf (Host.dotGeneral dot_S16x8x1x256x96_S16x8x256x96_S16x8x1x256x256_4_3_23_2_01_01 none (broadcastInDim S16x8x1x256x96 ![0, 1, 3, 4] bcast_S16x8x256x96_S16x8x1x256x96_0_1_3_4 (transpose S16x8x256x96 [0, 2, 1, 3] (shapeCast _ q shapeCasts_S16x256x768_S16x256x8x96) transposes_S16x256x8x96_S16x8x256x96_0_2_1_3)) (transpose S16x8x256x96 [0, 2, 1, 3] (shapeCast _ k shapeCasts_S16x256x768_S16x256x8x96) transposes_S16x256x8x96_S16x8x256x96_0_2_1_3)) (broadcastInDim S16x8x1x256x256 ![] bcast_S_S16x8x1x256x256 (Host.divf (constant S_ .f32 0x3F800000#32) (Host.sqrt (constant S_ .f32 0x42C00000#32))))

/-- The values of the second attention, heads first. -/
def vtC (v : FVec Ideal S16x256x512 .f32) : FVec Ideal S16x8x256x64 .f32 :=
  transpose S16x8x256x64 [0, 2, 1, 3] (shapeCast _ v shapeCasts_S16x256x512_S16x256x8x64) transposes_S16x256x8x64_S16x8x256x64_0_2_1_3

/-- The largest score of each query. -/
def mxC (s : FVec Ideal S16x8x1x256x256 .f32) : FVec Ideal S16x8x1x256 .f32 :=
  Host.reduce FloatOps.maximumf s (constant S_ .f32 0xFF800000#32) reducesTo_S16x8x1x256x256_S16x8x1x256_d4 h_S_

/-- One largest score. -/
theorem mxC_apply (s : FVec Ideal S16x8x1x256x256 .f32) (b : Fin 16) (u : Fin 8) (n : Fin 256) :
    mxC s (ix4 b u 0 n) = top fun i => s (ix5 b u 0 n i) :=
  host_max reducesTo_S16x8x1x256x256_S16x8x1x256_d4 s _ h_S_ (fun _ => neg_inf') b u 0 n

/-- The exponentials of the scores less the largest. -/
def exC (s : FVec Ideal S16x8x1x256x256 .f32) (t : FVec Ideal S16x8x1x256 .f32) : FVec Ideal S16x8x1x256x256 .f32 :=
  Host.exp (subf s (broadcastInDim S16x8x1x256x256 ![0, 1, 2, 3, 4] bcast_S16x8x1x256x1_S16x8x1x256x256_0_1_2_3_4 (broadcastInDim S16x8x1x256x1 ![0, 1, 2, 3] bcast_S16x8x1x256_S16x8x1x256x1_0_1_2_3 (maximumf (broadcastInDim S16x8x1x256 ![] bcast_S_S16x8x1x256 (constant S_ .f32 0xFF800000#32)) t))))

/-- The softmax weights from the exponentials. -/
def wtC (p : FVec Ideal S16x8x1x256x256 .f32) : FVec Ideal S16x8x1x256x256 .f32 :=
  Host.divf p (broadcastInDim S16x8x1x256x256 ![0, 1, 2, 3, 4] bcast_S16x8x1x256x1_S16x8x1x256x256_0_1_2_3_4 (broadcastInDim S16x8x1x256x1 ![0, 1, 2, 3] bcast_S16x8x1x256_S16x8x1x256x1_0_1_2_3 (Host.reduceAdd p (constant S_ .f32 0x00000000#32) reducesTo_S16x8x1x256x256_S16x8x1x256_d4 h_S_)))

/-- The weighted sums of the values, heads merged. -/
def otC (p : FVec Ideal S16x8x1x256x256 .f32) (v : FVec Ideal S16x8x256x64 .f32) : FVec Ideal S16x256x512 .bf16 :=
  truncf .bf16 (shapeCast _ (transpose S16x256x8x1x64 [0, 3, 1, 2, 4] (Host.dotGeneral dot_S16x8x1x256x256_S16x8x256x64_S16x8x1x256x64_4_2_23_3_01_01 none p v) transposes_S16x8x1x256x64_S16x256x8x1x64_0_3_1_2_4) shapeCasts_S16x256x8x1x64_S16x256x512) bitsLt_bf16_f32

/-- The second result is those steps in order. -/
theorem YC_eq : YC m c = otC (wtC (exC (scC (cut768 (m ((c.tc : Thread nD τ).loc main_arg3))) (cut768 (m ((c.tc : Thread nD τ).loc main_arg4))))
      (mxC (scC (cut768 (m ((c.tc : Thread nD τ).loc main_arg3))) (cut768 (m ((c.tc : Thread nD τ).loc main_arg4)))))))
    (vtC (cut512 (m ((c.tc : Thread nD τ).loc main_arg5)))) := rfl

/-- One score. -/
theorem scC_apply (q : FVec Ideal S16x256x768 .f32) (k : FVec Ideal S16x256x768 .f32) (b : Fin 16) (u : Fin 8) (n : Fin 256) (j : Fin 256) :
    scC q k (ix5 b u 0 n j)
      = dotp (fun e : Fin 96 => q (ix3 b n ⟨u.val * 96 + e.val, by omega⟩)) (fun e => k (ix3 b j ⟨u.val * 96 + e.val, by omega⟩))
        * Ideal.div 1 (Ideal.sqrt (Ideal.ofBits .f32 0x42C00000#32)) := by
  pointwise [scC, dotp]

/-- One value. -/
theorem vtC_apply (v : FVec Ideal S16x256x512 .f32) (b : Fin 16) (u : Fin 8) (j : Fin 256) (d : Fin 64) :
    vtC v (ix4 b u j d) = v (ix3 b j ⟨u.val * 64 + d.val, by omega⟩) := by
  pointwise [vtC]

/-- One exponential. -/
theorem exC_apply (s : FVec Ideal S16x8x1x256x256 .f32) (t : FVec Ideal S16x8x1x256 .f32) (b : Fin 16) (u : Fin 8) (n : Fin 256) (j : Fin 256) :
    exC s t (ix5 b u 0 n j) = Ideal.exp (s (ix5 b u 0 n j) - t (ix4 b u 0 n)) := by
  pointwise [exC]
  rw [neg_inf', bot_sup_eq]

/-- One weight. -/
theorem wtC_apply (p : FVec Ideal S16x8x1x256x256 .f32) (b : Fin 16) (u : Fin 8) (n : Fin 256) (j : Fin 256) :
    wtC p (ix5 b u 0 n j) = Ideal.div (p (ix5 b u 0 n j)) (∑ i, p (ix5 b u 0 n i)) := by
  pointwise [wtC]

/-- One weighted sum. -/
theorem otC_apply (p : FVec Ideal S16x8x1x256x256 .f32) (v : FVec Ideal S16x8x256x64 .f32) (b : Fin 16) (n : Fin 256) (h : Fin 8) (d : Fin 64) :
    otC p v (ix3 b n ⟨64 * h.val + d.val, by omega⟩)
      = ∑ j, p (ix5 b h 0 n j) * v (ix4 b h j d) := by
  pointwise [otC]

/-- The second result, element by element. -/
theorem refC_apply (b : Fin 16) (n : Fin 256) (h : Fin 8) (d : Fin 64) :
    YC m c (ix3 b n ⟨64 * h.val + d.val, by omega⟩)
      = REFC (cut768 (m ((c.tc : Thread nD τ).loc main_arg3))) (cut768 (m ((c.tc : Thread nD τ).loc main_arg4)))
          (cut512 (m ((c.tc : Thread nD τ).loc main_arg5))) b n h d := by
  rw [YC_eq, otC_apply]
  simp only [wtC_apply, exC_apply, mxC_apply, scC_apply, vtC_apply, REFC, headR,
    show ∀ e, h.val * 96 + e = 96 * h.val + e by omega, show ∀ e, h.val * 64 + e = 64 * h.val + e by omega]

/-- The head of a column. -/
def hd (k : Fin 512) : Fin 8 := ⟨k.val / 64, by omega⟩
/-- The lane of a column in its head. -/
def ln (k : Fin 512) : Fin 64 := ⟨k.val % 64, by omega⟩

/-- The first attention's array. -/
def arrA (q : FVec Ideal S16x256x512 .f32) (k v : FVec Ideal S16x256x128 .f32) : FVec Ideal S16x256x512 .bf16 :=
  fun i => REFA q k v (i 0) (i 1) (hd (i 2)) (ln (i 2))

/-- The second attention's array. -/
def arrC (q k : FVec Ideal S16x256x768 .f32) (v : FVec Ideal S16x256x512 .f32) : FVec Ideal S16x256x512 .bf16 :=
  fun i => REFC q k v (i 0) (i 1) (hd (i 2)) (ln (i 2))

/-- Every column is a lane of a head. -/
theorem column (k : Fin 512) : ∃ (h : Fin 8) (d : Fin 64), k = ⟨64 * h.val + d.val, by omega⟩ :=
  ⟨⟨k.val / 64, by omega⟩, ⟨k.val % 64, by omega⟩, Fin.ext (by show k.val = 64 * (k.val / 64) + k.val % 64; omega)⟩

/-- The first array at a lane of a head. -/
theorem arrA_apply (q : FVec Ideal S16x256x512 .f32) (k v : FVec Ideal S16x256x128 .f32) (b : Fin 16) (n : Fin 256) (h : Fin 8) (d : Fin 64) :
    arrA q k v (ix3 b n ⟨64 * h.val + d.val, by omega⟩) = REFA q k v b n h d :=
  congrArg₂ (REFA q k v b n) (Fin.ext (by show (64 * h.val + d.val) / 64 = h.val; omega)) (Fin.ext (by show (64 * h.val + d.val) % 64 = d.val; omega))

/-- The second array at a lane of a head. -/
theorem arrC_apply (q k : FVec Ideal S16x256x768 .f32) (v : FVec Ideal S16x256x512 .f32) (b : Fin 16) (n : Fin 256) (h : Fin 8) (d : Fin 64) :
    arrC q k v (ix3 b n ⟨64 * h.val + d.val, by omega⟩) = REFC q k v b n h d :=
  congrArg₂ (REFC q k v b n) (Fin.ext (by show (64 * h.val + d.val) / 64 = h.val; omega)) (Fin.ext (by show (64 * h.val + d.val) % 64 = d.val; omega))

/-- The first result is the first attention's array. -/
theorem YA_arr : YA m c = arrA (cut512 (m ((c.tc : Thread nD τ).loc main_arg0))) (cut128 (m ((c.tc : Thread nD τ).loc main_arg1))) (cut128 (m ((c.tc : Thread nD τ).loc main_arg2))) := by
  funext i
  obtain ⟨b, n, k, rfl⟩ : ∃ (b : Fin 16) (n : Fin 256) (k : Fin 512), i = ix3 b n k := ⟨i 0, i 1, i 2, by funext a; fin_cases a <;> rfl⟩
  obtain ⟨h, d, rfl⟩ := column k
  exact (refA_apply m c b n h d).trans (arrA_apply _ _ _ b n h d).symm

/-- The second result is the second attention's array. -/
theorem YC_arr : YC m c = arrC (cut768 (m ((c.tc : Thread nD τ).loc main_arg3))) (cut768 (m ((c.tc : Thread nD τ).loc main_arg4))) (cut512 (m ((c.tc : Thread nD τ).loc main_arg5))) := by
  funext i
  obtain ⟨b, n, k, rfl⟩ : ∃ (b : Fin 16) (n : Fin 256) (k : Fin 512), i = ix3 b n k := ⟨i 0, i 1, i 2, by funext a; fin_cases a <;> rfl⟩
  obtain ⟨h, d, rfl⟩ := column k
  exact (refC_apply m c b n h d).trans (arrC_apply _ _ _ b n h d).symm

end Cert.AttnCtx

end
-- ==== Proof.CtxBlks.lean ====
/- Every block the context queries' attention call reads, at the array indices it sits at. -/
module

public import proofs.«01_k».proof.Proof.CtxBlock
public import proofs.«01_k».proof.Proof.CtxRef
public import proofs.«01_k».proof.Proof.AttnFin
public import Idealize.ShloMosaic.Lib.Claim

@[expose] public section

set_option maxRecDepth 16384

noncomputable section

namespace Cert.AttnCtx

open Cert.Attn (sA sC)
open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ)

/-- Where every window sits at grid point `t`. -/
theorem idx_val : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ t.val < 16 :=
  (by decide +kernel : ∀ t : Fin grid0.N, _)

/-- The batch entry of grid point `t`. -/
def bt (t : Fin cfg0.N) : Fin 16 := ⟨t.val, (idx_val t).2.2.2.2.2.2.2.2⟩

/-- Input block 0 at grid point `t`. -/
def xb0 (c : Dev nD) (t : Fin cfg0.N) : FVec Ideal S1x256x512 .bf16 := iblk m c 0 t
/-- Operand 0 of the call. -/
def op0 (c : Dev nD) : FVec Ideal Cert.Reference4Ideal.S16x2304x512 .f32 := m ((c : Thread nD τ).loc main_arg0)
/-- The context rows of operand 0. -/
def ar0 (c : Dev nD) : FVec Ideal Cert.Reference4Ideal.S16x256x512 .f32 := cut512 (op0 m c)
/-- Input block 1 at grid point `t`. -/
def xb1 (c : Dev nD) (t : Fin cfg0.N) : FVec Ideal S1x256x128 .bf16 := iblk m c 1 t
/-- Operand 1 of the call. -/
def op1 (c : Dev nD) : FVec Ideal Cert.Reference4Ideal.S16x2304x128 .f32 := m ((c : Thread nD τ).loc main_arg1)
/-- The context rows of operand 1. -/
def ar1 (c : Dev nD) : FVec Ideal Cert.Reference4Ideal.S16x256x128 .f32 := cut128 (op1 m c)
/-- Input block 2 at grid point `t`. -/
def xb2 (c : Dev nD) (t : Fin cfg0.N) : FVec Ideal S1x256x128 .bf16 := iblk m c 2 t
/-- Operand 2 of the call. -/
def op2 (c : Dev nD) : FVec Ideal Cert.Reference4Ideal.S16x2304x128 .f32 := m ((c : Thread nD τ).loc main_arg2)
/-- The context rows of operand 2. -/
def ar2 (c : Dev nD) : FVec Ideal Cert.Reference4Ideal.S16x256x128 .f32 := cut128 (op2 m c)
/-- Input block 3 at grid point `t`. -/
def xb3 (c : Dev nD) (t : Fin cfg0.N) : FVec Ideal S1x256x1024 .bf16 := iblk m c 3 t
/-- Operand 3 of the call. -/
def op3 (c : Dev nD) : FVec Ideal Cert.Reference4Ideal.S16x2304x768 .f32 := m ((c : Thread nD τ).loc main_arg3)
/-- The context rows of operand 3. -/
def ar3 (c : Dev nD) : FVec Ideal Cert.Reference4Ideal.S16x256x768 .f32 := cut768 (op3 m c)
/-- Input block 4 at grid point `t`. -/
def xb4 (c : Dev nD) (t : Fin cfg0.N) : FVec Ideal S1x256x1024 .bf16 := iblk m c 4 t
/-- Operand 4 of the call. -/
def op4 (c : Dev nD) : FVec Ideal Cert.Reference4Ideal.S16x2304x768 .f32 := m ((c : Thread nD τ).loc main_arg4)
/-- The context rows of operand 4. -/
def ar4 (c : Dev nD) : FVec Ideal Cert.Reference4Ideal.S16x256x768 .f32 := cut768 (op4 m c)
/-- Input block 5 at grid point `t`. -/
def xb5 (c : Dev nD) (t : Fin cfg0.N) : FVec Ideal S1x256x512 .bf16 := iblk m c 5 t
/-- Operand 5 of the call. -/
def op5 (c : Dev nD) : FVec Ideal Cert.Reference4Ideal.S16x2304x512 .f32 := m ((c : Thread nD τ).loc main_arg5)
/-- The context rows of operand 5. -/
def ar5 (c : Dev nD) : FVec Ideal Cert.Reference4Ideal.S16x256x512 .f32 := cut512 (op5 m c)

/-- Heads of 96 lanes beside 32 further lanes. -/
def cat (a : FVec Ideal S16x2304x8x96 .f32) (z : FVec Ideal S16x2304x8x32 .f32) : FVec Ideal S16x2304x8x128 .f32 :=
  concatenate S16x2304x8x128 3 [⟨S16x2304x8x96, a⟩, ⟨S16x2304x8x32, z⟩] concatenates_S16x2304x8x96_S16x2304x8x32_S16x2304x8x128_d3

/-- Lanes split into heads. -/
def heads (x : FVec Ideal S16x2304x768 .f32) : FVec Ideal S16x2304x8x96 .f32 := shapeCast _ x shapeCasts_S16x2304x768_S16x2304x8x96

/-- Heads merged into lanes. -/
def lanes (x : FVec Ideal S16x2304x8x128 .f32) : FVec Ideal S16x2304x1024 .f32 := shapeCast _ x shapeCasts_S16x2304x8x128_S16x2304x1024

/-- The padding. -/
def zeros : FVec Ideal S16x2304x8x32 .f32 := broadcastInDim S16x2304x8x32 ![] bcast_S_S16x2304x8x32 (constant S_ .f32 0x00000000#32)

/-- The second queries scaled. -/
def scaled (y : FVec Ideal S16x2304x1024 .f32) : FVec Ideal S16x2304x1024 .bf16 :=
  truncf .bf16 (mulf y (broadcastInDim S16x2304x1024 ![] bcast_S_S16x2304x1024 (mulf (Host.divf (constant S_ .f32 0x3F800000#32) (Host.sqrt (constant S_ .f32 0x42C00000#32))) (Host.divf (constant S_ .f32 0x3F800000#32) (Host.log (constant S_ .f32 0x40000000#32)))))) bitsLt_bf16_f32

/-- The second keys cast. -/
def keys (y : FVec Ideal S16x2304x1024 .f32) : FVec Ideal S16x2304x1024 .bf16 := truncf .bf16 y bitsLt_bf16_f32

/-- A cast changes nothing. -/
theorem keys_apply (y : FVec Ideal S16x2304x1024 .f32) (b : Fin 16) (j : Fin 2304) (e : Fin 1024) : keys y (ix3 b j e) = y (ix3 b j e) := by
  pointwise [keys]

/-- A lane of the head. -/
theorem cat_lt (a : FVec Ideal S16x2304x8x96 .f32) (z : FVec Ideal S16x2304x8x32 .f32) (b : Fin 16) (j : Fin 2304) (h : Fin 8) (e : Fin 128)
    (he : e.val < 96) : cat a z (ix4 b j h e) = a (ix4 b j h ⟨e.val, he⟩) := by
  pointwise [cat]
  rw [dif_pos he]

/-- A lane past the head. -/
theorem cat_ge (a : FVec Ideal S16x2304x8x96 .f32) (z : FVec Ideal S16x2304x8x32 .f32) (b : Fin 16) (j : Fin 2304) (h : Fin 8) (e : Fin 128)
    (he : ¬ e.val < 96) : cat a z (ix4 b j h e) = z (ix4 b j h ⟨e.val - 96, by omega⟩) := by
  pointwise [cat]
  rw [dif_neg he]

/-- Where a head's lane comes from. -/
theorem heads_apply (x : FVec Ideal S16x2304x768 .f32) (b : Fin 16) (j : Fin 2304) (h : Fin 8) (e : Fin 96) :
    heads x (ix4 b j h e) = x (ix3 b j ⟨h.val * 96 + e.val, by omega⟩) := by
  pointwise [heads]

/-- Where a merged lane comes from. -/
theorem lanes_apply (x : FVec Ideal S16x2304x8x128 .f32) (b : Fin 16) (j : Fin 2304) (h : Fin 8) (e : Fin 128) :
    lanes x (ix3 b j ⟨128 * h.val + e.val, by omega⟩) = x (ix4 b j h e) := by
  pointwise [lanes]

/-- A padding lane is zero. -/
theorem zeros_apply (b : Fin 16) (j : Fin 2304) (h : Fin 8) (e : Fin 32) : zeros (ix4 b j h e) = 0 := by
  pointwise [zeros]

/-- A scaled lane. -/
theorem scaled_apply (y : FVec Ideal S16x2304x1024 .f32) (b : Fin 16) (j : Fin 2304) (e : Fin 1024) : scaled y (ix3 b j e) = y (ix3 b j e) * sC := by
  pointwise [scaled, sC]

/-- The second queries as the call reads them. -/
theorem V15 (c : Dev nD) (i : S16x2304x1024.Idx) : V m c main_v15 i = scaled (lanes (cat (heads (op3 m c)) zeros)) i := by
  entry_read
  rfl

/-- The second keys as the call reads them. -/
theorem V21 (c : Dev nD) (i : S16x2304x1024.Idx) : V m c main_v21 i = keys (lanes (cat (heads (op4 m c)) zeros)) i := by
  entry_read
  rfl

/-- A lane of the second queries as the call reads them. -/
theorem q_lane (c : Dev nD) (b : Fin 16) (n : Fin 2304) (h : Fin 8) (e : Fin 96) :
    V m c main_v15 (ix3 b n ⟨128 * h.val + e.val, by omega⟩) = op3 m c (ix3 b n ⟨h.val * 96 + e.val, by omega⟩) * sC := by
  refine (V15 m c _).trans ((scaled_apply _ _ _ _).trans (congrArg (fun u : EReal => u * sC) ?_))
  exact (lanes_apply _ b n h ⟨e.val, by omega⟩).trans ((cat_lt _ _ b n h ⟨e.val, by omega⟩ e.isLt).trans (heads_apply _ b n h e))

/-- A padding lane of the second queries as the call reads them. -/
theorem q_zero (c : Dev nD) (b : Fin 16) (n : Fin 2304) (h : Fin 8) (e : Fin 128) (he : ¬ e.val < 96) :
    V m c main_v15 (ix3 b n ⟨128 * h.val + e.val, by omega⟩) = (0 : EReal) := by
  refine (V15 m c _).trans ((scaled_apply _ _ _ _).trans ?_)
  refine (congrArg (fun u : EReal => u * sC) (?_ : _ = (0 : EReal))).trans (zero_mul sC)
  exact (lanes_apply _ b n h e).trans ((cat_ge _ _ b n h e he).trans (zeros_apply b n h _))

/-- A lane of the second keys as the call reads them. -/
theorem k_lane (c : Dev nD) (b : Fin 16) (n : Fin 2304) (h : Fin 8) (e : Fin 96) :
    V m c main_v21 (ix3 b n ⟨128 * h.val + e.val, by omega⟩) = op4 m c (ix3 b n ⟨h.val * 96 + e.val, by omega⟩) := by
  refine (V21 m c _).trans ((keys_apply _ _ _ _).trans ?_)
  exact (lanes_apply _ b n h ⟨e.val, by omega⟩).trans ((cat_lt _ _ b n h ⟨e.val, by omega⟩ e.isLt).trans (heads_apply _ b n h e))

/-- The first query block: the queries, scaled, in the whole operand. -/
theorem blk0w (c : Dev nD) (t : Fin cfg0.N) (j : Fin 256) (e : Fin 512) :
    xb0 m c t (ix3 0 j e) = (op0 m c (ix3 (bt t) ⟨j.val, by omega⟩ e) * sA) := by
  unfold xb0 op0
  blk_point [iblk, V, idx_val t, sA]
  all_goals (simp only [bt]; omega)

/-- The first query block: the queries, scaled. -/
theorem blk0 (c : Dev nD) (t : Fin cfg0.N) (j : Fin 256) (e : Fin 512) : xb0 m c t (ix3 0 j e) = ar0 m c (ix3 (bt t) j e) * sA :=
  (blk0w m c t j e).trans (congrArg (fun u : EReal => u * sA) (cut512_apply (op0 m c) (bt t) j e).symm)

/-- The first key block, in the whole operand. -/
theorem blk1w (c : Dev nD) (t : Fin cfg0.N) (j : Fin 256) (e : Fin 128) :
    xb1 m c t (ix3 0 j e) = (op1 m c (ix3 (bt t) ⟨j.val, by omega⟩ e)) := by
  unfold xb1 op1
  blk_point [iblk, V, idx_val t]
  all_goals (simp only [bt]; omega)

/-- The first key block. -/
theorem blk1 (c : Dev nD) (t : Fin cfg0.N) (j : Fin 256) (e : Fin 128) : xb1 m c t (ix3 0 j e) = ar1 m c (ix3 (bt t) j e) :=
  (blk1w m c t j e).trans (congrArg (fun u : EReal => u) (cut128_apply (op1 m c) (bt t) j e).symm)

/-- The first value block, in the whole operand. -/
theorem blk2w (c : Dev nD) (t : Fin cfg0.N) (j : Fin 256) (e : Fin 128) :
    xb2 m c t (ix3 0 j e) = (op2 m c (ix3 (bt t) ⟨j.val, by omega⟩ e)) := by
  unfold xb2 op2
  blk_point [iblk, V, idx_val t]
  all_goals (simp only [bt]; omega)

/-- The first value block. -/
theorem blk2 (c : Dev nD) (t : Fin cfg0.N) (j : Fin 256) (e : Fin 128) : xb2 m c t (ix3 0 j e) = ar2 m c (ix3 (bt t) j e) :=
  (blk2w m c t j e).trans (congrArg (fun u : EReal => u) (cut128_apply (op2 m c) (bt t) j e).symm)

/-- The second value block, in the whole operand. -/
theorem blk5w (c : Dev nD) (t : Fin cfg0.N) (j : Fin 256) (e : Fin 512) :
    xb5 m c t (ix3 0 j e) = (op5 m c (ix3 (bt t) ⟨j.val, by omega⟩ e)) := by
  unfold xb5 op5
  blk_point [iblk, V, idx_val t]
  all_goals (simp only [bt]; omega)

/-- The second value block. -/
theorem blk5 (c : Dev nD) (t : Fin cfg0.N) (j : Fin 256) (e : Fin 512) : xb5 m c t (ix3 0 j e) = ar5 m c (ix3 (bt t) j e) :=
  (blk5w m c t j e).trans (congrArg (fun u : EReal => u) (cut512_apply (op5 m c) (bt t) j e).symm)

/-- Where the second query block sits. -/
theorem emb3 (t : Fin cfg0.N) (j : Fin 256) (e : Fin 1024) : ((cfg0.win 3).blk t).view.emb (ix3 0 j e) = ix3 (bt t) ⟨j.val, by omega⟩ e := by
  blk_ext [idx_val t]
  all_goals (simp only [bt]; omega)

/-- Reading the second query window's block. -/
theorem read3 (f : FVec Ideal S16x2304x1024 .bf16) (t : Fin cfg0.N) (j : Fin 256) (e : Fin 1024) :
    ((cfg0.win 3).blk t).view.read (Elt Ideal) f (ix3 0 j e) = f (ix3 (bt t) ⟨j.val, by omega⟩ e) :=
  congrArg f (emb3 t j e)

/-- The second query block is a block of the prepared query array. -/
theorem blk3v (c : Dev nD) (t : Fin cfg0.N) (j : Fin 256) (e : Fin 1024) :
    xb3 m c t (ix3 0 j e) = V m c main_v15 (ix3 (bt t) ⟨j.val, by omega⟩ e) := by
  unfold xb3 iblk
  exact read3 (V m c main_v15) t j e

/-- Where the second key block sits. -/
theorem emb4 (t : Fin cfg0.N) (j : Fin 256) (e : Fin 1024) : ((cfg0.win 4).blk t).view.emb (ix3 0 j e) = ix3 (bt t) ⟨j.val, by omega⟩ e := by
  blk_ext [idx_val t]
  all_goals (simp only [bt]; omega)

/-- Reading the second key window's block. -/
theorem read4 (f : FVec Ideal S16x2304x1024 .bf16) (t : Fin cfg0.N) (j : Fin 256) (e : Fin 1024) :
    ((cfg0.win 4).blk t).view.read (Elt Ideal) f (ix3 0 j e) = f (ix3 (bt t) ⟨j.val, by omega⟩ e) :=
  congrArg f (emb4 t j e)

/-- The second key block is a block of the prepared key array. -/
theorem blk4v (c : Dev nD) (t : Fin cfg0.N) (j : Fin 256) (e : Fin 1024) :
    xb4 m c t (ix3 0 j e) = V m c main_v21 (ix3 (bt t) ⟨j.val, by omega⟩ e) := by
  unfold xb4 iblk
  exact read4 (V m c main_v21) t j e

/-- A lane of the second query block: the query, scaled. -/
theorem blk3 (c : Dev nD) (t : Fin cfg0.N) (r : Fin 256) (h : Fin 8) (e : Fin 96) :
    xb3 m c t (ix3 0 r ⟨128 * h.val + e.val, by omega⟩) = ar3 m c (ix3 (bt t) r ⟨h.val * 96 + e.val, by omega⟩) * sC :=
  (blk3v m c t r ⟨128 * h.val + e.val, by omega⟩).trans ((q_lane m c (bt t) ⟨r.val, by omega⟩ h e).trans
    (congrArg (fun u : EReal => u * sC) (cut768_apply (op3 m c) (bt t) r _).symm))

/-- A padding lane of the second query block. -/
theorem blk3z (c : Dev nD) (t : Fin cfg0.N) (r : Fin 256) (h : Fin 8) (e : Fin 128) (he : ¬ e.val < 96) :
    xb3 m c t (ix3 0 r ⟨128 * h.val + e.val, by omega⟩) = 0 :=
  (blk3v m c t r ⟨128 * h.val + e.val, by omega⟩).trans (q_zero m c (bt t) ⟨r.val, by omega⟩ h e he)

/-- A lane of the second key block. -/
theorem blk4 (c : Dev nD) (t : Fin cfg0.N) (j : Fin 256) (h : Fin 8) (e : Fin 96) :
    xb4 m c t (ix3 0 j ⟨128 * h.val + e.val, by omega⟩) = ar4 m c (ix3 (bt t) j ⟨h.val * 96 + e.val, by omega⟩) :=
  (blk4v m c t j ⟨128 * h.val + e.val, by omega⟩).trans ((k_lane m c (bt t) ⟨j.val, by omega⟩ h e).trans
    (cut768_apply (op4 m c) (bt t) j _).symm)

end Cert.AttnCtx

end
-- ==== Proof.CtxFin.lean ====
/- What the precondition says of a context row's entry. -/
module

public import proofs.«01_k».proof.Defs
public import proofs.«01_k».proof.Proof.CtxBlks
public import Idealize.ShloMosaic.Lib.ReduceAll

@[expose] public section

set_option maxRecDepth 16384

noncomputable section

namespace Cert.AttnCtx

open Cert.Attn (lit_inf real_of_lt)
open Idealize.ShloMosaic Idealize.ShloMosaic.TcCoe Idealize.SL.Sem

/-- One array's part of the precondition, at one entry. -/
theorem finite_entry {s : Shape} {axes : List (Fin s.rank)} (x : FVec Ideal s .f32) (hb : Cert.Pre_finite_ctx.S_.BroadcastsInDim s (![] : Fin 0 → Fin s.rank))
    (h : s.ReducesTo axes Cert.Pre_finite_ctx.S_) (hu : 0 < Cert.Pre_finite_ctx.S_.numel) (init : IVec Cert.Pre_finite_ctx.S_ 1) (j : Cert.Pre_finite_ctx.S_.Idx)
    (e : Host.reduce IntOp.andi (cmpf .olt (Host.absf x) (broadcastInDim s ![] hb (constant (F := Ideal) Cert.Pre_finite_ctx.S_ .f32 0x7F800000#32))) init h hu j = 1#1)
    (i : s.Idx) : x i ≠ ⊤ ∧ x i ≠ ⊥ := by
  have e' : BitVec.ofBool (decide (max (x i) (-(x i)) < Ideal.ofBits .f32 0x7F800000#32)) = 1#1 := Host.reduce_andi_all _ _ h hu j e i
  rw [lit_inf, WordCmp.ofBool_decide_eq_one_iff] at e'
  exact real_of_lt _ e'

/-- The precondition, entry by entry: the context rows of queries and keys are real numbers. -/
theorem finite_all [Cert.Pre_finite_ctx.Facts] (a0 : FVec Ideal Cert.Pre_finite_ctx.S16x2304x512 .f32) (a1 a2 : FVec Ideal Cert.Pre_finite_ctx.S16x2304x128 .f32)
    (a3 a4 : FVec Ideal Cert.Pre_finite_ctx.S16x2304x768 .f32) (a5 : FVec Ideal Cert.Pre_finite_ctx.S16x2304x512 .f32)
    (h : Cert.Pre_finite_ctx.fn (F := Ideal) a0 a1 a2 a3 a4 a5 = fun _ => 1#1) :
    (∀ i, cut512 a0 i ≠ ⊤ ∧ cut512 a0 i ≠ ⊥) ∧ (∀ i, cut128 a1 i ≠ ⊤ ∧ cut128 a1 i ≠ ⊥) ∧ (∀ i, cut768 a3 i ≠ ⊤ ∧ cut768 a3 i ≠ ⊥) ∧ (∀ i, cut768 a4 i ≠ ⊤ ∧ cut768 a4 i ≠ ⊥) := by
  have e := congrFun h (Shape.Idx.first Cert.Pre_finite_ctx.Facts.h_S_)
  obtain ⟨e, e4⟩ := IntOp.andi_eq_one.1 e
  obtain ⟨e, e3⟩ := IntOp.andi_eq_one.1 e
  obtain ⟨e0, e1⟩ := IntOp.andi_eq_one.1 e
  exact ⟨finite_entry (cut512 a0) _ _ _ _ _ e0, finite_entry (cut128 a1) _ _ _ _ _ e1, finite_entry (cut768 a3) _ _ _ _ _ e3, finite_entry (cut768 a4) _ _ _ _ _ e4⟩

end Cert.AttnCtx

end
-- ==== Proof.CtxFinal.lean ====
/- The context queries' attention call's result arrays are the plain attentions of the context queries'. -/
module

public import proofs.«01_k».proof.Proof.CtxFin

@[expose] public section

set_option maxRecDepth 16384

noncomputable section

namespace Cert.AttnCtx

open Cert.Attn (dotp top headK headR dotp_pad attn_eq sA_eq sC_eq lit_eighth inv_sqrt)
open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ)

/-- The first tile's element depends on its blocks only through the entries read. -/
theorem tileA_congr {x0 : FVec Ideal S1x256x512 .bf16} {x1 x2 : FVec Ideal S1x256x128 .bf16} {r : Fin 256} {h : Fin 8} {d : Fin 64}
    {q : Fin 64 → EReal} {k : Fin 256 → Fin 64 → EReal} {v : Fin 256 → EReal}
    (h0 : ∀ e : Fin 64, x0 (ix3 0 r ⟨64 * h.val + e.val, by omega⟩) = q e * ((1 / 8 * (1 / Real.log 2) : ℝ) : EReal))
    (h1 : ∀ (j : Fin 256) (e : Fin 64), x1 (ix3 0 j ⟨64 * (h.val / 4) + e.val, by omega⟩) = k j e)
    (h2 : ∀ j : Fin 256, x2 (ix3 0 j ⟨64 * (h.val / 4) + d.val, by omega⟩) = v j)
    (hq : ∀ e, q e ≠ ⊤ ∧ q e ≠ ⊥) (hk : ∀ j e, k j e ≠ ⊤ ∧ k j e ≠ ⊥) :
    tileA x0 x1 x2 r h d = headR (fun j => dotp q (k j) * ((1 / 8 : ℝ) : EReal)) v := by
  unfold tileA
  simp only [h0, h1, h2]
  exact attn_eq q k v (1 / 8) hq hk

/-- The second tile's element depends on its blocks only through the entries read; the padding lanes add nothing. -/
theorem tileC_congr {x3 : FVec Ideal S1x256x1024 .bf16} {x4 : FVec Ideal S1x256x1024 .bf16} {x5 : FVec Ideal S1x256x512 .bf16}
    {r : Fin 256} {h : Fin 8} {d : Fin 64} {q : Fin 96 → EReal} {k : Fin 256 → Fin 96 → EReal} {v : Fin 256 → EReal}
    (h0 : ∀ e : Fin 96, x3 (ix3 0 r ⟨128 * h.val + e.val, by omega⟩) = q e * ((1 / √96 * (1 / Real.log 2) : ℝ) : EReal))
    (hz : ∀ e : Fin 128, ¬ e.val < 96 → x3 (ix3 0 r ⟨128 * h.val + e.val, by omega⟩) = 0)
    (h1 : ∀ (j : Fin 256) (e : Fin 96), x4 (ix3 0 j ⟨128 * h.val + e.val, by omega⟩) = k j e)
    (h2 : ∀ j : Fin 256, x5 (ix3 0 j ⟨64 * h.val + d.val, by omega⟩) = v j)
    (hq : ∀ e, q e ≠ ⊤ ∧ q e ≠ ⊥) (hk : ∀ j e, k j e ≠ ⊤ ∧ k j e ≠ ⊥) :
    tileC x3 x4 x5 r h d = headR (fun j => dotp q (k j) * ((1 / √96 : ℝ) : EReal)) v := by
  have hd : ∀ j : Fin 256, dotp (fun e : Fin 128 => x3 (ix3 0 r ⟨128 * h.val + e.val, by omega⟩)) (fun e => x4 (ix3 0 j ⟨128 * h.val + e.val, by omega⟩))
      = dotp (fun e => q e * ((1 / √96 * (1 / Real.log 2) : ℝ) : EReal)) (k j) := fun j => by
    rw [dotp_pad _ _ fun e he => hz e (by omega)]
    simp only [h0, h1]
  unfold tileC
  simp only [hd, h2]
  exact attn_eq q k v (1 / √96) hq hk

/-- The first tile of the blocks is the plain attention's. -/
theorem blocksA (c : Dev nD) (t : Fin cfg0.N) (r : Fin 256) (h : Fin 8) (d : Fin 64)
    (f0 : ∀ i, ar0 m c i ≠ ⊤ ∧ ar0 m c i ≠ ⊥) (f1 : ∀ i, ar1 m c i ≠ ⊤ ∧ ar1 m c i ≠ ⊥) :
    tileA (xb0 m c t) (xb1 m c t) (xb2 m c t) r h d = REFA (ar0 m c) (ar1 m c) (ar2 m c) (bt t) r h d := by
  refine (tileA_congr (fun e => (blk0 m c t r _).trans (by rw [sA_eq])) (fun j e => blk1 m c t j _) (fun j => blk2 m c t j _)
    (fun e => f0 _) (fun j e => f1 _)).trans ?_
  unfold REFA
  rw [lit_eighth]

/-- The second tile of the blocks is the plain attention's. -/
theorem blocksC (c : Dev nD) (t : Fin cfg0.N) (r : Fin 256) (h : Fin 8) (d : Fin 64)
    (f3 : ∀ i, ar3 m c i ≠ ⊤ ∧ ar3 m c i ≠ ⊥) (f4 : ∀ i, ar4 m c i ≠ ⊤ ∧ ar4 m c i ≠ ⊥) :
    tileC (xb3 m c t) (xb4 m c t) (xb5 m c t) r h d = REFC (ar3 m c) (ar4 m c) (ar5 m c) (bt t) r h d := by
  refine (tileC_congr (fun e => (blk3 m c t r h e).trans (by rw [sC_eq])) (fun e he => blk3z m c t r h e he) (fun j e => blk4 m c t j h e)
    (fun j => blk5 m c t j _) (fun e => f3 _) (fun j e => f4 _)).trans ?_
  unfold REFC
  rw [inv_sqrt]
  simp only [mul_comm h.val 96]

/-- The first array the call leaves, as a function of its operands. -/
def resultA (c : Dev nD) : FVec Ideal S16x256x512 .bf16 := arrA (ar0 m c) (ar1 m c) (ar2 m c)
/-- The second array the call leaves, as a function of its operands. -/
def resultC (c : Dev nD) : FVec Ideal S16x256x512 .bf16 := arrC (ar3 m c) (ar4 m c) (ar5 m c)

/-- Where row `r` of grid point `t`'s first block sits. -/
theorem emb6 (t : Fin cfg0.N) (r : Fin 256) (e : Fin 512) : ((cfg0.win 6).blk t).view.emb (ix3 0 r e) = ix3 (bt t) r e := by
  blk_ext [idx_val t]
  all_goals (simp only [bt]; omega)

/-- Where row `r` of grid point `t`'s second block sits. -/
theorem emb7 (t : Fin cfg0.N) (r : Fin 256) (e : Fin 512) : ((cfg0.win 7).blk t).view.emb (ix3 0 r e) = ix3 (bt t) r e := by
  blk_ext [idx_val t]
  all_goals (simp only [bt]; omega)

/-- What one grid point stores to the first array, at the index it is stored to. -/
theorem pointA (c : Dev nD) (f0 : ∀ i, ar0 m c i ≠ ⊤ ∧ ar0 m c i ≠ ⊥) (f1 : ∀ i, ar1 m c i ≠ ⊤ ∧ ar1 m c i ≠ ⊥)
    (t : Fin cfg0.N) (y : S1x256x512.Idx) :
    out0_6 (F := Ideal) (xb0 m c t) (xb1 m c t) (xb2 m c t) (xb3 m c t) (xb4 m c t) (xb5 m c t) y
      = resultA m c (((cfg0.win 6).blk t).view.emb y) := by
  idx_vars y
  obtain rfl : y0 = 0 := Subsingleton.elim _ _
  obtain ⟨h, d, rfl⟩ := Cert.AttnCtx.column y2
  refine (outA_apply _ _ _ _ _ _ y1 h d).trans ((blocksA m c t y1 h d f0 f1).trans ?_)
  exact (arrA_apply _ _ _ (bt t) y1 h d).symm.trans (congrArg (resultA m c) (emb6 t y1 _)).symm

/-- What one grid point stores to the second array, at the index it is stored to. -/
theorem pointC (c : Dev nD) (f3 : ∀ i, ar3 m c i ≠ ⊤ ∧ ar3 m c i ≠ ⊥) (f4 : ∀ i, ar4 m c i ≠ ⊤ ∧ ar4 m c i ≠ ⊥)
    (t : Fin cfg0.N) (y : S1x256x512.Idx) :
    out0_7 (F := Ideal) (xb0 m c t) (xb1 m c t) (xb2 m c t) (xb3 m c t) (xb4 m c t) (xb5 m c t) y
      = resultC m c (((cfg0.win 7).blk t).view.emb y) := by
  idx_vars y
  obtain rfl : y0 = 0 := Subsingleton.elim _ _
  obtain ⟨h, d, rfl⟩ := Cert.AttnCtx.column y2
  refine (outC_apply _ _ _ _ _ _ y1 h d).trans ((blocksC m c t y1 h d f3 f4).trans ?_)
  exact (arrC_apply _ _ _ (bt t) y1 h d).symm.trans (congrArg (resultC m c) (emb7 t y1 _)).symm

/-- The first result array after the call. -/
theorem finalA (c : Dev nD) (f0 : ∀ i, ar0 m c i ≠ ⊤ ∧ ar0 m c i ≠ ⊥) (f1 : ∀ i, ar1 m c i ≠ ⊤ ∧ ar1 m c i ≠ ⊥) :
    (dats m 0 c).arrAt 6 (cfgs 0).N = resultA m c := by
  refine (dats m 0 c).arrAt_eq_of_covers 6 _ (by decide +kernel) fun t _ y => ?_
  blk_simp
  rw [after0_6]
  exact pointA m c f0 f1 t y

/-- The second result array after the call. -/
theorem finalC (c : Dev nD) (f3 : ∀ i, ar3 m c i ≠ ⊤ ∧ ar3 m c i ≠ ⊥) (f4 : ∀ i, ar4 m c i ≠ ⊤ ∧ ar4 m c i ≠ ⊥) :
    (dats m 0 c).arrAt 7 (cfgs 0).N = resultC m c := by
  refine (dats m 0 c).arrAt_eq_of_covers 7 _ (by decide +kernel) fun t _ y => ?_
  blk_simp
  rw [after0_7]
  exact pointC m c f3 f4 t y

end Cert.AttnCtx

end
-- ==== Proof.CtxClaim.lean ====
/- The context queries' attention call against the plain attentions of the context queries. -/
module

public import proofs.«01_k».proof.Defs
public import proofs.«01_k».proof.Proof.CtxFinal

@[expose] public section

set_option maxRecDepth 16384

noncomputable section

namespace Cert.AttnCtx

open Cert.Attn (dotp top headK headR dotp_pad attn_eq)
open Idealize.ShloMosaic Idealize.ShloMosaic.TcCoe Idealize.SL.Sem

section

open Cert.Reference4Ideal Cert.Reference4Ideal.Gen Cert.Reference4Ideal.Value Idealize.ShloMosaic.StableHlo

/-- The plain attentions of the context queries' run: it ends with the two attentions' arrays and its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55) = arrA (cut512 (m ((c.tc : Thread nD τ).loc main_arg0))) (cut128 (m ((c.tc : Thread nD τ).loc main_arg1))) (cut128 (m ((c.tc : Thread nD τ).loc main_arg2)))
      ∧ r.2.mem ((c.tc : Thread nD τ).loc main_v56) = arrC (cut768 (m ((c.tc : Thread nD τ).loc main_arg3))) (cut768 (m ((c.tc : Thread nD τ).loc main_arg4))) (cut512 (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (YA_arr m c), (h c).2.1.trans (YC_arr m c), (h c).2.2⟩) (Value.run m ρ)

end

/-- The context queries' attention call agrees with the plain attentions of the context queries, the context rows of queries and keys being real numbers. -/
theorem algebraic [Cert.Pre_finite_ctx.Facts] : Cert.algebraic_Kernel4Ideal_Reference4Ideal_pre_finite_ctx := by
  pair_intro
  · run_from Cert.Kernel4Ideal.Gen.run_main m g
  · run_from Cert.AttnCtx.ref_run m' g'
    · obtain ⟨f0, f1, -, -⟩ := finite_all _ _ _ _ _ _ (hpre c)
      exact (Cert.AttnCtx.finalA m c f0 f1).symm
    · obtain ⟨-, -, f3, f4⟩ := finite_all _ _ _ _ _ _ (hpre c)
      exact (Cert.AttnCtx.finalC m c f3 f4).symm

end Cert.AttnCtx

end
-- ==== Proof.AdaRef.lean ====
/- The plain modulation rows, element by element. -/
module

public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Ada

open Idealize.ShloMosaic Idealize.ShloMosaic.TcCoe Idealize.SL.Sem

/-- The gated conditioning entry: `x` times its logistic. -/
def gate (x : EReal) : EReal := x * Ideal.div 1 (1 + Ideal.exp (-x))

/-- An exponential is not negative. -/
theorem exp_nonneg (x : EReal) : 0 ≤ Ideal.exp x := by
  induction x using EReal.rec with
  | bot => simp
  | top => simp
  | coe r =>
    rw [Ideal.exp_coe]
    exact EReal.coe_nonneg.2 (Real.exp_pos r).le

/-- Dividing by one plus an exponential is multiplying by its reciprocal. -/
theorem gate_eq (x : EReal) : Ideal.div x (1 + Ideal.exp (0 - x)) = gate x := by
  unfold gate
  rw [show (0 : EReal) - x = -x by rw [sub_eq_add_neg, zero_add]]
  have h : (1 : EReal) + Ideal.exp (-x) ≠ 0 := by
    have h1 : (1 : EReal) + 0 ≤ 1 + Ideal.exp (-x) := add_le_add le_rfl (exp_nonneg _)
    have h2 : (0 : EReal) < 1 + 0 := by simp
    exact (lt_of_lt_of_le h2 h1).ne'
  rw [Ideal.div, if_neg h, Ideal.div, if_neg h, one_mul]

/-- One modulation entry: the gated vector times a column of weights, plus the bias. -/
def entry (x : Fin 1024 → EReal) (w : Fin 1024 → EReal) (b : EReal) : EReal := (∑ k, gate (x k) * w k) + b

section

open Cert.Reference5Ideal Cert.Reference5Ideal.Gen

/-- The modulation array: layer `i 0`, vector `i 1`, column `i 2`. -/
def arr (x : FVec Ideal S24x1024 .f32) (w : FVec Ideal S2x1024x6144 .f32) (b : FVec Ideal S2x6144 .f32) : FVec Ideal S2x24x6144 .f32 :=
  fun i => entry (fun k => x (ix2 (i 1) k)) (fun k => w (ix3 (i 0) k (i 2))) (b (ix2 (i 0) (i 2)))

/-- One layer's rows. -/
def lay (x : FVec Ideal S24x1024 .f32) (w : FVec Ideal S1x1024x6144 .f32) (b : FVec Ideal S1x6144 .f32) : FVec Ideal S1x24x6144 .f32 :=
  broadcastInDim S1x24x6144 ![1, 2] bcast_S24x6144_S1x24x6144_1_2 (addf (Host.dotGeneral dot_S24x1024_S1024x6144_S24x6144_1_0_0_1_n_n none (mulf x (Host.divf (broadcastInDim S24x1024 ![] bcast_S_S24x1024 (constant S_ .f32 0x3F800000#32)) (addf (broadcastInDim S24x1024 ![] bcast_S_S24x1024 (constant S_ .f32 0x3F800000#32)) (Host.exp (Host.negf x))))) (shapeCast _ w shapeCasts_S1x1024x6144_S1024x6144)) (broadcastInDim S24x6144 ![0, 1] bcast_S1x6144_S24x6144_0_1 (broadcastInDim S1x6144 ![1] bcast_S6144_S1x6144_1 (shapeCast _ b shapeCasts_S1x6144_S6144))))

/-- The two layers one after the other. -/
def cat (y0 y1 : FVec Ideal S1x24x6144 .f32) : FVec Ideal S2x24x6144 .f32 :=
  concatenate S2x24x6144 0 [⟨S1x24x6144, y0⟩, ⟨S1x24x6144, y1⟩] concatenates_S1x24x6144_S1x24x6144_S2x24x6144_d0

/-- One entry of a layer's rows. -/
theorem lay_apply (x : FVec Ideal S24x1024 .f32) (w : FVec Ideal S1x1024x6144 .f32) (b : FVec Ideal S1x6144 .f32) (r : Fin 24) (d : Fin 6144) :
    lay x w b (ix3 0 r d) = entry (fun k => x (ix2 r k)) (fun k => w (ix3 0 k d)) (b (ix2 0 d)) := by
  pointwise [lay, entry, gate]

/-- The first layer of two. -/
theorem cat_zero (y0 y1 : FVec Ideal S1x24x6144 .f32) (r : Fin 24) (d : Fin 6144) : cat y0 y1 (ix3 0 r d) = y0 (ix3 0 r d) := by
  pointwise! [cat]

/-- The second layer of two. -/
theorem cat_one (y0 y1 : FVec Ideal S1x24x6144 .f32) (r : Fin 24) (d : Fin 6144) : cat y0 y1 (ix3 1 r d) = y1 (ix3 0 r d) := by
  pointwise! [cat]

/-- The first layer's weights. -/
def w0 (w : FVec Ideal S2x1024x6144 .f32) : FVec Ideal S1x1024x6144 .f32 :=
  extractStridedSlice S1x1024x6144 ![0, 0, 0] w slices_S2x1024x6144_S1x1024x6144_0_0_0
/-- The second layer's weights. -/
def w1 (w : FVec Ideal S2x1024x6144 .f32) : FVec Ideal S1x1024x6144 .f32 :=
  extractStridedSlice S1x1024x6144 ![1, 0, 0] w slices_S2x1024x6144_S1x1024x6144_1_0_0
/-- The first layer's bias. -/
def b0 (b : FVec Ideal S2x6144 .f32) : FVec Ideal S1x6144 .f32 := extractStridedSlice S1x6144 ![0, 0] b slices_S2x6144_S1x6144_0_0
/-- The second layer's bias. -/
def b1 (b : FVec Ideal S2x6144 .f32) : FVec Ideal S1x6144 .f32 := extractStridedSlice S1x6144 ![1, 0] b slices_S2x6144_S1x6144_1_0

/-- One weight of the first layer. -/
theorem w0_apply (w : FVec Ideal S2x1024x6144 .f32) (k : Fin 1024) (d : Fin 6144) : w0 w (ix3 0 k d) = w (ix3 0 k d) := by
  pointwise [w0]
/-- One weight of the second layer. -/
theorem w1_apply (w : FVec Ideal S2x1024x6144 .f32) (k : Fin 1024) (d : Fin 6144) : w1 w (ix3 0 k d) = w (ix3 1 k d) := by
  pointwise [w1]
/-- One bias of the first layer. -/
theorem b0_apply (b : FVec Ideal S2x6144 .f32) (d : Fin 6144) : b0 b (ix2 0 d) = b (ix2 0 d) := by
  pointwise [b0]
/-- One bias of the second layer. -/
theorem b1_apply (b : FVec Ideal S2x6144 .f32) (d : Fin 6144) : b1 b (ix2 0 d) = b (ix2 1 d) := by
  pointwise [b1]

/-- The two layers' rows are the modulation array. -/
theorem rows_arr (x : FVec Ideal S24x1024 .f32) (w : FVec Ideal S2x1024x6144 .f32) (b : FVec Ideal S2x6144 .f32) :
    cat (lay x (w0 w) (b0 b)) (lay x (w1 w) (b1 b)) = arr x w b := by
  funext i
  obtain ⟨l, r, d, rfl⟩ : ∃ (l : Fin 2) (r : Fin 24) (d : Fin 6144), i = ix3 l r d := ⟨i 0, i 1, i 2, by funext a; fin_cases a <;> rfl⟩
  fin_cases l
  · refine (cat_zero _ _ r d).trans ((lay_apply _ _ _ r d).trans ?_)
    simp only [w0_apply, b0_apply]
    rfl
  · refine (cat_one _ _ r d).trans ((lay_apply _ _ _ r d).trans ?_)
    simp only [w1_apply, b1_apply]
    rfl

/-- The plain modulation's run: it ends with the modulation array and its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (rows_arr (m ((c.tc : Thread nD τ).loc main_arg0)) (m ((c.tc : Thread nD τ).loc main_arg1)) (m ((c.tc : Thread nD τ).loc main_arg2))), (h c).2⟩)
    (Value.run m ρ)

end

end Cert.Ada

end
-- ==== Proof.AdaFinal.lean ====
/- What the modulation call leaves in its result array. -/
module

public import proofs.«01_k».proof.Proof.Gen.Kernel5Ideal.Frame
public import proofs.«01_k».proof.Proof.AdaRef
public import Idealize.ShloMosaic.Lib.Claim

@[expose] public section

set_option maxRecDepth 16384

noncomputable section

namespace Cert.Ada

open Idealize.ShloMosaic Idealize.ShloMosaic.TcCoe Idealize.SL.Sem Cert.Kernel5Ideal Cert.Kernel5Ideal.Gen
open Idealize.ShloMosaic.Pipeline (Dat)

/-- The stored tile, element by element. -/
theorem pay_apply (x0 : FVec Ideal S24x1024 .f32) (x1 : FVec Ideal S1x1024x1024 .f32) (x2 : FVec Ideal S1x1x1024 .f32) (r : Fin 24) (d : Fin 1024) :
    k0_pay1 (F := Ideal) x0 x1 x2 (ix3 0 r d) = entry (fun k => x0 (ix2 r k)) (fun k => x1 (ix3 0 k d)) (x2 (ix3 0 0 d)) := by
  unfold entry
  simp only [← gate_eq]
  pointwise [k0_pay1]

/-- The result tile, element by element. -/
theorem out_apply (x0 : FVec Ideal S24x1024 .f32) (x1 : FVec Ideal S1x1024x1024 .f32) (x2 : FVec Ideal S1x1x1024 .f32) (r : Fin 24) (d : Fin 1024) :
    out0_3 (F := Ideal) x0 x1 x2 (ix3 0 r d) = entry (fun k => x0 (ix2 r k)) (fun k => x1 (ix3 0 k d)) (x2 (ix3 0 0 d)) := by
  unfold out0_3
  canon_tiles x h
  obtain rfl : x = ix3 0 r d := by
    funext i
    apply Fin.ext
    fin_cases i
    · have : ((x 0 : Fin _) : Nat) < 1 := x0_lt
      show ((x 0 : Fin _) : Nat) = 0
      omega
    · exact h1.symm
    · exact h2.symm
  rw [pay_apply]
  pointwise

variable (m : (ℓ : Loc nD τ sig) → Buf (Elt Ideal) ℓ)

/-- Where every window sits at grid point `t`. -/
theorem idx_val : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 12 :=
  (by decide +kernel : ∀ t : Fin grid0.N, _)

/-- The layer of grid point `t`. -/
def lt (t : Fin cfg0.N) : Fin 2 := ⟨t.val / 6, by have := (idx_val t).2.2.2.2; omega⟩
/-- The array column of column `d` of grid point `t`. -/
def ct (t : Fin cfg0.N) (d : Fin 1024) : Fin 6144 := ⟨1024 * (t.val % 6) + d.val, by omega⟩

/-- Input block 0 at grid point `t`. -/
def xb0 (c : Dev nD) (t : Fin cfg0.N) : FVec Ideal S24x1024 .f32 := iblk m c 0 t
/-- Input block 1 at grid point `t`. -/
def xb1 (c : Dev nD) (t : Fin cfg0.N) : FVec Ideal S1x1024x1024 .f32 := iblk m c 1 t
/-- Input block 2 at grid point `t`. -/
def xb2 (c : Dev nD) (t : Fin cfg0.N) : FVec Ideal S1x1x1024 .f32 := iblk m c 2 t
/-- The vectors. -/
def ar0 (c : Dev nD) : FVec Ideal Cert.Reference5Ideal.S24x1024 .f32 := m ((c : Thread nD τ).loc main_arg0)
/-- The weights. -/
def ar1 (c : Dev nD) : FVec Ideal Cert.Reference5Ideal.S2x1024x6144 .f32 := m ((c : Thread nD τ).loc main_arg1)
/-- The biases. -/
def ar2 (c : Dev nD) : FVec Ideal Cert.Reference5Ideal.S2x6144 .f32 := m ((c : Thread nD τ).loc main_arg2)

/-- The block of vectors. -/
theorem blk0 (c : Dev nD) (t : Fin cfg0.N) (r : Fin 24) (k : Fin 1024) : xb0 m c t (ix2 r k) = ar0 m c (ix2 r k) := by
  unfold xb0 ar0
  blk_point [iblk, V, idx_val t]
  all_goals omega

/-- The block of weights. -/
theorem blk1 (c : Dev nD) (t : Fin cfg0.N) (k d : Fin 1024) : xb1 m c t (ix3 0 k d) = ar1 m c (ix3 (lt t) k (ct t d)) := by
  unfold xb1 ar1
  blk_point [iblk, V, idx_val t]
  all_goals (simp only [lt, ct]; omega)

/-- The block of biases. -/
theorem blk2 (c : Dev nD) (t : Fin cfg0.N) (d : Fin 1024) : xb2 m c t (ix3 0 0 d) = ar2 m c (ix2 (lt t) (ct t d)) := by
  unfold xb2 ar2
  blk_point [iblk, V, idx_val t]
  all_goals (simp only [lt, ct]; omega)

/-- The array the call leaves. -/
def result (c : Dev nD) : FVec Ideal S2x24x6144 .f32 := arr (ar0 m c) (ar1 m c) (ar2 m c)

/-- Where a tile's element sits in the result array. -/
theorem emb3 (t : Fin cfg0.N) (r : Fin 24) (d : Fin 1024) : ((cfg0.win 3).blk t).view.emb (ix3 0 r d) = ix3 (lt t) r (ct t d) := by
  blk_ext [idx_val t]
  all_goals (simp only [lt, ct]; omega)

/-- What one grid point stores, at the array index it is stored to. -/
theorem point (c : Dev nD) (t : Fin cfg0.N) (y : S1x24x1024.Idx) :
    out0_3 (F := Ideal) (xb0 m c t) (xb1 m c t) (xb2 m c t) y = result m c (((cfg0.win 3).blk t).view.emb y) := by
  idx_vars y
  obtain rfl : y0 = 0 := Subsingleton.elim _ _
  refine (out_apply _ _ _ y1 y2).trans ?_
  refine Eq.trans ?_ (congrArg (result m c) (emb3 t y1 y2)).symm
  simp only [blk0, blk1, blk2]
  rfl

/-- The result array after the modulation call. -/
theorem final (c : Dev nD) : (dats m 0 c).arrAt 3 (cfgs 0).N = result m c := by
  refine (dats m 0 c).arrAt_eq_of_covers 3 _ (by decide +kernel) fun t _ y => ?_
  blk_simp
  rw [after0_3]
  exact point m c t y

end Cert.Ada

end
-- ==== Proof.AdaClaim.lean ====
/- The modulation call against the plain modulation. -/
module

public import proofs.«01_k».proof.Defs
public import proofs.«01_k».proof.Proof.AdaFinal

@[expose] public section

set_option maxRecDepth 16384

noncomputable section

namespace Cert.Ada

open Idealize.ShloMosaic Idealize.ShloMosaic.TcCoe Idealize.SL.Sem

/-- The modulation call agrees with the plain modulation. -/
theorem algebraic : Cert.algebraic_Kernel5Ideal_Reference5Ideal := by
  pair_intro
  · run_from Cert.Kernel5Ideal.Gen.run_main m g
  · run_from Cert.Ada.ref_run m' g'
    exact (Cert.Ada.final m c).symm

end Cert.Ada

end
-- ==== Proof.PostPay.lean ====
/- What the closing call's body computes, value by value, at a row of the tile. -/
module

public import proofs.«01_k».proof.Proof.Gen.Kernel2Ideal.Skeleton
public import proofs.«01_k».proof.Proof.PostRow

@[expose] public section

set_option maxRecDepth 16384

noncomputable section

namespace Cert.Post

open Idealize.ShloMosaic Idealize.ShloMosaic.TcCoe Cert.Kernel2Ideal Cert.Kernel2Ideal.Gen

/-- The output projection of the lower half's gated sum. -/
theorem pay14_apply (v53 : FVec Ideal S128x1024 .f32) (v54 : FVec Ideal S128x512 .bf16) (v56 : FVec Ideal S512x1024 .bf16)
    (z : FVec Ideal S128x1024 .f32) (v58 : FVec Ideal S1x128x1024 .bf16) (v67 : FVec Ideal S1x1024x1024 .bf16)
    (r : Fin 128) (d : Fin 1024) :
    k0_pay14 (F := Ideal) v53 v54 v56 z v58 v67 (ix2 r d)
      = mm (fun k => v53 (ix2 r k) + v58 (ix3 0 r k) * (z (ix2 r k) + mm (fun e => v54 (ix2 r e)) (fun e k => v56 (ix2 e k)) k))
          (fun k d => v67 (ix3 0 k d)) d := by
  pointwise! [k0_pay14, mm]

/-- The upper half's row after the first residual. -/
theorem pay15_apply (v1 : FVec Ideal S6x1024 .f32) (v9 : FVec Ideal S256x1024 .f32) (v36 : FVec Ideal S128x1024 .bf16)
    (v64 : FVec Ideal S1x1024x1024 .bf16) (v72 : FVec Ideal S1x1024 .f32) (r : Fin 128) (d : Fin 1024) :
    k0_pay15 (F := Ideal) v1 v9 v36 v64 v72 (ix2 r d)
      = res (fun d => v9 (ix2 ⟨r, by omega⟩ d)) (fun d => v1 (ix2 2 d))
          (mm (fun k => v36 (ix2 r k)) (fun k d => v64 (ix3 0 k d))) (fun d => v72 (ix2 0 d)) d := by
  pointwise! [k0_pay15, res, rms, mm]

/-- The lower half's row after the first residual. -/
theorem pay21_apply (y v89 : FVec Ideal S128x1024 .f32) (v90 v92 : FVec Ideal S1x1024 .f32)
    (v95 v96 : FVec Ideal S128x1 .f32) (r : Fin 128) (d : Fin 1024)
    (h95 : v95 (ix2 r 0) = ∑ e : Fin 1024, y (ix2 r e) * y (ix2 r e)) (h96 : v96 (ix2 r 0) = Ideal.ofBits .f32 0x44800000#32) :
    k0_pay21 (F := Ideal) y v89 v90 v92 v95 v96 (ix2 r d)
      = res (fun d => v89 (ix2 r d)) (fun d => v90 (ix2 0 d)) (fun d => y (ix2 r d)) (fun d => v92 (ix2 0 d)) d := by
  pointwise [k0_pay21, res, rms, h95, h96]

/-- The upper half's normalised and modulated row. -/
theorem pay22_apply (v1 : FVec Ideal S6x1024 .f32) (v88 : FVec Ideal S128x1024 .f32) (v108 : FVec Ideal S1x1024 .f32)
    (r : Fin 128) (d : Fin 1024) :
    k0_pay22 (F := Ideal) v1 v88 v108 (ix2 r d)
      = hid (fun d => v88 (ix2 r d)) (fun d => v108 (ix2 0 d)) (fun d => v1 (ix2 4 d)) (fun d => v1 (ix2 3 d)) d := by
  pointwise! [k0_pay22, hid, rms]

/-- The lower half's normalised row. -/
theorem pay23_apply (y v89 : FVec Ideal S128x1024 .f32) (v90 v92 : FVec Ideal S1x1024 .f32)
    (v95 v96 : FVec Ideal S128x1 .f32) (v131 : FVec Ideal S1x1024 .f32) (r : Fin 128) (d : Fin 1024) :
    k0_pay23 (F := Ideal) y v89 v90 v92 v95 v96 v131 (ix2 r d)
      = rms (fun d => k0_pay21 (F := Ideal) y v89 v90 v92 v95 v96 (ix2 r d)) (fun d => v131 (ix2 0 d)) d := by
  pointwise! [k0_pay23, rms]

/-- The upper half's MLP. -/
theorem pay24_apply (v130 : FVec Ideal S128x1024 .bf16) (v154 : FVec Ideal S1x1024x4096 .bf16)
    (v168 : FVec Ideal S1x4096x1024 .bf16) (r : Fin 128) (d : Fin 1024) :
    k0_pay24 (F := Ideal) v130 v154 v168 (ix2 r d)
      = mm (act (mm (fun d => v130 (ix2 r d)) (fun d k => v154 (ix3 0 d k)))) (fun k d => v168 (ix3 0 k d)) d := by
  pointwise! [k0_pay24, act, mm]

/-- The lower half's modulation and MLP. -/
theorem pay25_apply (v1 : FVec Ideal S6x1024 .f32) (v144 : FVec Ideal S128x1024 .f32) (v157 : FVec Ideal S1x1024x4096 .bf16)
    (v171 : FVec Ideal S1x4096x1024 .bf16) (r : Fin 128) (d : Fin 1024) :
    k0_pay25 (F := Ideal) v1 v144 v157 v171 (ix2 r d)
      = mm (act (mm (fun d => v144 (ix2 r d) * (1 + v1 (ix2 4 d)) + v1 (ix2 3 d)) (fun d k => v157 (ix3 0 d k))))
          (fun k d => v171 (ix3 0 k d)) d := by
  pointwise! [k0_pay25, act, mm]

/-- The lower half's result. -/
theorem pay2_apply (v1 : FVec Ideal S6x1024 .f32) (v107 v173 : FVec Ideal S128x1024 .f32) (v196 : FVec Ideal S1x1024 .f32)
    (r : Fin 128) (d : Fin 1024) :
    k0_pay2 (F := Ideal) v1 v107 v173 v196 (ix3 0 r d)
      = res (fun d => v107 (ix2 r d)) (fun d => v1 (ix2 5 d)) (fun d => v173 (ix2 r d)) (fun d => v196 (ix2 0 d)) d := by
  pointwise! [k0_pay2, res, rms]

/-- The upper half's result. -/
theorem pay1_apply (v88 v170 : FVec Ideal S128x1024 .f32) (v174 v176 : FVec Ideal S1x1024 .f32) (v181 : FVec Ideal S128x1 .f32)
    (r : Fin 128) (d : Fin 1024)
    (h : v181 (ix2 r 0) = Ideal.div (∑ e : Fin 1024, v170 (ix2 r e) * v170 (ix2 r e)) (Ideal.ofBits .f32 0x44800000#32)) :
    k0_pay1 (F := Ideal) v88 v170 v174 v176 v181 (ix3 0 r d)
      = res (fun d => v88 (ix2 r d)) (fun d => v174 (ix2 0 d)) (fun d => v170 (ix2 r d)) (fun d => v176 (ix2 0 d)) d := by
  pointwise [k0_pay1, res, rms, h]

end Cert.Post

end
-- ==== Proof.PostBlock.lean ====
/- What the closing call's body leaves in the output tile, row by row. -/
module

public import proofs.«01_k».proof.Proof.Gen.Kernel2Ideal.Frame
public import Idealize.ShloMosaic.Lib.Pipeline.ValueKit
public import proofs.«01_k».proof.Proof.PostPay

@[expose] public section

set_option maxRecDepth 16384

noncomputable section

namespace Cert.Post

open Idealize.ShloMosaic Idealize.ShloMosaic.TcCoe Cert.Kernel2Ideal Cert.Kernel2Ideal.Gen

variable (x0 : FVec Ideal S1x256x1024 .f32) (x1 : FVec Ideal S1x1x6x1024 .f32) (x2 x3 x4 : FVec Ideal S1x256x512 .bf16)
  (x5 : FVec Ideal S1x256x3072 .bf16) (x6 : FVec Ideal S1x3x512x1024 .bf16) (x7 : FVec Ideal S1x1024x1024 .bf16)
  (x8 x9 : FVec Ideal S1x1024 .f32) (x10 : FVec Ideal S1x1024x4096 .bf16) (x11 : FVec Ideal S1x4096x1024 .bf16)
  (x12 : FVec Ideal S1x1024 .f32)

/-- Row `r` of the tile after the first residual, from the blocks. -/
def tile1 (r : Fin 256) : Fin 1024 → EReal :=
  row1 (fun e => x0 (ix3 0 r e)) (fun i e => x1 (ix4 0 0 i e)) (fun e => x2 (ix3 0 r e)) (fun e => x3 (ix3 0 r e))
    (fun e => x4 (ix3 0 r e)) (fun z k => x5 (ix3 0 r ⟨1024 * z.val + k.val, by omega⟩)) (fun z e k => x6 (ix4 0 z e k))
    (fun k d => x7 (ix3 0 k d)) (fun d => x8 (ix2 0 d))

/-- Row `r` of the result tile, from the blocks. -/
def tile (r : Fin 256) : Fin 1024 → EReal :=
  res (tile1 x0 x1 x2 x3 x4 x5 x6 x7 x8 r) (fun e => x1 (ix4 0 0 5 e))
    (mlp (tile1 x0 x1 x2 x3 x4 x5 x6 x7 x8 r) (fun i e => x1 (ix4 0 0 i e)) (fun d => x9 (ix2 0 d))
      (fun d k => x10 (ix3 0 d k)) (fun k d => x11 (ix3 0 k d))) (fun d => x12 (ix2 0 d))

/-- The upper half after the first residual. -/
theorem upper1 (r : Fin 128) (d : Fin 1024) :
    k0_pay37 (F := Ideal) x0 x1 x2 x3 x4 x5 x6 x7 x8 x9 x10 x11 x12 (ix2 r d)
      = tile1 x0 x1 x2 x3 x4 x5 x6 x7 x8 ⟨r, by omega⟩ d := by
  unfold k0_pay37 k0_pay31 k0_pay30 k0_pay29
  rw [pay15_apply]
  pointwise [k0_pay10, k0_pay9, k0_pay8, k0_pay7, k0_pay6, k0_pay5, k0_pay4, k0_pay3, tile1, row1, tot, mm, res, rms]

/-- The lower half's projected branches. -/
theorem lowerY (r : Fin 128) (d : Fin 1024) :
    k0_pay36 (F := Ideal) x0 x1 x2 x3 x4 x5 x6 x7 x8 x9 x10 x11 x12 (ix2 r d)
      = mm (tot (fun e => x2 (ix3 0 ⟨128 + r, by omega⟩ e)) (fun e => x3 (ix3 0 ⟨128 + r, by omega⟩ e))
          (fun e => x4 (ix3 0 ⟨128 + r, by omega⟩ e)) (fun z k => x5 (ix3 0 ⟨128 + r, by omega⟩ ⟨1024 * z.val + k.val, by omega⟩))
          (fun z e k => x6 (ix4 0 z e k))) (fun k d => x7 (ix3 0 k d)) d := by
  unfold k0_pay36 k0_pay35 k0_pay34 k0_pay33 k0_pay32 k0_pay30
  rw [pay14_apply]
  pointwise [k0_pay13, k0_pay12, k0_pay11, k0_pay6, k0_pay5, k0_pay4, tot, mm]

/-- The lower half after the first residual. -/
theorem lower1 (r : Fin 128) (d : Fin 1024) :
    k0_pay21 (F := Ideal) (k0_pay36 x0 x1 x2 x3 x4 x5 x6 x7 x8 x9 x10 x11 x12)
        (k0_pay38 x0 x1 x2 x3 x4 x5 x6 x7 x8 x9 x10 x11 x12) (k0_pay39 x0 x1 x2 x3 x4 x5 x6 x7 x8 x9 x10 x11 x12)
        (k0_pay40 x0 x1 x2 x3 x4 x5 x6 x7 x8 x9 x10 x11 x12) (k0_pay41 x0 x1 x2 x3 x4 x5 x6 x7 x8 x9 x10 x11 x12)
        (k0_pay42 x0 x1 x2 x3 x4 x5 x6 x7 x8 x9 x10 x11 x12) (ix2 r d)
      = tile1 x0 x1 x2 x3 x4 x5 x6 x7 x8 ⟨128 + r, by omega⟩ d := by
  rw [pay21_apply]
  · simp only [lowerY]
    unfold k0_pay40 k0_pay39 k0_pay38 k0_pay31 k0_pay29
    pointwise [k0_pay18, k0_pay17, k0_pay16, k0_pay7, k0_pay3, tile1, row1, res, rms]
  · unfold k0_pay41 k0_pay36
    pointwise [k0_pay19]
  · unfold k0_pay42
    pointwise [k0_pay20]

/-- The upper half's modulated row. -/
theorem upper2 (r : Fin 128) (d : Fin 1024) :
    k0_pay43 (F := Ideal) x0 x1 x2 x3 x4 x5 x6 x7 x8 x9 x10 x11 x12 (ix2 r d)
      = hid (tile1 x0 x1 x2 x3 x4 x5 x6 x7 x8 ⟨r, by omega⟩) (fun d => x9 (ix2 0 d)) (fun e => x1 (ix4 0 0 4 e))
          (fun e => x1 (ix4 0 0 3 e)) d := by
  unfold k0_pay43 k0_pay29
  rw [pay22_apply]
  simp only [upper1]
  pointwise [k0_pay3, hid, rms]

/-- The upper half's MLP. -/
theorem upper3 (r : Fin 128) (d : Fin 1024) :
    k0_pay24 (F := Ideal) (k0_pay43 x0 x1 x2 x3 x4 x5 x6 x7 x8 x9 x10 x11 x12) (View.ld x10 r0_14) (View.ld x11 r0_15) (ix2 r d)
      = mlp (tile1 x0 x1 x2 x3 x4 x5 x6 x7 x8 ⟨r, by omega⟩) (fun i e => x1 (ix4 0 0 i e)) (fun d => x9 (ix2 0 d))
          (fun d k => x10 (ix3 0 d k)) (fun k d => x11 (ix3 0 k d)) d := by
  rw [pay24_apply]
  simp only [upper2]
  pointwise [mlp, act, mm]

/-- The lower half's MLP. -/
theorem lower3 (r : Fin 128) (d : Fin 1024) :
    k0_pay25 (F := Ideal) (k0_pay29 x0 x1 x2 x3 x4 x5 x6 x7 x8 x9 x10 x11 x12)
        (k0_pay23 (k0_pay36 x0 x1 x2 x3 x4 x5 x6 x7 x8 x9 x10 x11 x12)
          (k0_pay38 x0 x1 x2 x3 x4 x5 x6 x7 x8 x9 x10 x11 x12) (k0_pay39 x0 x1 x2 x3 x4 x5 x6 x7 x8 x9 x10 x11 x12)
          (k0_pay40 x0 x1 x2 x3 x4 x5 x6 x7 x8 x9 x10 x11 x12) (k0_pay41 x0 x1 x2 x3 x4 x5 x6 x7 x8 x9 x10 x11 x12)
          (k0_pay42 x0 x1 x2 x3 x4 x5 x6 x7 x8 x9 x10 x11 x12) (View.ld x9 r0_13))
        (View.ld x10 r0_14) (View.ld x11 r0_15) (ix2 r d)
      = mlp (tile1 x0 x1 x2 x3 x4 x5 x6 x7 x8 ⟨128 + r, by omega⟩) (fun i e => x1 (ix4 0 0 i e)) (fun d => x9 (ix2 0 d))
          (fun d k => x10 (ix3 0 d k)) (fun k d => x11 (ix3 0 k d)) d := by
  rw [pay25_apply]
  simp only [pay23_apply, lower1]
  unfold k0_pay29
  pointwise [k0_pay3, mlp, hid, rms, act, mm]

/-- The result tile, row by row. -/
theorem out_apply (r : Fin 256) (d : Fin 1024) :
    out0_13 (F := Ideal) x0 x1 x2 x3 x4 x5 x6 x7 x8 x9 x10 x11 x12 (ix3 0 r d)
      = tile x0 x1 x2 x3 x4 x5 x6 x7 x8 x9 x10 x11 x12 r d := by
  unfold out0_13
  canon_tiles x h
  · obtain ⟨s, hs⟩ : ∃ s : Fin 128, r.val = 128 + s.val := ⟨⟨x 1, x1_lt⟩, h1⟩
    obtain rfl : r = ⟨128 + s.val, Nat.add_lt_add_left s.isLt 128⟩ := Fin.ext hs
    obtain rfl : x = ix3 0 s d := by
      funext i
      apply Fin.ext
      fin_cases i
      · have : ((x 0 : Fin _) : Nat) < 1 := x0_lt
        show ((x 0 : Fin _) : Nat) = 0
        omega
      · exact (Nat.add_left_cancel h1).symm
      · exact h2.symm
    rw [pay2_apply]
    simp only [lower1, lower3]
    unfold k0_pay29
    pointwise [k0_pay3, tile, res, rms]
  · obtain ⟨s, hs⟩ : ∃ s : Fin 128, r.val = s.val := ⟨⟨x 1, x1_lt⟩, h1⟩
    obtain rfl : r = ⟨s.val, Nat.lt_trans s.isLt (by decide)⟩ := Fin.ext hs
    obtain rfl : x = ix3 0 s d := by
      funext i
      apply Fin.ext
      fin_cases i
      · have : ((x 0 : Fin _) : Nat) < 1 := x0_lt
        show ((x 0 : Fin _) : Nat) = 0
        omega
      · exact h1.symm
      · exact h2.symm
    rw [pay1_apply]
    · simp only [upper1, upper3]
      unfold k0_pay29
      pointwise [k0_pay27, k0_pay26, k0_pay3, tile, res, rms]
    · pointwise! [k0_pay28, k0_pay24]

end Cert.Post

end
-- ==== Proof.PostRef.lean ====
/- The plain closing layer, read row by row. -/
module

public import proofs.«01_k».proof.Proof.Gen.Reference2Ideal.Run
public import Idealize.ShloMosaic.Lib.Pipeline.ValueKit
public import proofs.«01_k».proof.Proof.PostRow

@[expose] public section

set_option maxRecDepth 16384

noncomputable section

namespace Cert.Post

open Idealize.ShloMosaic Idealize.ShloMosaic.TcCoe Idealize.ShloMosaic.Host Cert.Reference2Ideal Cert.Reference2Ideal.Value

/-- The array of the closing layer's result as a function of its operands. -/
def REF (X : FVec Ideal S16x2304x1024 .f32) (M : FVec Ideal S16x6144 .f32) (A : FVec Ideal S16x2048x512 .f32)
    (B : FVec Ideal S16x2304x512 .f32) (C : FVec Ideal S16x2048x512 .f32) (G : FVec Ideal S16x2304x3072 .f32)
    (W : FVec Ideal S2x3x512x1024 .f32) (WO : FVec Ideal S2x1024x1024 .f32) (GP GQ : FVec Ideal S2x1024 .f32)
    (W1 : FVec Ideal S2x1024x4096 .f32) (W2 : FVec Ideal S2x4096x1024 .f32) (GR : FVec Ideal S2x1024 .f32)
    (b : Fin 16) (n : Fin 2048) : Fin 1024 → EReal :=
  row (fun e => X (ix3 b ⟨256 + n, by omega⟩ e)) (fun i e => M (ix2 b ⟨1024 * i.val + e.val, by omega⟩))
    (fun e => A (ix3 b n e)) (fun e => B (ix3 b ⟨256 + n, by omega⟩ e)) (fun e => C (ix3 b n e))
    (fun z k => G (ix3 b ⟨256 + n, by omega⟩ ⟨1024 * z.val + k.val, by omega⟩)) (fun z e k => W (ix4 1 z e k))
    (fun k d => WO (ix3 1 k d)) (fun d => GP (ix2 1 d)) (fun d => GQ (ix2 1 d)) (fun d k => W1 (ix3 1 d k))
    (fun k d => W2 (ix3 1 k d)) (fun d => GR (ix2 1 d))

variable (V0 : Valuation τ sig (Elt Ideal))

/-- The projected branches. -/
def Y : FVec Ideal S16x2048x1024 .f32 := res_main_v23 V0
/-- The rows after the first residual. -/
def X1 : FVec Ideal S16x2048x1024 .f32 := res_main_v41 V0
/-- The clipped hidden layer. -/
def U : FVec Ideal S16x2048x4096 .f32 := res_main_v68 V0
/-- The MLP's output. -/
def O : FVec Ideal S16x2048x1024 .f32 := res_main_v70 V0

/-- The projected branches of one row. -/
theorem ref23 (b : Fin 16) (n : Fin 2048) (d : Fin 1024) :
    Y V0 (ix3 b n d)
      = mm (tot (fun e => V0 (Proc.devRef .tc main_arg3) (ix3 b n e)) (fun e => V0 (Proc.devRef .tc main_arg4) (ix3 b ⟨256 + n, by omega⟩ e))
          (fun e => V0 (Proc.devRef .tc main_arg5) (ix3 b n e))
          (fun z k => V0 (Proc.devRef .tc main_arg6) (ix3 b ⟨256 + n, by omega⟩ ⟨1024 * z.val + k.val, by omega⟩))
          (fun z e k => V0 (Proc.devRef .tc main_arg7) (ix4 1 z e k)))
        (fun k d => V0 (Proc.devRef .tc main_arg8) (ix3 1 k d)) d := by
  pointwise [Y, res_main_v23, mm, tot]
  refine Finset.sum_congr (M := EReal) rfl fun k _ => ?_
  refine congrArg (fun u : EReal => u * _) ?_
  rw [Fin.sum_univ_three]
  refine congrArg₂ (fun u v : EReal => u + v) (congrArg₂ (fun u v : EReal => u + v) ?_ ?_) ?_ <;>
    refine congrArg₂ (fun u v : EReal => u * v) ?_ (Finset.sum_congr (M := EReal) rfl fun e _ => mul_comm (G := EReal) _ _)
  · rw [show (⟨(0 : Fin 3).val * 1024 + k.val, by omega⟩ : Fin 3072) = ⟨k.val, by omega⟩ from Fin.ext (Nat.zero_add _)]
  · rfl
  · rfl

/-- The row after the first residual. -/
theorem ref41 (b : Fin 16) (n : Fin 2048) (d : Fin 1024) :
    X1 V0 (ix3 b n d)
      = res (fun e => V0 (Proc.devRef .tc main_arg0) (ix3 b ⟨256 + n, by omega⟩ e))
          (fun e => V0 (Proc.devRef .tc main_arg2) (ix2 b ⟨2048 + e.val, by omega⟩))
          (fun e => Y V0 (ix3 b n e)) (fun d => V0 (Proc.devRef .tc main_arg9) (ix2 1 d)) d := by
  pointwise! [X1, Y, res_main_v41, res_main_v1, res, rms]

/-- The hidden layer of one row. -/
theorem ref68 (b : Fin 16) (n : Fin 2048) (k : Fin 4096) :
    U V0 (ix3 b n k)
      = max (mm (hid (fun e => X1 V0 (ix3 b n e)) (fun d => V0 (Proc.devRef .tc main_arg10) (ix2 1 d))
          (fun e => V0 (Proc.devRef .tc main_arg2) (ix2 b ⟨4096 + e.val, by omega⟩))
          (fun e => V0 (Proc.devRef .tc main_arg2) (ix2 b ⟨3072 + e.val, by omega⟩)))
        (fun d k => V0 (Proc.devRef .tc main_arg11) (ix3 1 d k)) k) 0 := by
  pointwise! [U, X1, res_main_v68, res_main_v1, mm, hid, rms]

/-- The MLP of one row. -/
theorem ref70 (b : Fin 16) (n : Fin 2048) (d : Fin 1024) :
    O V0 (ix3 b n d)
      = mm (fun k => U V0 (ix3 b n k) * U V0 (ix3 b n k))
          (fun k d => V0 (Proc.devRef .tc main_arg12) (ix3 1 k d)) d := by
  pointwise! [O, U, res_main_v70, mm]

/-- The plain closing layer is the row function at every row. -/
theorem ref_apply (b : Fin 16) (n : Fin 2048) (d : Fin 1024) :
    (show FVec Ideal S16x2048x1024 .f32 from val2 V0 (Proc.devRef .tc main_v88)) (ix3 b n d)
      = REF (V0 (Proc.devRef .tc main_arg0)) (V0 (Proc.devRef .tc main_arg2)) (V0 (Proc.devRef .tc main_arg3))
          (V0 (Proc.devRef .tc main_arg4)) (V0 (Proc.devRef .tc main_arg5)) (V0 (Proc.devRef .tc main_arg6))
          (V0 (Proc.devRef .tc main_arg7)) (V0 (Proc.devRef .tc main_arg8)) (V0 (Proc.devRef .tc main_arg9))
          (V0 (Proc.devRef .tc main_arg10)) (V0 (Proc.devRef .tc main_arg11)) (V0 (Proc.devRef .tc main_arg12))
          (V0 (Proc.devRef .tc main_arg13)) b n d := by
  trans res (fun e => X1 V0 (ix3 b n e)) (fun e => V0 (Proc.devRef .tc main_arg2) (ix2 b ⟨5120 + e.val, by omega⟩))
    (fun e => O V0 (ix3 b n e)) (fun d => V0 (Proc.devRef .tc main_arg13) (ix2 1 d)) d
  · rw [val2_main_v88]
    pointwise! [X1, O, res_main_v1, res, rms]
  · simp only [ref70, ref68, ref41, ref23]
    rfl

end Cert.Post

end
-- ==== Proof.PostBlks.lean ====
/- Every block the closing call reads, at the array indices it sits at. -/
module

public import proofs.«01_k».proof.Proof.PostBlock
public import proofs.«01_k».proof.Proof.PostRef
public import Idealize.ShloMosaic.Lib.Claim

@[expose] public section

set_option maxRecDepth 16384

noncomputable section

namespace Cert.Post

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- Where every window sits at grid point `t`. -/
theorem idx_val : ∀ t : Fin cfg0.N, win0_0.index t = ![t.val / 8, t.val % 8 + 1, 0] ∧ win0_1.index t = ![t.val / 8, 1, 0, 0]
    ∧ win0_2.index t = ![t.val / 8, t.val % 8, 0] ∧ win0_3.index t = ![t.val / 8, t.val % 8 + 1, 0]
    ∧ win0_4.index t = ![t.val / 8, t.val % 8, 0] ∧ win0_5.index t = ![t.val / 8, t.val % 8 + 1, 0]
    ∧ win0_6.index t = ![1, 0, 0, 0] ∧ win0_7.index t = ![1, 0, 0] ∧ win0_8.index t = ![0, 0] ∧ win0_9.index t = ![0, 0]
    ∧ win0_10.index t = ![1, 0, 0] ∧ win0_11.index t = ![1, 0, 0] ∧ win0_12.index t = ![0, 0]
    ∧ win0_13.index t = ![t.val / 8, t.val % 8, 0] ∧ t.val < 128 :=
  (by decide +kernel : ∀ t : Fin grid0.N, _)

/-- The batch entry of grid point `t`. -/
def bt (t : Fin cfg0.N) : Fin 16 := ⟨t.val / 8, by have := (idx_val t).2.2.2.2.2.2.2.2.2.2.2.2.2.2; omega⟩
/-- The latent row of row `r` of grid point `t`. -/
def rt (t : Fin cfg0.N) (r : Fin 256) : Fin 2048 := ⟨256 * (t.val % 8) + r.val, by omega⟩
/-- The token of row `r` of grid point `t`. -/
def nt (t : Fin cfg0.N) (r : Fin 256) : Fin 2304 := ⟨256 + (rt t r).val, by omega⟩

/-- Input block 0 at grid point `t`. -/
def xb0 (c : Dev nD) (t : Fin cfg0.N) : FVec Ideal S1x256x1024 .f32 := iblk m c 0 t
/-- Operand 0 of the call. -/
def ar0 (c : Dev nD) : FVec Ideal Cert.Reference2Ideal.S16x2304x1024 .f32 := m ((c : Thread nD τ).loc main_arg0)
/-- Input block 1 at grid point `t`. -/
def xb1 (c : Dev nD) (t : Fin cfg0.N) : FVec Ideal S1x1x6x1024 .f32 := iblk m c 1 t
/-- Operand 2 of the call. -/
def ar2 (c : Dev nD) : FVec Ideal Cert.Reference2Ideal.S16x6144 .f32 := m ((c : Thread nD τ).loc main_arg2)
/-- Input block 2 at grid point `t`. -/
def xb2 (c : Dev nD) (t : Fin cfg0.N) : FVec Ideal S1x256x512 .bf16 := iblk m c 2 t
/-- Operand 3 of the call. -/
def ar3 (c : Dev nD) : FVec Ideal Cert.Reference2Ideal.S16x2048x512 .f32 := m ((c : Thread nD τ).loc main_arg3)
/-- Input block 3 at grid point `t`. -/
def xb3 (c : Dev nD) (t : Fin cfg0.N) : FVec Ideal S1x256x512 .bf16 := iblk m c 3 t
/-- Operand 4 of the call. -/
def ar4 (c : Dev nD) : FVec Ideal Cert.Reference2Ideal.S16x2304x512 .f32 := m ((c : Thread nD τ).loc main_arg4)
/-- Input block 4 at grid point `t`. -/
def xb4 (c : Dev nD) (t : Fin cfg0.N) : FVec Ideal S1x256x512 .bf16 := iblk m c 4 t
/-- Operand 5 of the call. -/
def ar5 (c : Dev nD) : FVec Ideal Cert.Reference2Ideal.S16x2048x512 .f32 := m ((c : Thread nD τ).loc main_arg5)
/-- Input block 5 at grid point `t`. -/
def xb5 (c : Dev nD) (t : Fin cfg0.N) : FVec Ideal S1x256x3072 .bf16 := iblk m c 5 t
/-- Operand 6 of the call. -/
def ar6 (c : Dev nD) : FVec Ideal Cert.Reference2Ideal.S16x2304x3072 .f32 := m ((c : Thread nD τ).loc main_arg6)
/-- Input block 6 at grid point `t`. -/
def xb6 (c : Dev nD) (t : Fin cfg0.N) : FVec Ideal S1x3x512x1024 .bf16 := iblk m c 6 t
/-- Operand 7 of the call. -/
def ar7 (c : Dev nD) : FVec Ideal Cert.Reference2Ideal.S2x3x512x1024 .f32 := m ((c : Thread nD τ).loc main_arg7)
/-- Input block 7 at grid point `t`. -/
def xb7 (c : Dev nD) (t : Fin cfg0.N) : FVec Ideal S1x1024x1024 .bf16 := iblk m c 7 t
/-- Operand 8 of the call. -/
def ar8 (c : Dev nD) : FVec Ideal Cert.Reference2Ideal.S2x1024x1024 .f32 := m ((c : Thread nD τ).loc main_arg8)
/-- Input block 8 at grid point `t`. -/
def xb8 (c : Dev nD) (t : Fin cfg0.N) : FVec Ideal S1x1024 .f32 := iblk m c 8 t
/-- Operand 9 of the call. -/
def ar9 (c : Dev nD) : FVec Ideal Cert.Reference2Ideal.S2x1024 .f32 := m ((c : Thread nD τ).loc main_arg9)
/-- Input block 9 at grid point `t`. -/
def xb9 (c : Dev nD) (t : Fin cfg0.N) : FVec Ideal S1x1024 .f32 := iblk m c 9 t
/-- Operand 10 of the call. -/
def ar10 (c : Dev nD) : FVec Ideal Cert.Reference2Ideal.S2x1024 .f32 := m ((c : Thread nD τ).loc main_arg10)
/-- Input block 10 at grid point `t`. -/
def xb10 (c : Dev nD) (t : Fin cfg0.N) : FVec Ideal S1x1024x4096 .bf16 := iblk m c 10 t
/-- Operand 11 of the call. -/
def ar11 (c : Dev nD) : FVec Ideal Cert.Reference2Ideal.S2x1024x4096 .f32 := m ((c : Thread nD τ).loc main_arg11)
/-- Input block 11 at grid point `t`. -/
def xb11 (c : Dev nD) (t : Fin cfg0.N) : FVec Ideal S1x4096x1024 .bf16 := iblk m c 11 t
/-- Operand 12 of the call. -/
def ar12 (c : Dev nD) : FVec Ideal Cert.Reference2Ideal.S2x4096x1024 .f32 := m ((c : Thread nD τ).loc main_arg12)
/-- Input block 12 at grid point `t`. -/
def xb12 (c : Dev nD) (t : Fin cfg0.N) : FVec Ideal S1x1024 .f32 := iblk m c 12 t
/-- Operand 13 of the call. -/
def ar13 (c : Dev nD) : FVec Ideal Cert.Reference2Ideal.S2x1024 .f32 := m ((c : Thread nD τ).loc main_arg13)

/-- The block of token rows. -/
theorem blk0 (c : Dev nD) (t : Fin cfg0.N) (r : Fin 256) (e : Fin 1024) :
    xb0 m c t (ix3 0 r e) = ar0 m c (ix3 (bt t) (nt t r) e) := by
  unfold xb0 ar0
  blk_point [iblk, V, idx_val t]
  all_goals (simp only [bt, rt, nt]; omega)

/-- The block of modulation rows. -/
theorem blk1 (c : Dev nD) (t : Fin cfg0.N) (i : Fin 6) (e : Fin 1024) :
    xb1 m c t (ix4 0 0 i e) = ar2 m c (ix2 (bt t) ⟨1024 * i.val + e.val, by omega⟩) := by
  unfold xb1 ar2
  have h : ((cfg0.win 1).blk t).view.emb (ix4 0 0 i e) = ix4 (bt t) 1 i e := by
    blk_ext [idx_val t]
    all_goals (simp only [bt]; omega)
  show V m c (Pipeline.arrRef spec0 1) (((cfg0.win 1).blk t).view.emb (ix4 0 0 i e)) = _
  rw [h]
  show V m c main_v3 _ = _
  entry_read
  pointwise
  exact congrArg (fun k : Fin 6144 => m ((c : Thread nD τ).loc main_arg2) (ix2 (bt t) k))
    (Fin.ext (by show i.val * 1024 + e.val = 1024 * i.val + e.val; omega))

/-- The block of the first branch. -/
theorem blk2 (c : Dev nD) (t : Fin cfg0.N) (r : Fin 256) (e : Fin 512) :
    xb2 m c t (ix3 0 r e) = ar3 m c (ix3 (bt t) (rt t r) e) := by
  unfold xb2 ar3
  blk_point [iblk, V, idx_val t]
  all_goals (simp only [bt, rt, nt]; omega)

/-- The block of the second branch. -/
theorem blk3 (c : Dev nD) (t : Fin cfg0.N) (r : Fin 256) (e : Fin 512) :
    xb3 m c t (ix3 0 r e) = ar4 m c (ix3 (bt t) (nt t r) e) := by
  unfold xb3 ar4
  blk_point [iblk, V, idx_val t]
  all_goals (simp only [bt, rt, nt]; omega)

/-- The block of the third branch. -/
theorem blk4 (c : Dev nD) (t : Fin cfg0.N) (r : Fin 256) (e : Fin 512) :
    xb4 m c t (ix3 0 r e) = ar5 m c (ix3 (bt t) (rt t r) e) := by
  unfold xb4 ar5
  blk_point [iblk, V, idx_val t]
  all_goals (simp only [bt, rt, nt]; omega)

/-- The block of gates. -/
theorem blk5 (c : Dev nD) (t : Fin cfg0.N) (r : Fin 256) (e : Fin 3072) :
    xb5 m c t (ix3 0 r e) = ar6 m c (ix3 (bt t) (nt t r) e) := by
  unfold xb5 ar6
  blk_point [iblk, V, idx_val t]
  all_goals (simp only [bt, rt, nt]; omega)

/-- The branch weights. -/
theorem blk6 (c : Dev nD) (t : Fin cfg0.N) (z : Fin 3) (e : Fin 512) (d : Fin 1024) :
    xb6 m c t (ix4 0 z e d) = ar7 m c (ix4 1 z e d) := by
  unfold xb6 ar7
  blk_point [iblk, V, idx_val t]

/-- The output weights. -/
theorem blk7 (c : Dev nD) (t : Fin cfg0.N) (e d : Fin 1024) :
    xb7 m c t (ix3 0 e d) = ar8 m c (ix3 1 e d) := by
  unfold xb7 ar8
  blk_point [iblk, V, idx_val t]

/-- The gain after the attention. -/
theorem blk8 (c : Dev nD) (t : Fin cfg0.N) (d : Fin 1024) :
    xb8 m c t (ix2 0 d) = ar9 m c (ix2 1 d) := by
  unfold xb8 ar9
  blk_point [iblk, V, idx_val t]

/-- The gain before the MLP. -/
theorem blk9 (c : Dev nD) (t : Fin cfg0.N) (d : Fin 1024) :
    xb9 m c t (ix2 0 d) = ar10 m c (ix2 1 d) := by
  unfold xb9 ar10
  blk_point [iblk, V, idx_val t]

/-- The first MLP weights. -/
theorem blk10 (c : Dev nD) (t : Fin cfg0.N) (d : Fin 1024) (k : Fin 4096) :
    xb10 m c t (ix3 0 d k) = ar11 m c (ix3 1 d k) := by
  unfold xb10 ar11
  blk_point [iblk, V, idx_val t]

/-- The second MLP weights. -/
theorem blk11 (c : Dev nD) (t : Fin cfg0.N) (k : Fin 4096) (d : Fin 1024) :
    xb11 m c t (ix3 0 k d) = ar12 m c (ix3 1 k d) := by
  unfold xb11 ar12
  blk_point [iblk, V, idx_val t]

/-- The gain after the MLP. -/
theorem blk12 (c : Dev nD) (t : Fin cfg0.N) (d : Fin 1024) :
    xb12 m c t (ix2 0 d) = ar13 m c (ix2 1 d) := by
  unfold xb12 ar13
  blk_point [iblk, V, idx_val t]

end Cert.Post

end
-- ==== Proof.PostFinal.lean ====
/- The closing call's result array is the plain closing layer's. -/
module

public import proofs.«01_k».proof.Proof.PostBlks

@[expose] public section

set_option maxRecDepth 16384

noncomputable section

namespace Cert.Post

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- The row function depends on the blocks only through the entries read. -/
theorem tile_congr {x0 : FVec Ideal S1x256x1024 .f32} {x1 : FVec Ideal S1x1x6x1024 .f32} {x2 x3 x4 : FVec Ideal S1x256x512 .bf16}
    {x5 : FVec Ideal S1x256x3072 .bf16} {x6 : FVec Ideal S1x3x512x1024 .bf16} {x7 : FVec Ideal S1x1024x1024 .bf16}
    {x8 x9 : FVec Ideal S1x1024 .f32} {x10 : FVec Ideal S1x1024x4096 .bf16} {x11 : FVec Ideal S1x4096x1024 .bf16}
    {x12 : FVec Ideal S1x1024 .f32} {r : Fin 256} {d : Fin 1024} {f0 : Fin 1024 → EReal} {f1 : Fin 6 → Fin 1024 → EReal}
    {f2 f3 f4 : Fin 512 → EReal} {f5 : Fin 3072 → EReal} {f6 : Fin 3 → Fin 512 → Fin 1024 → EReal}
    {f7 : Fin 1024 → Fin 1024 → EReal} {f8 f9 f12 : Fin 1024 → EReal} {f10 : Fin 1024 → Fin 4096 → EReal}
    {f11 : Fin 4096 → Fin 1024 → EReal}
    (h0 : ∀ e, x0 (ix3 0 r e) = f0 e) (h1 : ∀ i e, x1 (ix4 0 0 i e) = f1 i e) (h2 : ∀ e, x2 (ix3 0 r e) = f2 e)
    (h3 : ∀ e, x3 (ix3 0 r e) = f3 e) (h4 : ∀ e, x4 (ix3 0 r e) = f4 e) (h5 : ∀ e, x5 (ix3 0 r e) = f5 e)
    (h6 : ∀ z e d, x6 (ix4 0 z e d) = f6 z e d) (h7 : ∀ e d, x7 (ix3 0 e d) = f7 e d) (h8 : ∀ d, x8 (ix2 0 d) = f8 d)
    (h9 : ∀ d, x9 (ix2 0 d) = f9 d) (h10 : ∀ d k, x10 (ix3 0 d k) = f10 d k) (h11 : ∀ k d, x11 (ix3 0 k d) = f11 k d)
    (h12 : ∀ d, x12 (ix2 0 d) = f12 d) :
    tile x0 x1 x2 x3 x4 x5 x6 x7 x8 x9 x10 x11 x12 r d
      = row f0 f1 f2 f3 f4 (fun z k => f5 ⟨1024 * z.val + k.val, by omega⟩) f6 f7 f8 f9 f10 f11 f12 d := by
  simp only [tile, tile1, row, h0, h1, h2, h3, h4, h5, h6, h7, h8, h9, h10, h11, h12]

/-- The row function of the blocks is the plain layer's row. -/
theorem blocks (c : Dev nD) (t : Fin cfg0.N) (r : Fin 256) (d : Fin 1024) :
    tile (xb0 m c t) (xb1 m c t) (xb2 m c t) (xb3 m c t) (xb4 m c t) (xb5 m c t) (xb6 m c t) (xb7 m c t) (xb8 m c t) (xb9 m c t) (xb10 m c t) (xb11 m c t) (xb12 m c t) r d
      = REF (ar0 m c) (ar2 m c) (ar3 m c) (ar4 m c) (ar5 m c) (ar6 m c) (ar7 m c) (ar8 m c) (ar9 m c) (ar10 m c) (ar11 m c) (ar12 m c) (ar13 m c) (bt t) (rt t r) d :=
  (tile_congr (blk0 m c t r) (blk1 m c t) (blk2 m c t r) (blk3 m c t r) (blk4 m c t r) (blk5 m c t r) (blk6 m c t)
    (blk7 m c t) (blk8 m c t) (blk9 m c t) (blk10 m c t) (blk11 m c t) (blk12 m c t)).trans rfl

/-- The array the closing call leaves, as a function of its operands. -/
def result (c : Dev nD) : FVec Ideal S16x2048x1024 .f32 := fun i => REF (ar0 m c) (ar2 m c) (ar3 m c) (ar4 m c) (ar5 m c) (ar6 m c) (ar7 m c) (ar8 m c) (ar9 m c) (ar10 m c) (ar11 m c) (ar12 m c) (ar13 m c) (i 0) (i 1) (i 2)

/-- Where row `r` of grid point `t`'s block sits in the result array. -/
theorem emb13 (t : Fin cfg0.N) (r : Fin 256) (d : Fin 1024) :
    ((cfg0.win 13).blk t).view.emb (ix3 0 r d) = ix3 (bt t) (rt t r) d := by
  blk_ext [idx_val t]
  all_goals (simp only [bt, rt]; omega)

/-- What one grid point stores, at the array index it is stored to. -/
theorem point (c : Dev nD) (t : Fin cfg0.N) (y : S1x256x1024.Idx) :
    out0_13 (F := Ideal) (xb0 m c t) (xb1 m c t) (xb2 m c t) (xb3 m c t) (xb4 m c t) (xb5 m c t) (xb6 m c t) (xb7 m c t) (xb8 m c t) (xb9 m c t) (xb10 m c t) (xb11 m c t) (xb12 m c t) y
      = result m c (((cfg0.win 13).blk t).view.emb y) := by
  idx_vars y
  obtain rfl : y0 = 0 := Subsingleton.elim _ _
  refine (out_apply _ _ _ _ _ _ _ _ _ _ _ _ _ y1 y2).trans ((blocks m c t y1 y2).trans ?_)
  exact (congrArg (result m c) (emb13 t y1 y2)).symm

/-- The result array after the closing call. -/
theorem final (c : Dev nD) : (dats m 0 c).arrAt 13 (cfgs 0).N = result m c := by
  refine (dats m 0 c).arrAt_eq_of_covers 13 _ (by decide +kernel) fun t _ y => ?_
  blk_simp
  rw [after0_13]
  exact point m c t y

end Cert.Post

end
-- ==== Proof.PostClaim.lean ====
/- The closing call against the plain closing layer. -/
module

public import proofs.«01_k».proof.Defs
public import proofs.«01_k».proof.Proof.PostFinal

@[expose] public section

set_option maxRecDepth 16384

noncomputable section

namespace Cert.Post

open Idealize.ShloMosaic Idealize.ShloMosaic.TcCoe Idealize.SL.Sem

section

open Cert.Reference2Ideal Cert.Reference2Ideal.Gen Cert.Reference2Ideal.Value Idealize.ShloMosaic.StableHlo

/-- The plain closing layer's run: it ends with the row function's array and its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88) = (fun i : S16x2048x1024.Idx => REF (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ⟨(h c).1.trans ((val2_main_v88 (launchContents m c)).symm.trans ?_), (h c).2⟩)
    (Value.run m ρ)
  funext i
  obtain ⟨b, n, d, rfl⟩ : ∃ (b : Fin 16) (n : Fin 2048) (d : Fin 1024), i = ix3 b n d :=
    ⟨i 0, i 1, i 2, by funext a; fin_cases a <;> rfl⟩
  exact ref_apply (launchContents m c) b n d

end

/-- The closing call agrees with the plain closing layer. -/
theorem algebraic : Cert.algebraic_Kernel2Ideal_Reference2Ideal := by
  pair_intro
  · run_from Cert.Kernel2Ideal.Gen.run_main m g
  · run_from Cert.Post.ref_run m' g'
    exact (Cert.Post.final m c).symm

end Cert.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal
public import proofs.«01_k».proof.Proof.AttnClaim
public import proofs.«01_k».proof.Proof.CloseClaim
public import proofs.«01_k».proof.Proof.CtxClaim
public import proofs.«01_k».proof.Proof.AdaClaim
public import proofs.«01_k».proof.Proof.PostClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_ctx
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite_ctx.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m g _ => (θ_run Cert.ReferenceIdeal.defs _ _).mono (fun r h => ⟨fun c => (h c).2.2, sem_eq_zero_of_no_sems (by decide) r.2⟩)
      (Cert.ReferenceIdeal.Value.run (F := Ideal) m g)
  · exact fun m g _ => (θ_run Cert.ReferenceIdeal.defs _ _).mono (fun r h => ⟨fun c => (h c).2.2, sem_eq_zero_of_no_sems (by decide) r.2⟩)
      (Cert.ReferenceIdeal.Value.run (F := Ideal) m g)
  · exact fun m ρ _ => Cert.Kernel2.Gen.frame m ρ
  · exact fun m ρ _ => Cert.Kernel2Ideal.Gen.frame m ρ
  · exact fun m g _ => (θ_run Cert.Reference2Ideal.defs _ _).mono (fun r h => ⟨fun c => (h c).2, sem_eq_zero_of_no_sems (by decide) r.2⟩)
      (Cert.Reference2Ideal.Value.run (F := Ideal) m g)
  · exact fun m ρ _ => Cert.Kernel3.Gen.frame m ρ
  · exact fun m ρ _ => Cert.Kernel3Ideal.Gen.frame m ρ
  · exact fun m g _ => (θ_run Cert.Reference3Ideal.defs _ _).mono (fun r h => ⟨fun c => (h c).2, sem_eq_zero_of_no_sems (by decide) r.2⟩)
      (Cert.Reference3Ideal.Value.run (F := Ideal) m g)
  · exact fun m ρ _ => Cert.Kernel4.Gen.frame m ρ
  · exact fun m ρ _ => Cert.Kernel4Ideal.Gen.frame m ρ
  · exact fun m ρ _ => Cert.Kernel4Ideal.Gen.frame m ρ
  · exact fun m g _ => (θ_run Cert.Reference4Ideal.defs _ _).mono (fun r h => ⟨fun c => (h c).2.2, sem_eq_zero_of_no_sems (by decide) r.2⟩)
      (Cert.Reference4Ideal.Value.run (F := Ideal) m g)
  · exact fun m g _ => (θ_run Cert.Reference4Ideal.defs _ _).mono (fun r h => ⟨fun c => (h c).2.2, sem_eq_zero_of_no_sems (by decide) r.2⟩)
      (Cert.Reference4Ideal.Value.run (F := Ideal) m g)
  · exact fun m ρ _ => Cert.Kernel5.Gen.frame m ρ
  · exact fun m ρ _ => Cert.Kernel5Ideal.Gen.frame m ρ
  · exact fun m g _ => (θ_run Cert.Reference5Ideal.defs _ _).mono (fun r h => ⟨fun c => (h c).2, sem_eq_zero_of_no_sems (by decide) r.2⟩)
      (Cert.Reference5Ideal.Value.run (F := Ideal) m g)
  · trivial
  · exact Cert.Attn.algebraic
  · trivial
  · exact Cert.Post.algebraic
  · trivial
  · exact Cert.Close.algebraic
  · trivial
  · exact Cert.AttnCtx.algebraic
  · trivial
  · exact Cert.Ada.algebraic⟩

end Cert.Proof

end
